-- ==== Defs.lean ====
def Pre_Kernel [hPre_requires : Cert.Pre_requires.Facts] (m : (ℓ : Loc Cert.Kernel.nD Cert.Kernel.τ Cert.Kernel.sig) → Buf (Elt Bits) ℓ) : Prop :=
  ∀ c : Dev Cert.Kernel.nD,
    (Cert.Pre_requires.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_requires : Cert.Pre_requires.Facts] (m : (ℓ : Loc Cert.KernelIdeal.nD Cert.KernelIdeal.τ Cert.KernelIdeal.sig) → Buf (Elt Ideal) ℓ) : Prop :=
  ∀ c : Dev Cert.KernelIdeal.nD,
    (Cert.Pre_requires.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_requires : Cert.Pre_requires.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_requires.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_requires : Cert.Pre_requires.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_requires : Cert.Pre_requires.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_requires : Cert.Pre_requires.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_requires : Cert.Pre_requires.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_v102) = v3 c
          ∧ r.2.mem ((c.tc : Thread Cert.Reference2Ideal.nD Cert.Reference2Ideal.τ).loc Cert.Reference2Ideal.main_v104) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_requires : Cert.Pre_requires.Facts),
    quiescent_Kernel (hKernel := hKernel) (hPre_requires := hPre_requires)
    ∧ quiescent_KernelIdeal (hKernelIdeal := hKernelIdeal) (hPre_requires := hPre_requires)
    ∧ quiescent_ReferenceIdeal (hReferenceIdeal := hReferenceIdeal) (hPre_requires := hPre_requires)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_requires := hPre_requires)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_requires.lean ====
abbrev S671744x128 : Shape := ⟨2, ![671744, 128]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S671744x128 .f32) (main_arg1 : IVec S32 32) (main_arg2 : FVec F S2x32x1024x2048 .f32) (main_arg3 : FVec F S2x32x2048 .f32) (main_arg4 : FVec F S2x32x1024x1024 .f32) (main_arg5 : FVec F S2x32x1024 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 67584#32
  let main_v3 : IVec S32 32 := broadcastInDim S32 ![] bcast_S_S32 main_c_1
  let main_v4 : IVec S32 1 := cmpi .sle main_arg1 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg1 main_c_3
  let main_c_4 : IVec S_ 32 := constantI S_ 32 67584#32
  let main_v8 : IVec S_ 1 := cmpi .eq main_v7 main_c_4
  let main_v9 : IVec S_ 1 := andi main_v6 main_v8
  main_v9
-- ==== Kernel.lean ====
abbrev S671744x128 : Shape := ⟨2, ![671744, 128]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S164 : Shape := ⟨1, ![164]⟩
abbrev S1x32 : Shape := ⟨2, ![1, 32]⟩
abbrev S164x1 : Shape := ⟨2, ![164, 1]⟩
abbrev S164x32 : Shape := ⟨2, ![164, 32]⟩
abbrev S1 : Shape := ⟨1, ![1]⟩
abbrev S163 : Shape := ⟨1, ![163]⟩
abbrev S32x1 : Shape := ⟨2, ![32, 1]⟩
abbrev S32x32 : Shape := ⟨2, ![32, 32]⟩
abbrev S64x1x2048 : Shape := ⟨3, ![64, 1, 2048]⟩
abbrev S64x1x1024 : Shape := ⟨3, ![64, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S1x1024x2048 : Shape := ⟨3, ![1, 1024, 2048]⟩
abbrev S1x1x1024x2048 : Shape := ⟨4, ![1, 1, 1024, 2048]⟩
abbrev S1x1024x1024 : Shape := ⟨3, ![1, 1024, 1024]⟩
abbrev S1x1x1024x1024 : Shape := ⟨4, ![1, 1, 1024, 1024]⟩
abbrev S128x128 : Shape := ⟨2, ![128, 128]⟩
abbrev S128x1024 : Shape := ⟨2, ![128, 1024]⟩
abbrev S128x2048 : Shape := ⟨2, ![128, 2048]⟩
abbrev S1x2048 : Shape := ⟨2, ![1, 2048]⟩
abbrev S1x1024 : Shape := ⟨2, ![1, 1024]⟩
abbrev S1024x128 : Shape := ⟨2, ![1024, 128]⟩
abbrev S3072x128 : Shape := ⟨2, ![3072, 128]⟩
abbrev S256x128 : Shape := ⟨2, ![256, 128]⟩
abbrev S256x1024 : Shape := ⟨2, ![256, 1024]⟩
abbrev S256x2048 : Shape := ⟨2, ![256, 2048]⟩
abbrev S2048x128 : Shape := ⟨2, ![2048, 128]⟩
abbrev S384x128 : Shape := ⟨2, ![384, 128]⟩
abbrev S384x1024 : Shape := ⟨2, ![384, 1024]⟩
abbrev S384x2048 : Shape := ⟨2, ![384, 2048]⟩
abbrev S512x128 : Shape := ⟨2, ![512, 128]⟩
abbrev S512x1024 : Shape := ⟨2, ![512, 1024]⟩
abbrev S512x2048 : Shape := ⟨2, ![512, 2048]⟩

abbrev nBuf : Space → Nat
  | .hbm => 170
  | .vmem => 12
  | .smem => 6
  | _ => 0

abbrev hbmTy0_0 (i : Nat) : BufTy := match i % 128 with
  | 0 => ⟨S671744x128, .f32⟩
  | 1 => ⟨S32, .i32⟩
  | 2 => ⟨S2x32x1024x2048, .f32⟩
  | 3 => ⟨S2x32x2048, .f32⟩
  | 4 => ⟨S2x32x1024x1024, .f32⟩
  | 5 => ⟨S2x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S32, .i32⟩
  | 37 => ⟨S164, .i32⟩
  | 38 => ⟨S_, .i32⟩
  | 39 => ⟨S164, .i32⟩
  | 40 => ⟨S164, .i32⟩
  | 41 => ⟨S1x32, .i32⟩
  | 42 => ⟨S164x1, .i32⟩
  | 43 => ⟨S164x32, .i32⟩
  | 44 => ⟨S164x32, .i32⟩
  | 45 => ⟨S164x32, .i1⟩
  | 46 => ⟨S164x32, .i32⟩
  | 47 => ⟨S_, .i32⟩
  | 48 => ⟨S164, .i32⟩
  | 49 => ⟨S_, .i32⟩
  | 50 => ⟨S164, .i32⟩
  | 51 => ⟨S1, .i32⟩
  | 52 => ⟨S_, .i32⟩
  | 53 => ⟨S_, .i32⟩
  | 54 => ⟨S1, .i32⟩
  | 55 => ⟨S1, .i32⟩
  | 56 => ⟨S1, .i32⟩
  | 57 => ⟨S_, .i32⟩
  | 58 => ⟨S1, .i32⟩
  | 59 => ⟨S1, .i1⟩
  | 60 => ⟨S1, .i32⟩
  | 61 => ⟨S1, .i32⟩
  | 62 => ⟨S_, .i32⟩
  | 63 => ⟨S1, .i32⟩
  | 64 => ⟨S1, .i1⟩
  | 65 => ⟨S1, .i1⟩
  | 66 => ⟨S_, .i32⟩
  | 67 => ⟨S1, .i32⟩
  | 68 => ⟨S1, .i32⟩
  | 69 => ⟨S32, .i32⟩
  | 70 => ⟨S164, .i32⟩
  | 71 => ⟨S_, .i32⟩
  | 72 => ⟨S164, .i32⟩
  | 73 => ⟨S164, .i1⟩
  | 74 => ⟨S_, .i1⟩
  | 75 => ⟨S1, .i1⟩
  | 76 => ⟨S163, .i32⟩
  | 77 => ⟨S163, .i32⟩
  | 78 => ⟨S163, .i1⟩
  | 79 => ⟨S164, .i1⟩
  | 80 => ⟨S164, .i1⟩
  | 81 => ⟨S_, .i32⟩
  | 82 => ⟨S_, .i32⟩
  | 83 => ⟨S164, .i32⟩
  | 84 => ⟨S_, .i32⟩
  | 85 => ⟨S164, .i32⟩
  | 86 => ⟨S164, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S164, .i32⟩
  | 94 => ⟨S164, .i32⟩
  | 95 => ⟨S_, .i32⟩
  | 96 => ⟨S164, .i32⟩
  | 97 => ⟨S164, .i1⟩
  | 98 => ⟨S_, .i32⟩
  | 99 => ⟨S164, .i32⟩
  | 100 => ⟨S164, .i1⟩
  | 101 => ⟨S_, .i32⟩
  | 102 => ⟨S_, .i1⟩
  | 103 => ⟨S164, .i1⟩
  | 104 => ⟨S164, .i1⟩
  | 105 => ⟨S164, .i1⟩
  | 106 => ⟨S164, .i32⟩
  | 107 => ⟨S164, .i32⟩
  | 108 => ⟨S32, .i32⟩
  | 109 => ⟨S1x32, .i32⟩
  | 110 => ⟨S32x1, .i32⟩
  | 111 => ⟨S32x32, .i32⟩
  | 112 => ⟨S32x32, .i32⟩
  | 113 => ⟨S32x32, .i1⟩
  | 114 => ⟨S_, .i32⟩
  | 115 => ⟨S32, .i32⟩
  | 116 => ⟨S32, .i1⟩
  | 117 => ⟨S1x32, .i1⟩
  | 118 => ⟨S32x32, .i1⟩
  | 119 => ⟨S32x32, .i1⟩
  | 120 => ⟨S1x32, .i32⟩
  | 121 => ⟨S_, .i32⟩
  | 122 => ⟨S_, .i32⟩
  | 123 => ⟨S32x32, .i32⟩
  | 124 => ⟨S32x32, .i32⟩
  | 125 => ⟨S32x32, .i32⟩
  | 126 => ⟨S_, .i32⟩
  | 127 => ⟨S32, .i32⟩
  | _ => ⟨S671744x128, .f32⟩

abbrev hbmTy0_1 (i : Nat) : BufTy := match i % 128 with
  | 0 => ⟨S164x1, .i32⟩
  | 1 => ⟨S1x32, .i32⟩
  | 2 => ⟨S164x32, .i32⟩
  | 3 => ⟨S164x32, .i32⟩
  | 4 => ⟨S164x32, .i1⟩
  | 5 => ⟨S_, .i32⟩
  | 6 => ⟨S32, .i32⟩
  | 7 => ⟨S32, .i1⟩
  | 8 => ⟨S_, .i32⟩
  | 9 => ⟨S_, .i32⟩
  | 10 => ⟨S32, .i32⟩
  | 11 => ⟨S32, .i32⟩
  | 12 => ⟨S1x32, .i32⟩
  | 13 => ⟨S_, .i32⟩
  | 14 => ⟨S_, .i32⟩
  | 15 => ⟨S164x32, .i32⟩
  | 16 => ⟨S164x32, .i32⟩
  | 17 => ⟨S164x32, .i32⟩
  | 18 => ⟨S_, .i32⟩
  | 19 => ⟨S164, .i32⟩
  | 20 => ⟨S_, .i32⟩
  | 21 => ⟨S164, .i32⟩
  | 22 => ⟨S164, .i32⟩
  | 23 => ⟨S1x32, .i32⟩
  | 24 => ⟨S_, .i32⟩
  | 25 => ⟨S_, .i32⟩
  | 26 => ⟨S164x32, .i32⟩
  | 27 => ⟨S164x32, .i32⟩
  | 28 => ⟨S164x32, .i32⟩
  | 29 => ⟨S_, .i32⟩
  | 30 => ⟨S164, .i32⟩
  | 31 => ⟨S164, .i32⟩
  | 32 => ⟨S_, .i32⟩
  | 33 => ⟨S_, .i32⟩
  | 34 => ⟨S_, .i32⟩
  | 35 => ⟨S164, .i32⟩
  | 36 => ⟨S164, .i32⟩
  | 37 => ⟨S_, .i32⟩
  | 38 => ⟨S164, .i32⟩
  | 39 => ⟨S64x1x2048, .f32⟩
  | 40 => ⟨S64x1x1024, .f32⟩
  | 41 => ⟨S671744x128, .f32⟩
  | _ => ⟨S671744x128, .f32⟩

abbrev hbmTy (i : Nat) : BufTy := match i / 128 with
  | 0 => hbmTy0_0 i
  | 1 => hbmTy0_1 i
  | _ => ⟨S671744x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S164, .i32⟩
  | .local _ .smem, ⟨1, _⟩ => ⟨S1, .i32⟩
  | .local _ .smem, ⟨2, _⟩ => ⟨S164, .i32⟩
  | .local _ .smem, ⟨3, _⟩ => ⟨S164, .i32⟩
  | .local _ .smem, ⟨4, _⟩ => ⟨S164, .i32⟩
  | .local _ .smem, ⟨5, _⟩ => ⟨S164, .i32⟩
  | _, _ => ⟨S671744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v21 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_7 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call3_call0_c : Ref sig .tc := ⟨.hbm, 81, rfl⟩
abbrev main_call3_call0_v0 : Ref sig .tc := ⟨.hbm, 82, rfl⟩
abbrev main_v35 : Ref sig .tc := ⟨.hbm, 83, rfl⟩
abbrev main_c_8 : Ref sig .tc := ⟨.hbm, 84, rfl⟩
abbrev main_v36 : Ref sig .tc := ⟨.hbm, 85, rfl⟩
abbrev main_v37 : Ref sig .tc := ⟨.hbm, 86, rfl⟩
abbrev main_c_9 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_c_10 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_c_11 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v51 : Ref sig .tc := ⟨.hbm, 125, rfl⟩
abbrev main_c_12 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_c_13 : Ref sig .tc := ⟨.hbm, 133, rfl⟩
abbrev main_v58 : Ref sig .tc := ⟨.hbm, 134, rfl⟩
abbrev main_v59 : Ref sig .tc := ⟨.hbm, 135, rfl⟩
abbrev main_c_14 : Ref sig .tc := ⟨.hbm, 136, rfl⟩
abbrev main_call6_v0 : Ref sig .tc := ⟨.hbm, 137, rfl⟩
abbrev main_call6_v1 : Ref sig .tc := ⟨.hbm, 138, rfl⟩
abbrev main_v60 : Ref sig .tc := ⟨.hbm, 139, rfl⟩
abbrev main_v61 : Ref sig .tc := ⟨.hbm, 140, rfl⟩
abbrev main_c_15 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_v62 : Ref sig .tc := ⟨.hbm, 145, rfl⟩
abbrev main_c_16 : Ref sig .tc := ⟨.hbm, 146, rfl⟩
abbrev main_v64 : Ref sig .tc := ⟨.hbm, 147, rfl⟩
abbrev main_c_17 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_c_18 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_v68 : Ref sig .tc := ⟨.hbm, 156, rfl⟩
abbrev main_c_19 : Ref sig .tc := ⟨.hbm, 157, rfl⟩
abbrev main_v69 : Ref sig .tc := ⟨.hbm, 158, rfl⟩
abbrev main_v70 : Ref sig .tc := ⟨.hbm, 159, rfl⟩
abbrev main_c_20 : Ref sig .tc := ⟨.hbm, 160, rfl⟩
abbrev main_c_21 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v20 : Ref sig .tc := ⟨.smem, 0, rfl⟩
abbrev main_v22 : Ref sig .tc := ⟨.smem, 1, rfl⟩
abbrev main_v34 : Ref sig .tc := ⟨.smem, 2, rfl⟩
abbrev main_v38 : Ref sig .tc := ⟨.smem, 3, rfl⟩
abbrev main_v63 : Ref sig .tc := ⟨.smem, 4, rfl⟩
abbrev main_v71 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![164], ![false]⟩

abbrev pre0 : Pipeline.Prefetch sig := ⟨6, ![main_v20.idx, main_v22.idx, main_v34.idx, main_v38.idx, main_v63.idx, main_v71.idx], fun | 0 => main_v20.names | 1 => main_v22.names | 2 => main_v34.names | 3 => main_v38.names | 4 => main_v63.names | 5 => main_v71.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off2 (v33 : BitVec 32) : Fin 4 → Nat :=
  let c0_i32_12 : BitVec 32 := 0#32
  let c0_i32_18 : BitVec 32 := 0#32
  let c0_i32_19 : BitVec 32 := 0#32
  ![0, v33.toNat, 0, 0]

def k0_off3 (v33 : BitVec 32) : Fin 4 → Nat :=
  let c0_i32_20 : BitVec 32 := 0#32
  let c0_i32_26 : BitVec 32 := 0#32
  let c0_i32_27 : BitVec 32 := 0#32
  ![0, v33.toNat, 0, 0]

def k0_chk1 (i : grid0.Coords) (v33 : BitVec 32) : Prop :=
  (∀ (k0_h1 : k0_cond1 i = 1#1), ∀ a, (k0_off2 v33) a + S1x1x1024x2048.size a ≤ S2x32x1024x2048.size a) ∧
  (∀ (k0_h1 : k0_cond1 i = 1#1), ∀ a, (k0_off3 v33) a + S1x1x1024x1024.size a ≤ S2x32x1024x1024.size a)
theorem k0_off2_inb : ∀ (i : grid0.Coords) (v33 : BitVec 32) (k0_hw1 : k0_chk1 i v33), ∀ (k0_h1 : k0_cond1 i = 1#1), ∀ a, (k0_off2 v33) a + S1x1x1024x2048.size a ≤ S2x32x1024x2048.size a := fun i v33 k0_hw1 k0_h1 => k0_hw1.1 k0_h1
theorem k0_off3_inb : ∀ (i : grid0.Coords) (v33 : BitVec 32) (k0_hw1 : k0_chk1 i v33), ∀ (k0_h1 : k0_cond1 i = 1#1), ∀ a, (k0_off3 v33) a + S1x1x1024x1024.size a ≤ S2x32x1024x1024.size a := fun i v33 k0_hw1 k0_h1 => k0_hw1.2 k0_h1

def k0_off4 (i : grid0.Coords) : Fin 1 → Nat :=
  let arg0 : BitVec 32 := BitVec.ofNat 32 (i 0).val
  let v33 : Index := Scalar.indexCast arg0
  ![v33.toNat]
def k0_off5 (v34 : BitVec 32) : Fin 2 → Nat :=
  let c0_i32_13 : BitVec 32 := 0#32
  ![0, v34.toNat]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v34 : BitVec 32) : Fin 3 → Nat :=
  let c0_i32_14 : BitVec 32 := 0#32
  let c0_i32_15 : BitVec 32 := 0#32
  ![v34.toNat, 0, 0]
def k0_off7 (v36 : BitVec 32) : Fin 4 → Nat :=
  let c0_i32_12 : BitVec 32 := 0#32
  let c0_i32_16 : BitVec 32 := 0#32
  let c0_i32_17 : BitVec 32 := 0#32
  ![0, v36.toNat, 0, 0]

def k0_off8 (v34 : BitVec 32) : Fin 2 → Nat :=
  let c1_i32_19 : BitVec 32 := 1#32
  ![1, v34.toNat]
def k0_off9 (v34 : BitVec 32) : Fin 3 → Nat :=
  let c0_i32_20 : BitVec 32 := 0#32
  let c0_i32_21 : BitVec 32 := 0#32
  ![v34.toNat, 0, 0]
def k0_off10 (v36 : BitVec 32) : Fin 4 → Nat :=
  let c0_i32_18 : BitVec 32 := 0#32
  let c0_i32_22 : BitVec 32 := 0#32
  let c0_i32_23 : BitVec 32 := 0#32
  ![0, v36.toNat, 0, 0]

def k0_chk3 (v4 : BitVec 32) (v36 : BitVec 32) : Prop :=
  (∀ (k0_h2 : k0_cond2 v4 = 1#1), ∀ a, (k0_off7 v36) a + S1x1x1024x2048.size a ≤ S2x32x1024x2048.size a) ∧
  (∀ (k0_h2 : k0_cond2 v4 = 1#1), ∀ a, (k0_off10 v36) a + S1x1x1024x1024.size a ≤ S2x32x1024x1024.size a)
theorem k0_off7_inb : ∀ (v4 : BitVec 32) (v36 : BitVec 32) (k0_hw3 : k0_chk3 v4 v36), ∀ (k0_h2 : k0_cond2 v4 = 1#1), ∀ a, (k0_off7 v36) a + S1x1x1024x2048.size a ≤ S2x32x1024x2048.size a := fun v4 v36 k0_hw3 k0_h2 => k0_hw3.1 k0_h2
theorem k0_off10_inb : ∀ (v4 : BitVec 32) (v36 : BitVec 32) (k0_hw3 : k0_chk3 v4 v36), ∀ (k0_h2 : k0_cond2 v4 = 1#1), ∀ a, (k0_off10 v36) a + S1x1x1024x1024.size a ≤ S2x32x1024x1024.size a := fun v4 v36 k0_hw3 k0_h2 => k0_hw3.2 k0_h2

def k0_off11 (v34 : BitVec 32) : Fin 3 → Nat :=
  let v49 : Index := Scalar.indexCast v34
  let c0 : Index := 0#32
  let c0_24 : Index := 0#32
  ![v49.toNat, 0, 0]
def k0_off12 (v34 : BitVec 32) : Fin 3 → Nat :=
  let v56 : Index := Scalar.indexCast v34
  let c0_27 : Index := 0#32
  let c0_28 : Index := 0#32
  ![v56.toNat, 0, 0]

def k0_chk2 (v4 : BitVec 32) (v34 : BitVec 32) : Prop :=
  (∀ (k0_h2 : k0_cond2 v4 = 1#1), ∀ a, (k0_off5 v34) a + S1x1.size a ≤ S2x2.size a) ∧
  (∀ (k0_h2 : k0_cond2 v4 = 1#1), ∀ a, (k0_off6 v34) a + S1x1024x2048.size a ≤ S2x1024x2048.size a) ∧
  (∀ (k0_h2 : k0_cond2 v4 = 1#1), ∀ a, (k0_off8 v34) a + S1x1.size a ≤ S2x2.size a) ∧
  (∀ (k0_h2 : k0_cond2 v4 = 1#1), ∀ a, (k0_off9 v34) a + S1x1024x1024.size a ≤ S2x1024x1024.size a) ∧
  (∀ (k0_h2 : k0_cond2 v4 = 1#1), ∀ a, (k0_off11 v34) a + S1x1024x2048.size a ≤ S2x1024x2048.size a) ∧
  (∀ (k0_h2 : k0_cond2 v4 = 1#1), ∀ a, (k0_off12 v34) a + S1x1024x1024.size a ≤ S2x1024x1024.size a)
theorem k0_off5_inb : ∀ (v4 : BitVec 32) (v34 : BitVec 32) (k0_hw2 : k0_chk2 v4 v34), ∀ (k0_h2 : k0_cond2 v4 = 1#1), ∀ a, (k0_off5 v34) a + S1x1.size a ≤ S2x2.size a := fun v4 v34 k0_hw2 k0_h2 => k0_hw2.1 k0_h2
theorem k0_off6_inb : ∀ (v4 : BitVec 32) (v34 : BitVec 32) (k0_hw2 : k0_chk2 v4 v34), ∀ (k0_h2 : k0_cond2 v4 = 1#1), ∀ a, (k0_off6 v34) a + S1x1024x2048.size a ≤ S2x1024x2048.size a := fun v4 v34 k0_hw2 k0_h2 => k0_hw2.2.1 k0_h2
theorem k0_off8_inb : ∀ (v4 : BitVec 32) (v34 : BitVec 32) (k0_hw2 : k0_chk2 v4 v34), ∀ (k0_h2 : k0_cond2 v4 = 1#1), ∀ a, (k0_off8 v34) a + S1x1.size a ≤ S2x2.size a := fun v4 v34 k0_hw2 k0_h2 => k0_hw2.2.2.1 k0_h2
theorem k0_off9_inb : ∀ (v4 : BitVec 32) (v34 : BitVec 32) (k0_hw2 : k0_chk2 v4 v34), ∀ (k0_h2 : k0_cond2 v4 = 1#1), ∀ a, (k0_off9 v34) a + S1x1024x1024.size a ≤ S2x1024x1024.size a := fun v4 v34 k0_hw2 k0_h2 => k0_hw2.2.2.2.1 k0_h2
theorem k0_off11_inb : ∀ (v4 : BitVec 32) (v34 : BitVec 32) (k0_hw2 : k0_chk2 v4 v34), ∀ (k0_h2 : k0_cond2 v4 = 1#1), ∀ a, (k0_off11 v34) a + S1x1024x2048.size a ≤ S2x1024x2048.size a := fun v4 v34 k0_hw2 k0_h2 => k0_hw2.2.2.2.2.1 k0_h2
theorem k0_off12_inb : ∀ (v4 : BitVec 32) (v34 : BitVec 32) (k0_hw2 : k0_chk2 v4 v34), ∀ (k0_h2 : k0_cond2 v4 = 1#1), ∀ a, (k0_off12 v34) a + S1x1024x1024.size a ≤ S2x1024x1024.size a := fun v4 v34 k0_hw2 k0_h2 => k0_hw2.2.2.2.2.2 k0_h2

def k0_off13 (i : grid0.Coords) : Fin 1 → Nat :=
  let arg0 : BitVec 32 := BitVec.ofNat 32 (i 0).val
  let v63 : Index := Scalar.indexCast arg0
  ![v63.toNat]
def k0_off14 (i : grid0.Coords) : Fin 1 → Nat :=
  let arg0 : BitVec 32 := BitVec.ofNat 32 (i 0).val
  let v68 : Index := Scalar.indexCast arg0
  ![v68.toNat]
def k0_off15 (v34 : BitVec 32) : Fin 2 → Nat :=
  let c0_i32_35 : BitVec 32 := 0#32
  let c1_i32_33 : BitVec 32 := 1#32
  let v70 : BitVec 32 := Scalar.subi c1_i32_33 v34
  ![0, v70.toNat]
def k0_cond3 (v64 : BitVec 32) : BitVec 1 :=
  let c0_i32_31 : BitVec 32 := 0#32
  let v65 : BitVec 1 := Scalar.cmpi .sge v64 c0_i32_31
  let v66 : BitVec 32 := Scalar.extui v65
  let c0_i32_32 : BitVec 32 := 0#32
  let v67 : BitVec 1 := Scalar.cmpi .ne v66 c0_i32_32
  v67

def k0_off16 (v34 : BitVec 32) : Fin 3 → Nat :=
  let c1_i32_33 : BitVec 32 := 1#32
  let v70 : BitVec 32 := Scalar.subi c1_i32_33 v34
  let c0_i32_36 : BitVec 32 := 0#32
  let c0_i32_37 : BitVec 32 := 0#32
  ![v70.toNat, 0, 0]
def k0_off17 (v69 : BitVec 32) : Fin 4 → Nat :=
  let c0_i32_34 : BitVec 32 := 0#32
  let c0_i32_38 : BitVec 32 := 0#32
  let c0_i32_39 : BitVec 32 := 0#32
  ![0, v69.toNat, 0, 0]

def k0_off18 (v34 : BitVec 32) : Fin 2 → Nat :=
  let c1_i32_41 : BitVec 32 := 1#32
  let c1_i32_33 : BitVec 32 := 1#32
  let v70 : BitVec 32 := Scalar.subi c1_i32_33 v34
  ![1, v70.toNat]
def k0_off19 (v34 : BitVec 32) : Fin 3 → Nat :=
  let c1_i32_33 : BitVec 32 := 1#32
  let v70 : BitVec 32 := Scalar.subi c1_i32_33 v34
  let c0_i32_42 : BitVec 32 := 0#32
  let c0_i32_43 : BitVec 32 := 0#32
  ![v70.toNat, 0, 0]

def k0_chk4 (v4 : BitVec 32) (v34 : BitVec 32) (v64 : BitVec 32) : Prop :=
  (∀ (k0_h2 : k0_cond2 v4 = 1#1), ∀ (k0_h3 : k0_cond3 v64 = 1#1), ∀ a, (k0_off15 v34) a + S1x1.size a ≤ S2x2.size a) ∧
  (∀ (k0_h2 : k0_cond2 v4 = 1#1), ∀ (k0_h3 : k0_cond3 v64 = 1#1), ∀ a, (k0_off16 v34) a + S1x1024x2048.size a ≤ S2x1024x2048.size a) ∧
  (∀ (k0_h2 : k0_cond2 v4 = 1#1), ∀ (k0_h3 : k0_cond3 v64 = 1#1), ∀ a, (k0_off18 v34) a + S1x1.size a ≤ S2x2.size a) ∧
  (∀ (k0_h2 : k0_cond2 v4 = 1#1), ∀ (k0_h3 : k0_cond3 v64 = 1#1), ∀ a, (k0_off19 v34) a + S1x1024x1024.size a ≤ S2x1024x1024.size a)
theorem k0_off15_inb : ∀ (v4 : BitVec 32) (v34 : BitVec 32) (v64 : BitVec 32) (k0_hw4 : k0_chk4 v4 v34 v64), ∀ (k0_h2 : k0_cond2 v4 = 1#1), ∀ (k0_h3 : k0_cond3 v64 = 1#1), ∀ a, (k0_off15 v34) a + S1x1.size a ≤ S2x2.size a := fun v4 v34 v64 k0_hw4 k0_h2 k0_h3 => k0_hw4.1 k0_h2 k0_h3
theorem k0_off16_inb : ∀ (v4 : BitVec 32) (v34 : BitVec 32) (v64 : BitVec 32) (k0_hw4 : k0_chk4 v4 v34 v64), ∀ (k0_h2 : k0_cond2 v4 = 1#1), ∀ (k0_h3 : k0_cond3 v64 = 1#1), ∀ a, (k0_off16 v34) a + S1x1024x2048.size a ≤ S2x1024x2048.size a := fun v4 v34 v64 k0_hw4 k0_h2 k0_h3 => k0_hw4.2.1 k0_h2 k0_h3
theorem k0_off18_inb : ∀ (v4 : BitVec 32) (v34 : BitVec 32) (v64 : BitVec 32) (k0_hw4 : k0_chk4 v4 v34 v64), ∀ (k0_h2 : k0_cond2 v4 = 1#1), ∀ (k0_h3 : k0_cond3 v64 = 1#1), ∀ a, (k0_off18 v34) a + S1x1.size a ≤ S2x2.size a := fun v4 v34 v64 k0_hw4 k0_h2 k0_h3 => k0_hw4.2.2.1 k0_h2 k0_h3
theorem k0_off19_inb : ∀ (v4 : BitVec 32) (v34 : BitVec 32) (v64 : BitVec 32) (k0_hw4 : k0_chk4 v4 v34 v64), ∀ (k0_h2 : k0_cond2 v4 = 1#1), ∀ (k0_h3 : k0_cond3 v64 = 1#1), ∀ a, (k0_off19 v34) a + S1x1024x1024.size a ≤ S2x1024x1024.size a := fun v4 v34 v64 k0_hw4 k0_h2 k0_h3 => k0_hw4.2.2.2 k0_h2 k0_h3

def k0_off20 (v69 : BitVec 32) : Fin 4 → Nat :=
  let c0_i32_40 : BitVec 32 := 0#32
  let c0_i32_44 : BitVec 32 := 0#32
  let c0_i32_45 : BitVec 32 := 0#32
  ![0, v69.toNat, 0, 0]

def k0_chk5 (v4 : BitVec 32) (v64 : BitVec 32) (v69 : BitVec 32) : Prop :=
  (∀ (k0_h2 : k0_cond2 v4 = 1#1), ∀ (k0_h3 : k0_cond3 v64 = 1#1), ∀ a, (k0_off17 v69) a + S1x1x1024x2048.size a ≤ S2x32x1024x2048.size a) ∧
  (∀ (k0_h2 : k0_cond2 v4 = 1#1), ∀ (k0_h3 : k0_cond3 v64 = 1#1), ∀ a, (k0_off20 v69) a + S1x1x1024x1024.size a ≤ S2x32x1024x1024.size a)
theorem k0_off17_inb : ∀ (v4 : BitVec 32) (v64 : BitVec 32) (v69 : BitVec 32) (k0_hw5 : k0_chk5 v4 v64 v69), ∀ (k0_h2 : k0_cond2 v4 = 1#1), ∀ (k0_h3 : k0_cond3 v64 = 1#1), ∀ a, (k0_off17 v69) a + S1x1x1024x2048.size a ≤ S2x32x1024x2048.size a := fun v4 v64 v69 k0_hw5 k0_h2 k0_h3 => k0_hw5.1 k0_h2 k0_h3
theorem k0_off20_inb : ∀ (v4 : BitVec 32) (v64 : BitVec 32) (v69 : BitVec 32) (k0_hw5 : k0_chk5 v4 v64 v69), ∀ (k0_h2 : k0_cond2 v4 = 1#1), ∀ (k0_h3 : k0_cond3 v64 = 1#1), ∀ a, (k0_off20 v69) a + S1x1x1024x1024.size a ≤ S2x32x1024x1024.size a := fun v4 v64 v69 k0_hw5 k0_h2 k0_h3 => k0_hw5.2 k0_h2 k0_h3

def k0_off21 (i : grid0.Coords) : Fin 1 → Nat :=
  let arg0 : BitVec 32 := BitVec.ofNat 32 (i 0).val
  let v8 : Index := Scalar.indexCast arg0
  ![v8.toNat]
def k0_cond4 (v9 : BitVec 32) : BitVec 1 :=
  let c0_i32_2 : BitVec 32 := 0#32
  let v10 : BitVec 1 := Scalar.cmpi .sgt v9 c0_i32_2
  let c128_i32 : BitVec 32 := 128#32
  let v11 : BitVec 1 := Scalar.cmpi .sle v9 c128_i32
  let v12 : BitVec 1 := Scalar.andi v10 v11
  let v13 : BitVec 32 := Scalar.extui v12
  let c0_i32_3 : BitVec 32 := 0#32
  let v14 : BitVec 1 := Scalar.cmpi .ne v13 c0_i32_3
  v14

def k0_cond5 (v9 : BitVec 32) : BitVec 1 :=
  let c128_i32_4 : BitVec 32 := 128#32
  let v15 : BitVec 1 := Scalar.cmpi .sgt v9 c128_i32_4
  let c256_i32 : BitVec 32 := 256#32
  let v16 : BitVec 1 := Scalar.cmpi .sle v9 c256_i32
  let v17 : BitVec 1 := Scalar.andi v15 v16
  let v18 : BitVec 32 := Scalar.extui v17
  let c0_i32_5 : BitVec 32 := 0#32
  let v19 : BitVec 1 := Scalar.cmpi .ne v18 c0_i32_5
  v19

def k0_cond6 (v9 : BitVec 32) : BitVec 1 :=
  let c256_i32_6 : BitVec 32 := 256#32
  let v20 : BitVec 1 := Scalar.cmpi .sgt v9 c256_i32_6
  let c384_i32 : BitVec 32 := 384#32
  let v21 : BitVec 1 := Scalar.cmpi .sle v9 c384_i32
  let v22 : BitVec 1 := Scalar.andi v20 v21
  let v23 : BitVec 32 := Scalar.extui v22
  let c0_i32_7 : BitVec 32 := 0#32
  let v24 : BitVec 1 := Scalar.cmpi .ne v23 c0_i32_7
  v24

def k0_cond7 (v9 : BitVec 32) : BitVec 1 :=
  let c384_i32_8 : BitVec 32 := 384#32
  let v25 : BitVec 1 := Scalar.cmpi .sgt v9 c384_i32_8
  let c512_i32 : BitVec 32 := 512#32
  let v26 : BitVec 1 := Scalar.cmpi .sle v9 c512_i32
  let v27 : BitVec 1 := Scalar.andi v25 v26
  let v28 : BitVec 32 := Scalar.extui v27
  let c0_i32_9 : BitVec 32 := 0#32
  let v29 : BitVec 1 := Scalar.cmpi .ne v28 c0_i32_9
  v29

def k0_cond8 (v9 : BitVec 32) : BitVec 1 :=
  let c0_i32_10 : BitVec 32 := 0#32
  let v30 : BitVec 1 := Scalar.cmpi .eq v9 c0_i32_10
  let v31 : BitVec 32 := Scalar.extui v30
  let c0_i32_11 : BitVec 32 := 0#32
  let v32 : BitVec 1 := Scalar.cmpi .ne v31 c0_i32_11
  v32

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S671744x128 : Shape := ⟨2, ![671744, 128]⟩
abbrev S32 : Shape := ⟨1, ![32]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S164x512x1024 : Shape := ⟨3, ![164, 512, 1024]⟩
abbrev S_ : Shape := ⟨0, ![]⟩
abbrev S164 : Shape := ⟨1, ![164]⟩
abbrev S1x32 : Shape := ⟨2, ![1, 32]⟩
abbrev S164x1 : Shape := ⟨2, ![164, 1]⟩
abbrev S164x32 : Shape := ⟨2, ![164, 32]⟩
abbrev S1x32x1024x2048 : Shape := ⟨4, ![1, 32, 1024, 2048]⟩
abbrev S32x1024x2048 : Shape := ⟨3, ![32, 1024, 2048]⟩
abbrev S164x1024x2048 : Shape := ⟨3, ![164, 1024, 2048]⟩
abbrev S164x512x2048 : Shape := ⟨3, ![164, 512, 2048]⟩
abbrev S1x32x2048 : Shape := ⟨3, ![1, 32, 2048]⟩
abbrev S32x2048 : Shape := ⟨2, ![32, 2048]⟩
abbrev S164x2048 : Shape := ⟨2, ![164, 2048]⟩
abbrev S164x1x2048 : Shape := ⟨3, ![164, 1, 2048]⟩
abbrev S1x32x1024x1024 : Shape := ⟨4, ![1, 32, 1024, 1024]⟩
abbrev S32x1024x1024 : Shape := ⟨3, ![32, 1024, 1024]⟩
abbrev S164x1024x1024 : Shape := ⟨3, ![164, 1024, 1024]⟩
abbrev S1x32x1024 : Shape := ⟨3, ![1, 32, 1024]⟩
abbrev S32x1024 : Shape := ⟨2, ![32, 1024]⟩
abbrev S164x1024 : Shape := ⟨2, ![164, 1024]⟩
abbrev S164x1x1024 : Shape := ⟨3, ![164, 1, 1024]⟩
abbrev S512 : Shape := ⟨1, ![512]⟩
abbrev S1x512 : Shape := ⟨2, ![1, 512]⟩
abbrev S164x512 : Shape := ⟨2, ![164, 512]⟩
abbrev S164x512x1 : Shape := ⟨3, ![164, 512, 1]⟩

abbrev nBuf : Space → Nat
  | .hbm => 179
  | .vmem => 0
  | .smem => 0
  | _ => 0

abbrev hbmTy0_0 (i : Nat) : BufTy := match i % 128 with
  | 0 => ⟨S671744x128, .f32⟩
  | 1 => ⟨S32, .i32⟩
  | 2 => ⟨S2x32x1024x2048, .f32⟩
  | 3 => ⟨S2x32x2048, .f32⟩
  | 4 => ⟨S2x32x1024x1024, .f32⟩
  | 5 => ⟨S2x32x1024, .f32⟩
  | 6 => ⟨S164x512x1024, .f32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S164, .i32⟩
  | 35 => ⟨S_, .i32⟩
  | 36 => ⟨S164, .i32⟩
  | 37 => ⟨S164, .i32⟩
  | 38 => ⟨S1x32, .i32⟩
  | 39 => ⟨S164x1, .i32⟩
  | 40 => ⟨S164x32, .i32⟩
  | 41 => ⟨S164x32, .i32⟩
  | 42 => ⟨S164x32, .i1⟩
  | 43 => ⟨S164x32, .i32⟩
  | 44 => ⟨S_, .i32⟩
  | 45 => ⟨S164, .i32⟩
  | 46 => ⟨S_, .i32⟩
  | 47 => ⟨S164, .i32⟩
  | 48 => ⟨S164, .i32⟩
  | 49 => ⟨S1x32x1024x2048, .f32⟩
  | 50 => ⟨S32x1024x2048, .f32⟩
  | 51 => ⟨S_, .i32⟩
  | 52 => ⟨S164, .i32⟩
  | 53 => ⟨S164, .i1⟩
  | 54 => ⟨S_, .i32⟩
  | 55 => ⟨S164, .i32⟩
  | 56 => ⟨S164, .i32⟩
  | 57 => ⟨S164, .i32⟩
  | 58 => ⟨S164x1, .i32⟩
  | 59 => ⟨S164x1024x2048, .f32⟩
  | 60 => ⟨S164x512x2048, .f32⟩
  | 61 => ⟨S1x32x2048, .f32⟩
  | 62 => ⟨S32x2048, .f32⟩
  | 63 => ⟨S_, .i32⟩
  | 64 => ⟨S164, .i32⟩
  | 65 => ⟨S164, .i1⟩
  | 66 => ⟨S_, .i32⟩
  | 67 => ⟨S164, .i32⟩
  | 68 => ⟨S164, .i32⟩
  | 69 => ⟨S164, .i32⟩
  | 70 => ⟨S164x1, .i32⟩
  | 71 => ⟨S164x2048, .f32⟩
  | 72 => ⟨S164x1x2048, .f32⟩
  | 73 => ⟨S164x512x2048, .f32⟩
  | 74 => ⟨S164x512x2048, .f32⟩
  | 75 => ⟨S164x512x1024, .f32⟩
  | 76 => ⟨S164x512x1024, .f32⟩
  | 77 => ⟨S_, .f32⟩
  | 78 => ⟨S164x512x1024, .f32⟩
  | 79 => ⟨S164x512x1024, .f32⟩
  | 80 => ⟨S_, .f32⟩
  | 81 => ⟨S_, .f32⟩
  | 82 => ⟨S_, .f32⟩
  | 83 => ⟨S164x512x1024, .f32⟩
  | 84 => ⟨S164x512x1024, .f32⟩
  | 85 => ⟨S_, .f32⟩
  | 86 => ⟨S164x512x1024, .f32⟩
  | 87 => ⟨S164x512x1024, .f32⟩
  | 88 => ⟨S_, .f32⟩
  | 89 => ⟨S164x512x1024, .f32⟩
  | 90 => ⟨S164x512x1024, .f32⟩
  | 91 => ⟨S164x512x1024, .f32⟩
  | 92 => ⟨S164x512x1024, .f32⟩
  | 93 => ⟨S_, .f32⟩
  | 94 => ⟨S164x512x1024, .f32⟩
  | 95 => ⟨S164x512x1024, .f32⟩
  | 96 => ⟨S_, .f32⟩
  | 97 => ⟨S164x512x1024, .f32⟩
  | 98 => ⟨S164x512x1024, .f32⟩
  | 99 => ⟨S164x512x1024, .f32⟩
  | 100 => ⟨S_, .f32⟩
  | 101 => ⟨S164x512x1024, .f32⟩
  | 102 => ⟨S164x512x1024, .f32⟩
  | 103 => ⟨S164x512x1024, .f32⟩
  | 104 => ⟨S1x32x1024x1024, .f32⟩
  | 105 => ⟨S32x1024x1024, .f32⟩
  | 106 => ⟨S_, .i32⟩
  | 107 => ⟨S164, .i32⟩
  | 108 => ⟨S164, .i1⟩
  | 109 => ⟨S_, .i32⟩
  | 110 => ⟨S164, .i32⟩
  | 111 => ⟨S164, .i32⟩
  | 112 => ⟨S164, .i32⟩
  | 113 => ⟨S164x1, .i32⟩
  | 114 => ⟨S164x1024x1024, .f32⟩
  | 115 => ⟨S164x512x1024, .f32⟩
  | 116 => ⟨S1x32x1024, .f32⟩
  | 117 => ⟨S32x1024, .f32⟩
  | 118 => ⟨S_, .i32⟩
  | 119 => ⟨S164, .i32⟩
  | 120 => ⟨S164, .i1⟩
  | 121 => ⟨S_, .i32⟩
  | 122 => ⟨S164, .i32⟩
  | 123 => ⟨S164, .i32⟩
  | 124 => ⟨S164, .i32⟩
  | 125 => ⟨S164x1, .i32⟩
  | 126 => ⟨S164x1024, .f32⟩
  | 127 => ⟨S164x1x1024, .f32⟩
  | _ => ⟨S671744x128, .f32⟩

abbrev hbmTy0_1 (i : Nat) : BufTy := match i % 128 with
  | 0 => ⟨S164x512x1024, .f32⟩
  | 1 => ⟨S164x512x1024, .f32⟩
  | 2 => ⟨S32, .i32⟩
  | 3 => ⟨S32, .i32⟩
  | 4 => ⟨S_, .i32⟩
  | 5 => ⟨S164, .i32⟩
  | 6 => ⟨S164, .i1⟩
  | 7 => ⟨S_, .i32⟩
  | 8 => ⟨S164, .i32⟩
  | 9 => ⟨S164, .i32⟩
  | 10 => ⟨S164, .i32⟩
  | 11 => ⟨S164x1, .i32⟩
  | 12 => ⟨S164, .i32⟩
  | 13 => ⟨S164, .i32⟩
  | 14 => ⟨S512, .i32⟩
  | 15 => ⟨S1x512, .i32⟩
  | 16 => ⟨S_, .i32⟩
  | 17 => ⟨S164, .i32⟩
  | 18 => ⟨S164, .i32⟩
  | 19 => ⟨S_, .i32⟩
  | 20 => ⟨S_, .i32⟩
  | 21 => ⟨S164, .i32⟩
  | 22 => ⟨S164, .i32⟩
  | 23 => ⟨S164, .i32⟩
  | 24 => ⟨S_, .i32⟩
  | 25 => ⟨S164, .i32⟩
  | 26 => ⟨S164, .i1⟩
  | 27 => ⟨S164, .i32⟩
  | 28 => ⟨S164, .i32⟩
  | 29 => ⟨S_, .i32⟩
  | 30 => ⟨S164, .i32⟩
  | 31 => ⟨S164, .i1⟩
  | 32 => ⟨S164, .i1⟩
  | 33 => ⟨S_, .i32⟩
  | 34 => ⟨S164, .i32⟩
  | 35 => ⟨S164, .i32⟩
  | 36 => ⟨S164, .i32⟩
  | 37 => ⟨S_, .i32⟩
  | 38 => ⟨S164, .i32⟩
  | 39 => ⟨S164, .i32⟩
  | 40 => ⟨S164x1, .i32⟩
  | 41 => ⟨S164x512, .i32⟩
  | 42 => ⟨S164x512, .i32⟩
  | 43 => ⟨S164x512, .i1⟩
  | 44 => ⟨S164x512x1, .i1⟩
  | 45 => ⟨S_, .f32⟩
  | 46 => ⟨S_, .f32⟩
  | 47 => ⟨S164x512x1024, .i1⟩
  | 48 => ⟨S164x512x1024, .f32⟩
  | 49 => ⟨S164x512x1024, .f32⟩
  | 50 => ⟨S671744x128, .f32⟩
  | _ => ⟨S671744x128, .f32⟩

abbrev hbmTy (i : Nat) : BufTy := match i / 128 with
  | 0 => hbmTy0_0 i
  | 1 => hbmTy0_1 i
  | _ => ⟨S671744x128, .f32⟩

abbrev bufTy : (tb : Table) → Fin (tcTables nBuf tb) → BufTy
  | .hbm, ⟨i, _⟩ => hbmTy i
  | _, _ => ⟨S671744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_call1_call0_c : Ref sig .tc := ⟨.hbm, 31, rfl⟩
abbrev main_call1_call0_v0 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_cst_10 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v45 : Ref sig .tc := ⟨.hbm, 87, rfl⟩
abbrev main_cst_11 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_12 : Ref sig .tc := ⟨.hbm, 93, rfl⟩
abbrev main_v50 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_15 : Ref sig .tc := ⟨.hbm, 106, rfl⟩
abbrev main_v60 : Ref sig .tc := ⟨.hbm, 107, rfl⟩
abbrev main_v61 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_17 : Ref sig .tc := ⟨.hbm, 118, rfl⟩
abbrev main_v70 : Ref sig .tc := ⟨.hbm, 119, rfl⟩
abbrev main_v71 : Ref sig .tc := ⟨.hbm, 120, rfl⟩
abbrev main_c_18 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_19 : Ref sig .tc := ⟨.hbm, 132, rfl⟩
abbrev main_v82 : Ref sig .tc := ⟨.hbm, 133, rfl⟩
abbrev main_v83 : Ref sig .tc := ⟨.hbm, 134, rfl⟩
abbrev main_c_20 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_21 : Ref sig .tc := ⟨.hbm, 144, rfl⟩
abbrev main_v92 : Ref sig .tc := ⟨.hbm, 145, rfl⟩
abbrev main_v93 : Ref sig .tc := ⟨.hbm, 146, rfl⟩
abbrev main_c_22 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_c : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_c_0 : Ref sig .tc := ⟨.hbm, 161, rfl⟩
abbrev main_call3_v12 : Ref sig .tc := ⟨.hbm, 162, rfl⟩
abbrev main_call3_v13 : Ref sig .tc := ⟨.hbm, 163, rfl⟩
abbrev main_v94 : Ref sig .tc := ⟨.hbm, 164, rfl⟩
abbrev main_c_23 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_cst_24 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_v102 : Ref sig .tc := ⟨.hbm, 177, rfl⟩
abbrev main_v103 : Ref sig .tc := ⟨.hbm, 178, rfl⟩

abbrev nD : Nat := 1
abbrev τ : Topo := Topo.v7x

variable {F : FTy → Type} [FloatOps F]
-- ==== Kernel2.lean ====
abbrev S16896x1024 : Shape := ⟨2, ![16896, 1024]⟩
abbrev S16x6x1024 : Shape := ⟨3, ![16, 6, 1024]⟩
abbrev S1024 : Shape := ⟨1, ![1024]⟩
abbrev S1024x5120 : Shape := ⟨2, ![1024, 5120]⟩
abbrev S2x2x1024 : Shape := ⟨3, ![2, 2, 1024]⟩
abbrev S1x1024 : Shape := ⟨2, ![1, 1024]⟩
abbrev S8x16896x128 : Shape := ⟨3, ![8, 16896, 128]⟩
abbrev S256x1024 : Shape := ⟨2, ![256, 1024]⟩
abbrev S1x6x1024 : Shape := ⟨3, ![1, 6, 1024]⟩
abbrev S8x256x128 : Shape := ⟨3, ![8, 256, 128]⟩
abbrev S256 : Shape := ⟨1, ![256]⟩
abbrev S256x1 : Shape := ⟨2, ![256, 1]⟩
abbrev S1x1x1024 : Shape := ⟨3, ![1, 1, 1024]⟩
abbrev S1x2x1024 : Shape := ⟨3, ![1, 2, 1024]⟩
abbrev S2x1024 : Shape := ⟨2, ![2, 1024]⟩
abbrev S1024x1024 : Shape := ⟨2, ![1024, 1024]⟩
abbrev S256x128 : Shape := ⟨2, ![256, 128]⟩
abbrev S1x256x128 : Shape := ⟨3, ![1, 256, 128]⟩

abbrev nBuf : Space → Nat
  | .hbm => 12
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S16x6x1024, .f32⟩
  | .hbm, ⟨2, _⟩ => ⟨S1024, .f32⟩
  | .hbm, ⟨3, _⟩ => ⟨S1024x5120, .f32⟩
  | .hbm, ⟨4, _⟩ => ⟨S2x2x1024, .f32⟩
  | .hbm, ⟨5, _⟩ => ⟨S1x1024, .f32⟩
  | .hbm, ⟨6, _⟩ => ⟨S1024x5120, .bf16⟩
  | .hbm, ⟨7, _⟩ => ⟨S8x16896x128, .f32⟩
  | .hbm, ⟨8, _⟩ => ⟨S8x16896x128, .f32⟩
  | .hbm, ⟨9, _⟩ => ⟨S8x16896x128, .f32⟩
  | .hbm, ⟨10, _⟩ => ⟨S8x16896x128, .f32⟩
  | .hbm, ⟨11, _⟩ => ⟨S16896x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5120, .bf16⟩
  | .local _ .vmem, ⟨6, _⟩ => ⟨S2x2x1024, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S256x1024, .bf16⟩
  | .local _ .vmem, ⟨16, _⟩ => ⟨S256x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16896x1024 : Shape := ⟨2, ![16896, 1024]⟩
abbrev S16x6x1024 : Shape := ⟨3, ![16, 6, 1024]⟩
abbrev S1024 : Shape := ⟨1, ![1024]⟩
abbrev S1024x5120 : Shape := ⟨2, ![1024, 5120]⟩
abbrev S2x2x1024 : Shape := ⟨3, ![2, 2, 1024]⟩
abbrev S_ : Shape := ⟨0, ![]⟩
abbrev S2x1024 : Shape := ⟨2, ![2, 1024]⟩
abbrev S1x2x1024 : Shape := ⟨3, ![1, 2, 1024]⟩
abbrev S16896 : Shape := ⟨1, ![16896]⟩
abbrev S16896x1 : Shape := ⟨2, ![16896, 1]⟩
abbrev S1x1024 : Shape := ⟨2, ![1, 1024]⟩
abbrev S1x1x1024 : Shape := ⟨3, ![1, 1, 1024]⟩
abbrev S8192x1024 : Shape := ⟨2, ![8192, 1024]⟩
abbrev S512x1024 : Shape := ⟨2, ![512, 1024]⟩
abbrev S16896x5120 : Shape := ⟨2, ![16896, 5120]⟩
abbrev S16896x8x128 : Shape := ⟨3, ![16896, 8, 128]⟩
abbrev S8x16896x128 : Shape := ⟨3, ![8, 16896, 128]⟩

abbrev nBuf : Space → Nat
  | .hbm => 140
  | .vmem => 0
  | .smem => 0
  | _ => 0

abbrev hbmTy0_0 (i : Nat) : BufTy := match i % 128 with
  | 0 => ⟨S16896x1024, .f32⟩
  | 1 => ⟨S16x6x1024, .f32⟩
  | 2 => ⟨S1024, .f32⟩
  | 3 => ⟨S1024x5120, .f32⟩
  | 4 => ⟨S2x2x1024, .f32⟩
  | 5 => ⟨S_, .f32⟩
  | 6 => ⟨S2x1024, .f32⟩
  | 7 => ⟨S_, .f32⟩
  | 8 => ⟨S2x1024, .f32⟩
  | 9 => ⟨S2x1024, .f32⟩
  | 10 => ⟨S1x2x1024, .f32⟩
  | 11 => ⟨S2x2x1024, .f32⟩
  | 12 => ⟨S2x2x1024, .f32⟩
  | 13 => ⟨S2x2x1024, .f32⟩
  | 14 => ⟨S_, .f32⟩
  | 15 => ⟨S2x1024, .f32⟩
  | 16 => ⟨S1x2x1024, .f32⟩
  | 17 => ⟨S2x2x1024, .f32⟩
  | 18 => ⟨S2x2x1024, .f32⟩
  | 19 => ⟨S_, .f32⟩
  | 20 => ⟨S2x1024, .f32⟩
  | 21 => ⟨S1x2x1024, .f32⟩
  | 22 => ⟨S2x1024, .f32⟩
  | 23 => ⟨S2x1024, .f32⟩
  | 24 => ⟨S16896x1024, .f32⟩
  | 25 => ⟨S_, .f32⟩
  | 26 => ⟨S16896, .f32⟩
  | 27 => ⟨S16896x1, .f32⟩
  | 28 => ⟨S_, .f32⟩
  | 29 => ⟨S16896x1, .f32⟩
  | 30 => ⟨S16896x1, .f32⟩
  | 31 => ⟨S_, .f32⟩
  | 32 => ⟨S16896x1, .f32⟩
  | 33 => ⟨S16896x1, .f32⟩
  | 34 => ⟨S16896x1, .f32⟩
  | 35 => ⟨S16896x1024, .f32⟩
  | 36 => ⟨S16896x1024, .f32⟩
  | 37 => ⟨S1x1024, .f32⟩
  | 38 => ⟨S16896x1024, .f32⟩
  | 39 => ⟨S16896x1024, .f32⟩
  | 40 => ⟨S1x1x1024, .f32⟩
  | 41 => ⟨S1024, .f32⟩
  | 42 => ⟨S8192x1024, .f32⟩
  | 43 => ⟨S1x1x1024, .f32⟩
  | 44 => ⟨S1024, .f32⟩
  | 45 => ⟨S8192x1024, .f32⟩
  | 46 => ⟨S1x1x1024, .f32⟩
  | 47 => ⟨S1024, .f32⟩
  | 48 => ⟨S512x1024, .f32⟩
  | 49 => ⟨S16896x1024, .f32⟩
  | 50 => ⟨S_, .f32⟩
  | 51 => ⟨S16896x1024, .f32⟩
  | 52 => ⟨S16896x1024, .f32⟩
  | 53 => ⟨S16896x1024, .f32⟩
  | 54 => ⟨S1x1x1024, .f32⟩
  | 55 => ⟨S1024, .f32⟩
  | 56 => ⟨S8192x1024, .f32⟩
  | 57 => ⟨S1x1x1024, .f32⟩
  | 58 => ⟨S1024, .f32⟩
  | 59 => ⟨S8192x1024, .f32⟩
  | 60 => ⟨S1x1x1024, .f32⟩
  | 61 => ⟨S1024, .f32⟩
  | 62 => ⟨S512x1024, .f32⟩
  | 63 => ⟨S16896x1024, .f32⟩
  | 64 => ⟨S16896x1024, .f32⟩
  | 65 => ⟨S16896x5120, .f32⟩
  | 66 => ⟨S16896x1024, .f32⟩
  | 67 => ⟨S16896x1024, .f32⟩
  | 68 => ⟨S16896x1024, .f32⟩
  | 69 => ⟨S16896x1024, .f32⟩
  | 70 => ⟨S16896x1024, .f32⟩
  | 71 => ⟨S1x1024, .f32⟩
  | 72 => ⟨S1024, .f32⟩
  | 73 => ⟨S1x1024, .f32⟩
  | 74 => ⟨S1024, .f32⟩
  | 75 => ⟨S_, .f32⟩
  | 76 => ⟨S1024, .f32⟩
  | 77 => ⟨S1024, .f32⟩
  | 78 => ⟨S16896x1024, .f32⟩
  | 79 => ⟨S16896x1024, .f32⟩
  | 80 => ⟨S_, .f32⟩
  | 81 => ⟨S16896x1024, .f32⟩
  | 82 => ⟨S16896x1024, .f32⟩
  | 83 => ⟨S_, .f32⟩
  | 84 => ⟨S16896x1024, .f32⟩
  | 85 => ⟨S16896x1024, .f32⟩
  | 86 => ⟨S1x1024, .f32⟩
  | 87 => ⟨S16896x1024, .f32⟩
  | 88 => ⟨S16896x1024, .f32⟩
  | 89 => ⟨S1x1024, .f32⟩
  | 90 => ⟨S16896x1024, .f32⟩
  | 91 => ⟨S16896x1024, .f32⟩
  | 92 => ⟨S1x1024, .f32⟩
  | 93 => ⟨S1024, .f32⟩
  | 94 => ⟨S1x1024, .f32⟩
  | 95 => ⟨S1024, .f32⟩
  | 96 => ⟨S_, .f32⟩
  | 97 => ⟨S1024, .f32⟩
  | 98 => ⟨S1024, .f32⟩
  | 99 => ⟨S16896x1024, .f32⟩
  | 100 => ⟨S16896x1024, .f32⟩
  | 101 => ⟨S_, .f32⟩
  | 102 => ⟨S16896x1024, .f32⟩
  | 103 => ⟨S16896x1024, .f32⟩
  | 104 => ⟨S_, .f32⟩
  | 105 => ⟨S16896x1024, .f32⟩
  | 106 => ⟨S16896x1024, .f32⟩
  | 107 => ⟨S1x1024, .f32⟩
  | 108 => ⟨S16896x1024, .f32⟩
  | 109 => ⟨S16896x1024, .f32⟩
  | 110 => ⟨S1x1024, .f32⟩
  | 111 => ⟨S16896x1024, .f32⟩
  | 112 => ⟨S16896x1024, .f32⟩
  | 113 => ⟨S16896x1024, .f32⟩
  | 114 => ⟨S16896x1024, .f32⟩
  | 115 => ⟨S_, .f32⟩
  | 116 => ⟨S16896x1024, .f32⟩
  | 117 => ⟨S16896x1024, .f32⟩
  | 118 => ⟨S_, .f32⟩
  | 119 => ⟨S16896x1024, .f32⟩
  | 120 => ⟨S16896x1024, .f32⟩
  | 121 => ⟨S16896x1024, .f32⟩
  | 122 => ⟨S16896x8x128, .f32⟩
  | 123 => ⟨S8x16896x128, .f32⟩
  | 124 => ⟨S16896x8x128, .f32⟩
  | 125 => ⟨S8x16896x128, .f32⟩
  | 126 => ⟨S16896x8x128, .f32⟩
  | 127 => ⟨S8x16896x128, .f32⟩
  | _ => ⟨S16896x1024, .f32⟩

abbrev hbmTy0_1 (i : Nat) : BufTy := match i % 128 with
  | 0 => ⟨S16896x8x128, .f32⟩
  | 1 => ⟨S8x16896x128, .f32⟩
  | 2 => ⟨S16896x1024, .f32⟩
  | 3 => ⟨S16896x1024, .f32⟩
  | 4 => ⟨S_, .f32⟩
  | 5 => ⟨S16896x1024, .f32⟩
  | 6 => ⟨S16896x1024, .f32⟩
  | 7 => ⟨S_, .f32⟩
  | 8 => ⟨S16896x1024, .f32⟩
  | 9 => ⟨S16896x1024, .f32⟩
  | 10 => ⟨S16896x1024, .f32⟩
  | 11 => ⟨S16896x1024, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_cst_12 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_call1_v5 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== Kernel3.lean ====
abbrev S16896x1024 : Shape := ⟨2, ![16896, 1024]⟩
abbrev S16x6x1024 : Shape := ⟨3, ![16, 6, 1024]⟩
abbrev S1024 : Shape := ⟨1, ![1024]⟩
abbrev S1024x1024 : Shape := ⟨2, ![1024, 1024]⟩
abbrev S1x1024 : Shape := ⟨2, ![1, 1024]⟩
abbrev S16384x1024 : Shape := ⟨2, ![16384, 1024]⟩
abbrev S512x1024 : Shape := ⟨2, ![512, 1024]⟩
abbrev S1x6x1024 : Shape := ⟨3, ![1, 6, 1024]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S16896x1024, .f32⟩
  | .hbm, ⟨4, _⟩ => ⟨S16x6x1024, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S1x6x1024, .f32⟩
  | .local _ .vmem, ⟨11, _⟩ => ⟨S1x6x1024, .f32⟩
  | .local _ .vmem, ⟨12, _⟩ => ⟨S512x1024, .f32⟩
  | .local _ .vmem, ⟨13, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c64_i32 : BitVec 32 := 64#32
  let v1 : BitVec 1 := Scalar.cmpi .slt v0 c64_i32
  let c32_i32 : BitVec 32 := 32#32
  let v2 : BitVec 32 := Scalar.divsi v0 c32_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v0 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.select v1 v18 c2_i32_4
  let c8_i32 : BitVec 32 := 8#32
  let v20 : BitVec 32 := Scalar.addi c8_i32 v19
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16896x1024 : Shape := ⟨2, ![16896, 1024]⟩
abbrev S16x6x1024 : Shape := ⟨3, ![16, 6, 1024]⟩
abbrev S1024 : Shape := ⟨1, ![1024]⟩
abbrev S1024x1024 : Shape := ⟨2, ![1024, 1024]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S8x128 : Shape := ⟨2, ![8, 128]⟩
abbrev S1x8x128 : Shape := ⟨3, ![1, 8, 128]⟩
abbrev S1x1x1024 : Shape := ⟨3, ![1, 1, 1024]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S16896x1024, .f32⟩
  | .hbm, ⟨4, _⟩ => ⟨S16x6x1024, .f32⟩
  | .hbm, ⟨5, _⟩ => ⟨S1024, .f32⟩
  | .hbm, ⟨6, _⟩ => ⟨S1024x1024, .f32⟩
  | .hbm, ⟨7, _⟩ => ⟨S16896x1024, .f32⟩
  | .hbm, ⟨8, _⟩ => ⟨S16896x1024, .f32⟩
  | .hbm, ⟨9, _⟩ => ⟨S16896x1024, .f32⟩
  | .hbm, ⟨10, _⟩ => ⟨S16384x1024, .f32⟩
  | .hbm, ⟨11, _⟩ => ⟨S16384x8x128, .f32⟩
  | .hbm, ⟨12, _⟩ => ⟨S16384x8x128, .f32⟩
  | .hbm, ⟨13, _⟩ => ⟨S_, .f32⟩
  | .hbm, ⟨14, _⟩ => ⟨S16384x8, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S16384x8x1, .f32⟩
  | .hbm, ⟨23, _⟩ => ⟨S16384x8x128, .f32⟩
  | .hbm, ⟨24, _⟩ => ⟨S16384x8x128, .f32⟩
  | .hbm, ⟨25, _⟩ => ⟨S8x128, .f32⟩
  | .hbm, ⟨26, _⟩ => ⟨S1x8x128, .f32⟩
  | .hbm, ⟨27, _⟩ => ⟨S16384x8x128, .f32⟩
  | .hbm, ⟨28, _⟩ => ⟨S16384x8x128, .f32⟩
  | .hbm, ⟨29, _⟩ => ⟨S16384x1024, .f32⟩
  | .hbm, ⟨30, _⟩ => ⟨S16384x1024, .bf16⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1x1024, .f32⟩
  | .hbm, ⟨35, _⟩ => ⟨S1024, .f32⟩
  | .hbm, ⟨36, _⟩ => ⟨S8192x1024, .f32⟩
  | .hbm, ⟨37, _⟩ => ⟨S1x1x1024, .f32⟩
  | .hbm, ⟨38, _⟩ => ⟨S1024, .f32⟩
  | .hbm, ⟨39, _⟩ => ⟨S8192x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Slots.lean ====
/-
  The two weight slots of the expert kernel: the names of their windows, of the experts' blocks in the two weight
  arrays and of the four transfer semaphores; what a core holds of a slot when nothing is in flight to it and when an
  expert's two blocks are in flight to it; and the two program pieces over them, the issue of an expert's two
  transfers and the two waits, with the rule of each.
-/
module

public import proofs.«01_k».proof.Proof.Gen.KernelIdeal.Skeleton
public import Idealize.ShloMosaic.Lib.Tactic
public import Idealize.ShloMosaic.Lib.Pipeline.Kit

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds beside the counters of the kernel's own transfers. -/
abbrev UU (nD : Nat) (τ : Topo) : Type := UR sig nD τ × Counters

local notation "𝕄" => MT nD τ sig Unit (Elt F) ℕ (UU nD τ) ℕ

/-- The contents type of a memref's buffer on a core. -/
abbrev Bf (c : Dev nD) {sp : Space} {S : Shape} {e : EltTy} (M : Memref sig .tc sp S e) : Type := Buf (Elt F) (M.view.loc (c : Thread nD τ))
/-- A memref's buffer held whole. -/
abbrev pt (c : Dev nD) {sp : Space} {S : Shape} {e : EltTy} (M : Memref sig .tc sp S e) (f : Bf (F := F) c M) : sProp 𝕄 :=
  M.view.loc (c : Thread nD τ) ↦{fullShare} f
/-- A memref's own elements held. -/
abbrev own (c : Dev nD) {sp : Space} {S : Shape} {e : EltTy} (M : Memref sig .tc sp S e) (f : Bf (F := F) c M) : sProp 𝕄 :=
  M.view.loc (c : Thread nD τ) ↦[M.view.set]{fullShare} f
/-- A memref's buffer held but for the memref's own elements. -/
abbrev rest (c : Dev nD) {sp : Space} {S : Shape} {e : EltTy} (M : Memref sig .tc sp S e) (f : Bf (F := F) c M) : sProp 𝕄 :=
  M.view.loc (c : Thread nD τ) ↦[Finset.univ \ M.view.set]{fullShare} f

theorem block_split (c : Dev nD) {sp : Space} {S : Shape} {e : EltTy} (M : Memref sig .tc sp S e) (f : Bf (F := F) c M) :
    pt c M f ⊢ iprop(own c M f ∗ rest c M f) := (pointsTo_split_subset (Finset.subset_univ M.view.set)).1
theorem block_join (c : Dev nD) {sp : Space} {S : Shape} {e : EltTy} (M : Memref sig .tc sp S e) (f : Bf (F := F) c M) :
    iprop(own c M f ∗ rest c M f) ⊢ pt c M f := (pointsTo_split_subset (Finset.subset_univ M.view.set)).2

theorem sl1_inb (s : Fin 2) : ∀ a, (![s.val, 0, 0] : Fin 3 → ℕ) a + S1x1024x2048.size a ≤ S2x1024x2048.size a := by
  revert s; decide
theorem sl2_inb (s : Fin 2) : ∀ a, (![s.val, 0, 0] : Fin 3 → ℕ) a + S1x1024x1024.size a ≤ S2x1024x1024.size a := by
  revert s; decide
theorem src1_inb (e : Fin 32) : ∀ a, (![0, e.val, 0, 0] : Fin 4 → ℕ) a + S1x1x1024x2048.size a ≤ S2x32x1024x2048.size a := by
  revert e; decide
theorem src2_inb (e : Fin 32) : ∀ a, (![0, e.val, 0, 0] : Fin 4 → ℕ) a + S1x1x1024x1024.size a ≤ S2x32x1024x1024.size a := by
  revert e; decide
theorem sem_inb (b s : Fin 2) : ∀ a, (![b.val, s.val] : Fin 2 → ℕ) a + S1x1.size a ≤ S2x2.size a := by
  revert b s; decide

/-- Slot `s` of the first weights' scratch. -/
abbrev sl1 (s : Fin 2) : Memref sig .tc .vmem S1024x2048 .f32 :=
  ((Memref.whole cc0_scratch0).slice (Rect.unit (s := S2x1024x2048) ![s.val, 0, 0] S1x1024x2048.size (sl1_inb s)) (fun _ => rfl)).squeeze S1024x2048 squeezes_S1x1024x2048_S1024x2048
/-- Slot `s` of the second weights' scratch. -/
abbrev sl2 (s : Fin 2) : Memref sig .tc .vmem S1024x1024 .f32 :=
  ((Memref.whole cc0_scratch1).slice (Rect.unit (s := S2x1024x1024) ![s.val, 0, 0] S1x1024x1024.size (sl2_inb s)) (fun _ => rfl)).squeeze S1024x1024 squeezes_S1x1024x1024_S1024x1024
/-- Expert `e`'s block of the first weights. -/
abbrev src1 (e : Fin 32) : Memref sig .tc .hbm S1024x2048 .f32 :=
  ((Memref.whole main_arg2).slice (Rect.unit (s := S2x32x1024x2048) ![0, e.val, 0, 0] S1x1x1024x2048.size (src1_inb e)) (fun _ => rfl)).squeeze S1024x2048 squeezes_S1x1x1024x2048_S1024x2048
/-- Expert `e`'s block of the second weights. -/
abbrev src2 (e : Fin 32) : Memref sig .tc .hbm S1024x1024 .f32 :=
  ((Memref.whole main_arg4).slice (Rect.unit (s := S2x32x1024x1024) ![0, e.val, 0, 0] S1x1x1024x1024.size (src2_inb e)) (fun _ => rfl)).squeeze S1024x1024 squeezes_S1x1x1024x1024_S1024x1024
/-- The semaphore of the transfers of weights `b` into slot `s`. -/
abbrev sem (b s : Fin 2) : DmaSem sig :=
  ((cc0_scratch4.slice (Rect.unit (s := S2x2) ![b.val, s.val] S1x1.size (sem_inb b s))).squeeze S_ squeezes_S1x1_S_).sem

/-- Nothing in flight to slot `s`: its two windows held and its two semaphores at zero. -/
def free (c : Dev nD) (s : Fin 2) (g1 : Bf (F := F) c (sl1 s)) (g2 : Bf (F := F) c (sl2 s)) : sProp 𝕄 :=
  iprop(own c (sl1 s) g1 ∗ own c (sl2 s) g2 ∗ semVal ((c : Thread nD τ), SemLoc.dma (sem 0 s)) 0 ∗ semVal ((c : Thread nD τ), SemLoc.dma (sem 1 s)) 0)

/-- The two weight arrays at home. -/
def home (c : Dev nD) (W1 : Bf (F := F) c (Memref.whole main_arg2)) (W2 : Bf (F := F) c (Memref.whole main_arg4)) : sProp 𝕄 :=
  iprop(pt c (Memref.whole main_arg2) W1 ∗ pt c (Memref.whole main_arg4) W2)

/-- What lands in slot `s` of the first weights when expert `e`'s block is copied over `g`. -/
def land1 (c : Dev nD) (s : Fin 2) (e : Fin 32) (g : Bf (F := F) c (sl1 s)) (W : Bf (F := F) c (Memref.whole main_arg2)) : Bf (F := F) c (sl1 s) :=
  (sl1 s).view.write (Elt F) g (ReadAs.same.apply ((src1 e).view.read (Elt F) W)) Finset.univ
/-- The same for the second weights. -/
def land2 (c : Dev nD) (s : Fin 2) (e : Fin 32) (g : Bf (F := F) c (sl2 s)) (W : Bf (F := F) c (Memref.whole main_arg4)) : Bf (F := F) c (sl2 s) :=
  (sl2 s).view.write (Elt F) g (ReadAs.same.apply ((src2 e).view.read (Elt F) W)) Finset.univ

/-- Expert `e`'s two blocks in flight to slot `s`, the rest of the weight arrays at home. -/
def flying (c : Dev nD) (s : Fin 2) (e : Fin 32) (g1 : Bf (F := F) c (sl1 s)) (g2 : Bf (F := F) c (sl2 s))
    (W1 : Bf (F := F) c (Memref.whole main_arg2)) (W2 : Bf (F := F) c (Memref.whole main_arg4)) : sProp 𝕄 :=
  iprop(Transfers.Flight (countersEmb (U := UU nD τ)) (c : Thread nD τ) (.dma (sem 0 s)) () (sl1 s).view.dmaCredit
        iprop(own c (sl1 s) (land1 c s e g1 W1) ∗ own c (src1 e) W1)
    ∗ Transfers.Flight (countersEmb (U := UU nD τ)) (c : Thread nD τ) (.dma (sem 1 s)) () (sl2 s).view.dmaCredit
        iprop(own c (sl2 s) (land2 c s e g2 W2) ∗ own c (src2 e) W2)
    ∗ rest c (src1 e) W1 ∗ rest c (src2 e) W2)

/-- Issue expert `e`'s two transfers into slot `s`, then `k`. -/
abbrev issueP (s : Fin 2) (e : Fin 32) {α : Type} (k : PUnit → Prog (TpuEff nD τ sig (Elt F) Λ₀ .tc) α) : Prog (TpuEff nD τ sig (Elt F) Λ₀ .tc) α :=
  .op (.enqueueDma (src1 e) (.here (sl1 s)) (.dma (sem 0 s)) ((View.wordExact_bits rfl).reshape _ _) ((View.wordExact_bits rfl).reshape _ _) ⟨Or.inl rfl, trivial⟩) fun _ =>
  .op (.enqueueDma (src2 e) (.here (sl2 s)) (.dma (sem 1 s)) ((View.wordExact_bits rfl).reshape _ _) ((View.wordExact_bits rfl).reshape _ _) ⟨Or.inl rfl, trivial⟩) k

/-- Wait for slot `s`'s two transfers, then `k`. -/
abbrev collectP (s : Fin 2) (e : Fin 32) {α : Type} (k : PUnit → Prog (TpuEff nD τ sig (Elt F) Λ₀ .tc) α) : Prog (TpuEff nD τ sig (Elt F) Λ₀ .tc) α :=
  .op (.waitDma2 (sem 0 s) (src1 e) (sl1 s) ((View.wordExact_bits rfl).reshape _ _) ((View.wordExact_bits rfl).reshape _ _)) fun _ =>
  .op (.waitDma2 (sem 1 s) (src2 e) (sl2 s) ((View.wordExact_bits rfl).reshape _ _) ((View.wordExact_bits rfl).reshape _ _)) k

theorem issue_run (c : Dev nD) (s : Fin 2) (e : Fin 32) (g1 : Bf (F := F) c (sl1 s)) (g2 : Bf (F := F) c (sl2 s))
    (W1 : Bf (F := F) c (Memref.whole main_arg2)) (W2 : Bf (F := F) c (Memref.whole main_arg4))
    {α : Type} (k : PUnit → Prog (TpuEff nD τ sig (Elt F) Λ₀ .tc) α) (Q : α → sProp 𝕄) :
    iprop(home c W1 W2 ∗ free c s g1 g2)
    ⊢ iprop((flying c s e g1 g2 W1 W2 -∗ wp frame (wpE (defs₀ (F := F)) Variants.none c none) Set.univ (k ⟨⟩) Q)
      -∗ wp frame (wpE (defs₀ (F := F)) Variants.none c none) Set.univ (issueP s e k) Q) := by
  unfold home free flying issueP
  iintro ⟨⟨HW1, HW2⟩, ⟨H1, H2, Hs1, Hs2⟩⟩ Hk
  ihave HW1' := (block_split c (src1 e) W1) $$ HW1
  icases HW1' with ⟨HW1, HR1⟩
  ihave HW2' := (block_split c (src2 e) W2) $$ HW2
  icases HW2' with ⟨HW2, HR2⟩
  iapply (Transfers.wp_dmaLocal (countersEmb (U := UU nD τ)) Variants.none (c : Thread nD τ) none () ((sl1 s).view.dmaCredit) rfl (View.dmaCredit_pos _ h_S1024x2048) (Finset.Subset.refl _)) $$ [HW1 H1 Hs1]
  · isplitl [HW1]; · iexact HW1
    isplitl [H1]; · iexact H1
    iexact Hs1
  iintro HF1
  iapply (Transfers.wp_dmaLocal (countersEmb (U := UU nD τ)) Variants.none (c : Thread nD τ) none () ((sl2 s).view.dmaCredit) rfl (View.dmaCredit_pos _ h_S1024x1024) (Finset.Subset.refl _)) $$ [HW2 H2 Hs2]
  · isplitl [HW2]; · iexact HW2
    isplitl [H2]; · iexact H2
    iexact Hs2
  iintro HF2
  iapply Hk
  isplitl [HF1]; · iexact HF1
  isplitl [HF2]; · iexact HF2
  isplitl [HR1]; · iexact HR1
  iexact HR2

theorem collect_run (c : Dev nD) (s : Fin 2) (e : Fin 32) (g1 : Bf (F := F) c (sl1 s)) (g2 : Bf (F := F) c (sl2 s))
    (W1 : Bf (F := F) c (Memref.whole main_arg2)) (W2 : Bf (F := F) c (Memref.whole main_arg4)) (W : Waits sig Unit)
    {α : Type} (k : PUnit → Prog (TpuEff nD τ sig (Elt F) Λ₀ .tc) α) (Q : α → sProp 𝕄) :
    iprop(flying c s e g1 g2 W1 W2 ∗ owes (c : Thread nD τ) 0 W)
    ⊢ iprop((iprop(home c W1 W2 ∗ free c s (land1 c s e g1 W1) (land2 c s e g2 W2) ∗ ∃ W', owes (c : Thread nD τ) 0 W')
        -∗ wp frame (wpE (defs₀ (F := F)) Variants.none c none) Set.univ (k ⟨⟩) Q)
      -∗ wp frame (wpE (defs₀ (F := F)) Variants.none c none) Set.univ (collectP s e k) Q) := by
  unfold home free flying collectP
  iintro ⟨⟨HF1, HF2, HR1, HR2⟩, HO⟩ Hk
  iapply (Transfers.wp_waitLocal (countersEmb (U := UU nD τ)) Variants.none (c : Thread nD τ) none () rfl) $$ [HF1 HO]
  · isplitl [HF1]; · iexact HF1
    iexact HO
  iintro ⟨⟨H1, HW1⟩, Hs1, HO⟩
  iapply (Transfers.wp_waitLocal (countersEmb (U := UU nD τ)) Variants.none (c : Thread nD τ) none () rfl) $$ [HF2 HO]
  · isplitl [HF2]; · iexact HF2
    iexact HO
  iintro ⟨⟨H2, HW2⟩, Hs2, HO⟩
  iapply Hk
  isplitl [HW1 HR1 HW2 HR2]
  · isplitl [HW1 HR1]
    · iapply (block_join c (src1 e) W1)
      isplitl [HW1] <;> iassumption
    · iapply (block_join c (src2 e) W2)
      isplitl [HW2] <;> iassumption
  isplitl [H1 H2 Hs1 Hs2]
  · isplitl [H1]; · iexact H1
    isplitl [H2]; · iexact H2
    isplitl [Hs1] <;> iassumption
  iexists _; iexact HO

end Cert.Proof.Experts

end
-- ==== Proof.Head.lean ====
/-
  The first part of the expert kernel's body at a grid point: at the first point the issue of the first expert's
  weights; at the first block of an expert the two waits, the casts of its weights into the kept scratch, and the
  issue of the next expert's weights.
-/
module

public import proofs.«01_k».proof.Proof.Slots
public import Idealize.ShloMosaic.Lib.Pipeline.Value

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A memref's buffer held whole at the share the region hands a table at. -/
abbrev tb (c : Dev nD) {sp : Space} {S : Shape} {e : EltTy} (M : Memref sig .tc sp S e) (f : Bf (F := F) c M) : sProp 𝕄 :=
  M.view.loc (c : Thread nD τ) ↦{fullShare.right} f

/-- The word of a table at a one-element rectangle. -/
abbrev wordAt (c : Dev nD) {S : Shape} (M : Memref sig .tc .smem S .i32) (f : Bf (F := F) c M) (r : Rect S) (h1 : r.shape.numel = 1) : BitVec 32 :=
  (M.access r).read (Elt F) f (Shape.Idx.first (h1.symm ▸ Nat.one_pos))

theorem smem_run (c : Dev nD) {S : Shape} (M : Memref sig .tc .smem S .i32) (f : Bf (F := F) c M) (r : Rect S) (h1 : r.shape.numel = 1)
    (hp : EltTy.i32.packing = 1) (w : BitVec 32) (hw : wordAt c M f r h1 = w)
    {α : Type} (k : Elt F .i32 → Prog (TpuEff nD τ sig (Elt F) Λ₀ .tc) α) (Q : α → sProp 𝕄) :
    tb c M f ⊢ iprop((tb c M f -∗ wp frame (wpE (defs₀ (F := F)) Variants.none c none) Set.univ (k w) Q)
      -∗ wp frame (wpE (defs₀ (F := F)) Variants.none c none) Set.univ (smemLoad M r h1 hp >>= k) Q) := by
  subst hw
  exact wp_smemLoadElt Variants.none (c : Thread nD τ) none Set.univ (m := M) (r := r) (hw := View.loads_smem_one hp h1) (k := k) (Finset.subset_univ _)

theorem assume_run (c : Dev nD) {P : Prop} (d : Decidable P) (h : P)
    {α : Type} (k : PLift P → Prog (TpuEff nD τ sig (Elt F) Λ₀ .tc) α) (Q : α → sProp 𝕄) :
    wp frame (wpE (defs₀ (F := F)) Variants.none c none) Set.univ (k ⟨h⟩) Q
      ⊢ wp frame (wpE (defs₀ (F := F)) Variants.none c none) Set.univ (Prog.lift (TpuEff.assume P d) >>= k) Q :=
  wp_assume Variants.none (c : Thread nD τ) none Set.univ h

/-- An expert's first weights at the matrix unit's type. -/
def cast1 (c : Dev nD) (W : Bf (F := F) c (Memref.whole main_arg2)) (e : Fin 32) : FVec F S1024x2048 .bf16 :=
  truncf .bf16 ((src1 e).view.read (Elt F) W) bitsLt_bf16_f32
/-- An expert's second weights at the matrix unit's type. -/
def cast2 (c : Dev nD) (W : Bf (F := F) c (Memref.whole main_arg4)) (e : Fin 32) : FVec F S1024x1024 .bf16 :=
  truncf .bf16 ((src2 e).view.read (Elt F) W) bitsLt_bf16_f32

/-- The kept casts of expert `e`'s weights. -/
def casts (c : Dev nD) (W1 : Bf (F := F) c (Memref.whole main_arg2)) (W2 : Bf (F := F) c (Memref.whole main_arg4)) (e : Fin 32) : sProp 𝕄 :=
  iprop(pt c (Memref.whole cc0_scratch2) (cast1 c W1 e) ∗ pt c (Memref.whole cc0_scratch3) (cast2 c W2 e))

theorem slot_load1 (c : Dev nD) (s : Fin 2) (f : Bf (F := F) c (sl1 s)) (off : Fin 3 → ℕ) (ho : off = ![s.val, 0, 0])
    (inb : ∀ a, off a + S1x1024x2048.size a ≤ S2x1024x2048.size a) (hl)
    {α : Type} (k : Vec F S1x1024x2048 .f32 → Prog (TpuEff nD τ sig (Elt F) Λ₀ .tc) α) (Q : α → sProp 𝕄) :
    own c (sl1 s) f ⊢ iprop((own c (sl1 s) f -∗ ∀ v, ⌜shapeCast S1024x2048 v shapeCasts_S1x1024x2048_S1024x2048 = (sl1 s).view.read (Elt F) f⌝ -∗
          wp frame (wpE (defs₀ (F := F)) Variants.none c none) Set.univ (k v) Q)
      -∗ wp frame (wpE (defs₀ (F := F)) Variants.none c none) Set.univ
        (Prog.lift (.load (Memref.whole cc0_scratch0) (Rect.unit (s := S2x1024x2048) off S1x1024x2048.size inb).toLoadRect hl) >>= k) Q) := by
  subst ho
  iintro H Hk
  iapply (wp_load Variants.none (c : Thread nD τ) none Set.univ (m := Memref.whole cc0_scratch0)
    (r := (Rect.unit (s := S2x1024x2048) ![s.val, 0, 0] S1x1024x2048.size inb).toLoadRect) (k := k) (S := (sl1 s).view.set)
    (by rw [View.set_reshape, View.set_slice]; exact Finset.Subset.refl _)) $$ H
  iintro H
  iapply Hk $$ H
  ipureintro
  exact (Memref.read_squeeze_slice (Memref.whole cc0_scratch0) _ (fun _ => rfl) squeezes_S1x1024x2048_S1024x2048 shapeCasts_S1x1024x2048_S1024x2048 f).symm

theorem slot_load2 (c : Dev nD) (s : Fin 2) (f : Bf (F := F) c (sl2 s)) (off : Fin 3 → ℕ) (ho : off = ![s.val, 0, 0])
    (inb : ∀ a, off a + S1x1024x1024.size a ≤ S2x1024x1024.size a) (hl)
    {α : Type} (k : Vec F S1x1024x1024 .f32 → Prog (TpuEff nD τ sig (Elt F) Λ₀ .tc) α) (Q : α → sProp 𝕄) :
    own c (sl2 s) f ⊢ iprop((own c (sl2 s) f -∗ ∀ v, ⌜shapeCast S1024x1024 v shapeCasts_S1x1024x1024_S1024x1024 = (sl2 s).view.read (Elt F) f⌝ -∗
          wp frame (wpE (defs₀ (F := F)) Variants.none c none) Set.univ (k v) Q)
      -∗ wp frame (wpE (defs₀ (F := F)) Variants.none c none) Set.univ
        (Prog.lift (.load (Memref.whole cc0_scratch1) (Rect.unit (s := S2x1024x1024) off S1x1024x1024.size inb).toLoadRect hl) >>= k) Q) := by
  subst ho
  iintro H Hk
  iapply (wp_load Variants.none (c : Thread nD τ) none Set.univ (m := Memref.whole cc0_scratch1)
    (r := (Rect.unit (s := S2x1024x1024) ![s.val, 0, 0] S1x1024x1024.size inb).toLoadRect) (k := k) (S := (sl2 s).view.set)
    (by rw [View.set_reshape, View.set_slice]; exact Finset.Subset.refl _)) $$ H
  iintro H
  iapply Hk $$ H
  ipureintro
  exact (Memref.read_squeeze_slice (Memref.whole cc0_scratch1) _ (fun _ => rfl) squeezes_S1x1024x1024_S1024x1024 shapeCasts_S1x1024x1024_S1024x1024 f).symm

/-- A load of a scratch whose value nothing reads. -/
theorem any_load (c : Dev nD) {cs : CoreSpace} {S : Shape} {e : EltTy} (M : Memref sig .tc cs S e) (r : LoadRect S) (hl) (f : Bf (F := F) c M)
    {α : Type} (k : (r.shape.Idx → Elt F e) → Prog (TpuEff nD τ sig (Elt F) Λ₀ .tc) α) (Q : α → sProp 𝕄) :
    pt c M f ⊢ iprop((pt c M f -∗ ∀ v, wp frame (wpE (defs₀ (F := F)) Variants.none c none) Set.univ (k v) Q)
      -∗ wp frame (wpE (defs₀ (F := F)) Variants.none c none) Set.univ (Prog.lift (.load M r hl) >>= k) Q) := by
  iintro H Hk
  iapply (wp_load Variants.none (c : Thread nD τ) none Set.univ (m := M) (r := r) (k := k) (Finset.subset_univ _)) $$ H
  iintro H
  iapply Hk $$ H

/-! Stores over a whole scratch. -/

theorem store2 (c : Dev nD) (f w : Bf (F := F) c (Memref.whole cc0_scratch2)) (inb) (hx) (hm)
    {α : Type} (k : PUnit → Prog (TpuEff nD τ sig (Elt F) Λ₀ .tc) α) (Q : α → sProp 𝕄) :
    pt c (Memref.whole cc0_scratch2) f ⊢ iprop((pt c (Memref.whole cc0_scratch2) w -∗ wp frame (wpE (defs₀ (F := F)) Variants.none c none) Set.univ (k ⟨⟩) Q)
      -∗ wp frame (wpE (defs₀ (F := F)) Variants.none c none) Set.univ
        (Prog.lift (.store (Memref.whole cc0_scratch2) (Rect.unit (s := S1024x2048) ![0, 0] S1024x2048.size inb) w Finset.univ hx hm) >>= k) Q) := by
  iintro H Hk
  iapply (wp_store Variants.none (c : Thread nD τ) none Set.univ (m := Memref.whole cc0_scratch2)
    (r := Rect.unit (s := S1024x2048) ![0, 0] S1024x2048.size inb) (w := w) (Mk := Finset.univ) (k := k) (Finset.subset_univ _)) $$ H
  iintro H
  iapply Hk
  rw [show ((Memref.whole cc0_scratch2).access (Rect.unit (s := S1024x2048) ![0, 0] S1024x2048.size inb)).write (Elt F) f w Finset.univ = w from
    Memref.write_access_unit_zero_univ (Elt F) cc0_scratch2 (off := ![0, 0]) (by funext a; fin_cases a <;> rfl) inb f w]
  iexact H

theorem store3 (c : Dev nD) (f w : Bf (F := F) c (Memref.whole cc0_scratch3)) (inb) (hx) (hm)
    {α : Type} (k : PUnit → Prog (TpuEff nD τ sig (Elt F) Λ₀ .tc) α) (Q : α → sProp 𝕄) :
    pt c (Memref.whole cc0_scratch3) f ⊢ iprop((pt c (Memref.whole cc0_scratch3) w -∗ wp frame (wpE (defs₀ (F := F)) Variants.none c none) Set.univ (k ⟨⟩) Q)
      -∗ wp frame (wpE (defs₀ (F := F)) Variants.none c none) Set.univ
        (Prog.lift (.store (Memref.whole cc0_scratch3) (Rect.unit (s := S1024x1024) ![0, 0] S1024x1024.size inb) w Finset.univ hx hm) >>= k) Q) := by
  iintro H Hk
  iapply (wp_store Variants.none (c : Thread nD τ) none Set.univ (m := Memref.whole cc0_scratch3)
    (r := Rect.unit (s := S1024x1024) ![0, 0] S1024x1024.size inb) (w := w) (Mk := Finset.univ) (k := k) (Finset.subset_univ _)) $$ H
  iintro H
  iapply Hk
  rw [show ((Memref.whole cc0_scratch3).access (Rect.unit (s := S1024x1024) ![0, 0] S1024x1024.size inb)).write (Elt F) f w Finset.univ = w from
    Memref.write_access_unit_zero_univ (Elt F) cc0_scratch3 (off := ![0, 0]) (by funext a; fin_cases a <;> rfl) inb f w]
  iexact H

theorem pay17_eq (c : Dev nD) (s : Fin 2) (e : Fin 32) (g : Bf (F := F) c (sl1 s)) (W : Bf (F := F) c (Memref.whole main_arg2)) (v : Vec F S1x1024x2048 .f32)
    (hv : shapeCast S1024x2048 v shapeCasts_S1x1024x2048_S1024x2048 = (sl1 s).view.read (Elt F) (land1 c s e g W)) :
    k0_pay17 v = cast1 c W e := by
  unfold k0_pay17 cast1
  dsimp only
  rw [hv, land1, View.read_write_univ]
  exact shapeCast_self _ _

theorem pay18_eq (c : Dev nD) (s : Fin 2) (e : Fin 32) (g : Bf (F := F) c (sl2 s)) (W : Bf (F := F) c (Memref.whole main_arg4)) (v : Vec F S1x1024x1024 .f32)
    (hv : shapeCast S1024x1024 v shapeCasts_S1x1024x1024_S1024x1024 = (sl2 s).view.read (Elt F) (land2 c s e g W)) :
    k0_pay18 v = cast2 c W e := by
  unfold k0_pay18 cast2
  dsimp only
  rw [hv, land2, View.read_write_univ]
  exact shapeCast_self _ _

theorem part1_run (c : Dev nD) (i : grid0.Coords)
    (a2) (ha2) (a3) (ha3) (a6) (ha6) (a7) (ha7) (ha8) (a9) (ha9) (ha10) (a11) (ha11) (a12) (ha12) (ha1 ha4 ha5 ha13 ha14 ha15 ha16) (arg0 v4 : BitVec 32) (h2 : k0_cond2 v4 = 1#1)
    (f0 : Bf (F := F) c (Memref.whole main_v20)) (f3 : Bf (F := F) c (Memref.whole main_v38)) (f4 : Bf (F := F) c (Memref.whole main_v63))
    (we ws wn : BitVec 32)
    (he : wordAt c (Memref.whole main_v20) f0 (Rect.unit (s := S164) (k0_off4 i) S1.size (k0_off4_inb i)) numel1_S1 = we)
    (hs : wordAt c (Memref.whole main_v38) f3 (Rect.unit (s := S164) (k0_off4 i) S1.size (k0_off4_inb i)) numel1_S1 = ws)
    (hn : wordAt c (Memref.whole main_v63) f4 (Rect.unit (s := S164) (k0_off13 i) S1.size (k0_off13_inb i)) numel1_S1 = wn)
    (he32 : we.toNat < 32) (hs2 : ws.toNat < 2) (hc4 : k0_chk4 v4 ws wn)
    (g1 : Bf (F := F) c (sl1 ⟨ws.toNat, hs2⟩)) (g2 : Bf (F := F) c (sl2 ⟨ws.toNat, hs2⟩))
    (W1 : Bf (F := F) c (Memref.whole main_arg2)) (W2 : Bf (F := F) c (Memref.whole main_arg4)) (W : Waits sig Unit)
    (d2 : Bf (F := F) c (Memref.whole cc0_scratch2)) (d3 : Bf (F := F) c (Memref.whole cc0_scratch3)) (Q) :
    iprop(tb c (Memref.whole main_v20) f0 ∗ tb c (Memref.whole main_v38) f3 ∗ tb c (Memref.whole main_v63) f4
      ∗ flying c ⟨ws.toNat, hs2⟩ ⟨we.toNat, he32⟩ g1 g2 W1 W2 ∗ pt c (Memref.whole cc0_scratch2) d2 ∗ pt c (Memref.whole cc0_scratch3) d3
      ∗ owes (c : Thread nD τ) 0 W
      ∗ (iprop(tb c (Memref.whole main_v20) f0 ∗ tb c (Memref.whole main_v38) f3 ∗ tb c (Memref.whole main_v63) f4
          ∗ home c W1 W2 ∗ (∃ g1 g2, free c ⟨ws.toNat, hs2⟩ g1 g2) ∗ casts c W1 W2 ⟨we.toNat, he32⟩ ∗ ∃ W, owes (c : Thread nD τ) 0 W) -∗ Q ⟨ws, wn, hc4, 0#32⟩))
    ⊢ wp frame (wpE (defs₀ (F := F)) Variants.none c none) Set.univ
        (k0_part1 i (Memref.whole main_v20) ha1 a2 ha2 a3 ha3 (Memref.whole main_v38) ha4 (Memref.whole main_v63) ha5 a6 ha6 a7 ha7
          (Memref.whole main_arg2) ha8 a9 ha9 (Memref.whole main_arg4) ha10 a11 ha11 a12 ha12 (Memref.whole cc0_scratch0) ha13
          (Memref.whole cc0_scratch1) ha14 (Memref.whole cc0_scratch2) ha15 (Memref.whole cc0_scratch3) ha16 cc0_scratch4 arg0 v4 h2) Q := by
  have hc2 : k0_chk2 v4 ws := ⟨fun _ => sem_inb 0 ⟨ws.toNat, hs2⟩, fun _ => sl1_inb ⟨ws.toNat, hs2⟩, fun _ => sem_inb 1 ⟨ws.toNat, hs2⟩,
    fun _ => sl2_inb ⟨ws.toNat, hs2⟩, fun _ => sl1_inb ⟨ws.toNat, hs2⟩, fun _ => sl2_inb ⟨ws.toNat, hs2⟩⟩
  have hc3 : k0_chk3 v4 we := ⟨fun _ => src1_inb ⟨we.toNat, he32⟩, fun _ => src2_inb ⟨we.toNat, he32⟩⟩
  rw [k0_part1_eq_skeleton]
  unfold k0_part1_skel
  dsimp only
  iintro ⟨H0, H3, H4, HF, Hd2, Hd3, HO, Hk⟩
  iapply (smem_run c (Memref.whole main_v38) f3 _ _ _ ws hs) $$ H3
  iintro H3
  iapply (assume_run c _ hc2)
  iapply (smem_run c (Memref.whole main_v20) f0 _ _ _ we he) $$ H0
  iintro H0
  iapply (assume_run c _ hc3)
  ihave HF := (show iprop(flying c ⟨ws.toNat, hs2⟩ ⟨we.toNat, he32⟩ g1 g2 W1 W2 ∗ owes (c : Thread nD τ) 0 W) ⊢ _ from collect_run c ⟨ws.toNat, hs2⟩ ⟨we.toNat, he32⟩ g1 g2 W1 W2 W _ Q) $$ [HF HO]
  · isplitl [HF] <;> iassumption
  iapply HF
  iintro ⟨Hh, Hf, %W', HO⟩
  unfold free
  icases Hf with ⟨H1, H2, Hs1, Hs2⟩
  iapply (slot_load1 c ⟨ws.toNat, hs2⟩ _ _ rfl) $$ H1
  iintro H1 %v %hv
  iapply (any_load c (Memref.whole cc0_scratch2)) $$ Hd2
  iintro Hd2 %v'
  iapply (store2 c) $$ Hd2
  iintro Hd2
  iapply (slot_load2 c ⟨ws.toNat, hs2⟩ _ _ rfl) $$ H2
  iintro H2 %u %hu
  iapply (any_load c (Memref.whole cc0_scratch3)) $$ Hd3
  iintro Hd3 %u'
  iapply (store3 c) $$ Hd3
  iintro Hd3
  iapply (smem_run c (Memref.whole main_v63) f4 _ _ _ wn hn) $$ H4
  iintro H4
  iapply (assume_run c _ hc4)
  sl_step
  iapply Hk
  isplitl [H0]; · iexact H0
  isplitl [H3]; · iexact H3
  isplitl [H4]; · iexact H4
  isplitl [Hh]; · iexact Hh
  isplitl [H1 H2 Hs1 Hs2]
  · iexists _, _
    isplitl [H1]; · iexact H1
    isplitl [H2]; · iexact H2
    isplitl [Hs1] <;> iassumption
  isplitl [Hd2 Hd3]
  · unfold casts
    rw [← pay17_eq c _ _ _ W1 v hv, ← pay18_eq c _ _ _ W2 u hu]
    isplitl [Hd2] <;> iassumption
  iexists W'; iexact HO

end Cert.Proof.Experts

end
-- ==== Proof.Rows.lean ====
/-
  Rows of a block laid out eight to a matrix row: the block of 512 rows of 1024 stands in its buffer as 4096 rows of
  128 lanes, lane chunk `k` of row `r` at buffer row `8 r + k`. The kernel reads and stores one lane chunk of all its
  rows at a time, at row stride eight. Here: what such a load returns and what such a store leaves, and that the eight
  stores of a block's first `m` rows with the zeros under them are the block laid out.
-/
module

public import proofs.«01_k».proof.Proof.Head
public import Idealize.ShloMosaic.Lib.Pipeline.FrameBody
public import Idealize.ShloMosaic.Lib.Exec.Geometry
public import Idealize.ShloMosaic.Lib.ValueIdxCore

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-- Lane chunk `k` of the first `m` rows. -/
def chunk {α : Type} (m k : ℕ) (hk : k < 8) (hm : 8 * m ≤ 4096) (X : S4096x128.Idx → α) : (⟨2, ![m, 128]⟩ : Shape).Idx → α := fun x =>
  X (ix2 (⟨k + 8 * (x 0).val, by have : (x 0).val < m := (x 0).isLt; omega⟩ : Fin 4096) (x 1 : Fin 128))

/-- `X` with lane chunk `k` of the first `m` rows replaced. -/
def put {α : Type} (m k : ℕ) (w : (⟨2, ![m, 128]⟩ : Shape).Idx → α) (X : S4096x128.Idx → α) : S4096x128.Idx → α := fun j =>
  if h : (j 0).val % 8 = k ∧ (j 0).val / 8 < m then w (ix2 (⟨(j 0).val / 8, h.2⟩ : Fin m) (j 1 : Fin 128)) else X j

/-- `X` with every buffer row from `R` on replaced by `z`. -/
def under {α : Type} (R : ℕ) (z : α) (X : S4096x128.Idx → α) : S4096x128.Idx → α := fun j => if R ≤ (j 0).val then z else X j

/-- The first `m` rows laid out, `z` under them. -/
def laid {α : Type} (m : ℕ) (z : α) (y : (⟨2, ![m, 1024]⟩ : Shape).Idx → α) : S4096x128.Idx → α := fun j =>
  if h : (j 0).val / 8 < m then
    y (ix2 (⟨(j 0).val / 8, h⟩ : Fin m) (⟨128 * ((j 0).val % 8) + (j 1).val, by have : (j 1).val < 128 := (j 1).isLt; omega⟩ : Fin 1024))
  else z

theorem slice_at {α : Type} (m o : ℕ) (y : (⟨2, ![m, 1024]⟩ : Shape).Idx → α) (h) (a : Fin m) (b : Fin 128) (ho : o + b.val < 1024) :
    extractStridedSlice (⟨2, ![m, 128]⟩ : Shape) ![0, o] y h (ix2 a b) = y (ix2 a ⟨o + b.val, ho⟩) := by
  refine extractStridedSlice_apply _ y h _ _ ?_
  intro x
  fin_cases x
  · show a.val = 0 + a.val; omega
  · rfl

theorem put_hit {α : Type} (m k : ℕ) (w : (⟨2, ![m, 128]⟩ : Shape).Idx → α) (X : S4096x128.Idx → α) (j : S4096x128.Idx) (hk : (j 0).val % 8 = k)
    (hm : (j 0).val / 8 < m) : put m k w X j = w (ix2 (⟨(j 0).val / 8, hm⟩ : Fin m) (j 1 : Fin 128)) := dif_pos ⟨hk, hm⟩
theorem put_miss {α : Type} (m k : ℕ) (w : (⟨2, ![m, 128]⟩ : Shape).Idx → α) (X : S4096x128.Idx → α) (j : S4096x128.Idx) (hk : (j 0).val % 8 ≠ k) :
    put m k w X j = X j := dif_neg fun h => hk h.1

theorem laid_eq {α : Type} (m : ℕ) (z : α) (y : (⟨2, ![m, 1024]⟩ : Shape).Idx → α) (X : S4096x128.Idx → α) (h0 h1 h2 h3 h4 h5 h6 h7) :
    under (8 * m) z (put m 7 (extractStridedSlice (⟨2, ![m, 128]⟩ : Shape) ![0, 896] y h7)
      (put m 6 (extractStridedSlice (⟨2, ![m, 128]⟩ : Shape) ![0, 768] y h6)
      (put m 5 (extractStridedSlice (⟨2, ![m, 128]⟩ : Shape) ![0, 640] y h5)
      (put m 4 (extractStridedSlice (⟨2, ![m, 128]⟩ : Shape) ![0, 512] y h4)
      (put m 3 (extractStridedSlice (⟨2, ![m, 128]⟩ : Shape) ![0, 384] y h3)
      (put m 2 (extractStridedSlice (⟨2, ![m, 128]⟩ : Shape) ![0, 256] y h2)
      (put m 1 (extractStridedSlice (⟨2, ![m, 128]⟩ : Shape) ![0, 128] y h1)
      (put m 0 (extractStridedSlice (⟨2, ![m, 128]⟩ : Shape) ![0, 0] y h0) X))))))))
    = laid m z y := by
  funext j
  have hj1 : (j 1).val < 128 := (j 1).isLt
  have key : ∀ (o : ℕ) (k : ℕ) (hk : (j 0).val % 8 = k) (ho : o = 128 * k) (h) (hm : (j 0).val / 8 < m),
      extractStridedSlice (⟨2, ![m, 128]⟩ : Shape) ![0, o] y h (ix2 (⟨(j 0).val / 8, hm⟩ : Fin m) (j 1 : Fin 128)) = laid m z y j := by
    intro o k hk ho h hm
    rw [slice_at m o y h _ (j 1 : Fin 128) (by show o + (j 1).val < 1024; omega)]
    unfold laid
    rw [dif_pos hm]
    congr 2
    apply Fin.ext
    show o + (j 1).val = 128 * ((j 0).val % 8) + (j 1).val
    omega
  by_cases hm : (j 0).val / 8 < m
  · have hu : ¬ 8 * m ≤ (j 0).val := by omega
    simp only [under, if_neg hu]
    have h8 : (j 0).val % 8 < 8 := Nat.mod_lt _ (by omega)
    rcases (show (j 0).val % 8 = 0 ∨ (j 0).val % 8 = 1 ∨ (j 0).val % 8 = 2 ∨ (j 0).val % 8 = 3 ∨ (j 0).val % 8 = 4 ∨ (j 0).val % 8 = 5 ∨ (j 0).val % 8 = 6 ∨ (j 0).val % 8 = 7 by omega)
      with hk | hk | hk | hk | hk | hk | hk | hk
    all_goals
      try simp (disch := omega) only [put_miss]
      rw [put_hit _ _ _ _ _ hk hm]
      exact key _ _ hk rfl _ hm
  · have hu : 8 * m ≤ (j 0).val := by omega
    simp only [under, if_pos hu, laid, dif_neg hm]

/-- A load of one lane chunk. -/
theorem chunk_load (c : Dev nD) (M : Memref sig .tc .vmem S4096x128 .f32) (f : Bf (F := F) c M) (m k : ℕ) (hk : k < 8) (hm : 8 * m ≤ 4096)
    (X : Vec F S4096x128 .f32) (hX : M.view.read (Elt F) f = X) (inb) (hl)
    {α : Type} (K : Vec F (⟨2, ![m, 128]⟩ : Shape) .f32 → Prog (TpuEff nD τ sig (Elt F) Λ₀ .tc) α) (Q : α → sProp 𝕄) :
    pt c M f ⊢ iprop((pt c M f -∗ wp frame (wpE (defs₀ (F := F)) Variants.none c none) Set.univ (K (chunk m k hk hm X)) Q)
      -∗ wp frame (wpE (defs₀ (F := F)) Variants.none c none) Set.univ
        (Prog.lift (.load M (⟨![k, 0], (⟨2, ![m, 128]⟩ : Shape).size, ![8, 1], inb⟩ : LoadRect S4096x128) hl) >>= K) Q) := by
  subst hX
  iintro H Hk
  iapply (wp_load Variants.none (c : Thread nD τ) none Set.univ (m := M)
    (r := (⟨![k, 0], (⟨2, ![m, 128]⟩ : Shape).size, ![8, 1], inb⟩ : LoadRect S4096x128)) (k := K) (Finset.subset_univ _)) $$ H
  iintro H
  rw [show M.view.readAt (Elt F) (⟨![k, 0], (⟨2, ![m, 128]⟩ : Shape).size, ![8, 1], inb⟩ : LoadRect S4096x128) f
      = chunk m k hk hm (M.view.read (Elt F) f) from by
    funext x
    show M.view.read (Elt F) f _ = M.view.read (Elt F) f _
    congr 1
    funext a
    apply Fin.ext
    fin_cases a
    · rfl
    · show 0 + 1 * (x 1).val = (x 1).val; omega]
  iapply Hk $$ H

/-- A load of a whole buffer through a rectangle at the origin. -/
theorem full_load (c : Dev nD) {S : Shape} {e : EltTy} {cs : CoreSpace} (M : Memref sig .tc cs S e) (f : Bf (F := F) c M)
    (X : S.Idx → Elt F e) (hX : M.view.read (Elt F) f = X) (off : Fin S.rank → ℕ) (ho : off = fun _ => 0) (inb : ∀ a, off a + S.size a ≤ S.size a) (hl)
    {α : Type} (K : (S.Idx → Elt F e) → Prog (TpuEff nD τ sig (Elt F) Λ₀ .tc) α) (Q : α → sProp 𝕄) :
    pt c M f ⊢ iprop((pt c M f -∗ wp frame (wpE (defs₀ (F := F)) Variants.none c none) Set.univ (K X) Q)
      -∗ wp frame (wpE (defs₀ (F := F)) Variants.none c none) Set.univ
        (Prog.lift (.load M (Rect.unit (s := S) off S.size inb).toLoadRect hl) >>= K) Q) := by
  subst hX ho
  iintro H Hk
  iapply (wp_load Variants.none (c : Thread nD τ) none Set.univ (m := M) (r := (Rect.unit (s := S) (fun _ => 0) S.size inb).toLoadRect) (k := K) (Finset.subset_univ _)) $$ H
  iintro H
  rw [show M.view.readAt (Elt F) (Rect.unit (s := S) (fun _ => 0) S.size inb).toLoadRect f = M.view.read (Elt F) f from by
    funext x
    show M.view.read (Elt F) f _ = M.view.read (Elt F) f _
    congr 1
    funext a
    apply Fin.ext
    show 0 + 1 * (x a).val = (x a).val; omega]
  iapply Hk $$ H

/-- The rectangle of a lane chunk's rows. -/
abbrev chunkRect (m R k : ℕ) (inb : ∀ a, (⟨2, ![m, 128]⟩ : Shape).size a = 0 ∨ (![k, 0] : Fin 2 → ℕ) a + (![8, 1] : Fin 2 → ℕ) a * ((⟨2, ![m, 128]⟩ : Shape).size a - 1) < (⟨2, ![R, 128]⟩ : Shape).size a)
    (spos : ∀ a, 0 < (![8, 1] : Fin 2 → ℕ) a) : Rect (⟨2, ![R, 128]⟩ : Shape) :=
  ⟨(⟨![k, 0], (⟨2, ![m, 128]⟩ : Shape).size, ![8, 1], inb⟩ : LoadRect (⟨2, ![R, 128]⟩ : Shape)), spos⟩

theorem chunk_write {Val : EltTy → Type} (v : View sig .tc .vmem S4096x128 .f32) (f : v.ty.Contents Val) (m R k : ℕ) (hk : k < 8)
    (w : (⟨2, ![m, 128]⟩ : Shape).Idx → Val .f32) (inbA : ∀ a, (![0, 0] : Fin 2 → ℕ) a + (⟨2, ![R, 128]⟩ : Shape).size a ≤ S4096x128.size a) (inb) (spos) :
    v.read Val (((v.slice (Rect.unit (s := S4096x128) ![0, 0] (⟨2, ![R, 128]⟩ : Shape).size inbA)).slice (chunkRect m R k inb spos)).write Val f w Finset.univ)
      = put m k w (v.read Val f) := by
  funext j
  by_cases h : (j 0).val % 8 = k ∧ (j 0).val / 8 < m
  · rw [put_hit _ _ _ _ _ h.1 h.2]
    have hj : (Rect.unit (s := S4096x128) ![0, 0] (⟨2, ![R, 128]⟩ : Shape).size inbA).emb ((chunkRect m R k inb spos).emb
        (ix2 (⟨(j 0).val / 8, h.2⟩ : Fin m) (j 1 : Fin 128))) = j := by
      funext a
      apply Fin.ext
      fin_cases a
      · show 0 + 1 * (k + 8 * ((j 0).val / 8)) = (j 0).val; omega
      · show 0 + 1 * (0 + 1 * (j 1).val) = (j 1).val; omega
    conv_lhs => rw [← hj]
    rw [View.read_apply, show v.emb ((Rect.unit (s := S4096x128) ![0, 0] (⟨2, ![R, 128]⟩ : Shape).size inbA).emb ((chunkRect m R k inb spos).emb
        (ix2 (⟨(j 0).val / 8, h.2⟩ : Fin m) (j 1 : Fin 128))))
      = ((v.slice (Rect.unit (s := S4096x128) ![0, 0] (⟨2, ![R, 128]⟩ : Shape).size inbA)).slice (chunkRect m R k inb spos)).emb
        (ix2 (⟨(j 0).val / 8, h.2⟩ : Fin m) (j 1 : Fin 128)) from rfl, View.write_emb_of_mem _ _ (Finset.mem_univ _), cast_cast, cast_eq]
  · rw [show put m k w (v.read Val f) j = v.read Val f j from dif_neg h]
    rw [View.read_apply, View.read_apply, View.write_of_not_mem]
    intro hm
    obtain ⟨x, -, hx⟩ := Finset.mem_map.mp hm
    have hx' : (Rect.unit (s := S4096x128) ![0, 0] (⟨2, ![R, 128]⟩ : Shape).size inbA).emb ((chunkRect m R k inb spos).emb x) = j := v.emb.injective hx
    have hx0 : 0 + 1 * (k + 8 * (x 0).val) = (j 0).val := congrArg (fun y : S4096x128.Idx => (y 0).val) hx'
    have hxm : (x 0).val < m := (x 0).isLt
    exact h ⟨by omega, by omega⟩

/-- A load and a store of one lane chunk through the rows the block's first rows fill. -/
theorem chunk_store (c : Dev nD) (M : Memref sig .tc .vmem S4096x128 .f32) (f : Bf (F := F) c M) (m R k : ℕ) (hk : k < 8)
    (X : Vec F S4096x128 .f32) (hX : M.view.read (Elt F) f = X) (w : Vec F (⟨2, ![m, 128]⟩ : Shape) .f32)
    (inbA : ∀ a, (![0, 0] : Fin 2 → ℕ) a + (⟨2, ![R, 128]⟩ : Shape).size a ≤ S4096x128.size a) (hs) (inb) (spos) (hl) (hx) (hmm)
    {α : Type} (K : PUnit → Prog (TpuEff nD τ sig (Elt F) Λ₀ .tc) α) (Q : α → sProp 𝕄) :
    pt c M f ⊢ iprop((∀ f', ⌜M.view.read (Elt F) f' = put m k w X⌝ -∗ pt c M f' -∗ wp frame (wpE (defs₀ (F := F)) Variants.none c none) Set.univ (K ⟨⟩) Q)
      -∗ wp frame (wpE (defs₀ (F := F)) Variants.none c none) Set.univ
        (Prog.lift (.load (M.slice (Rect.unit (s := S4096x128) ![0, 0] (⟨2, ![R, 128]⟩ : Shape).size inbA) hs) (chunkRect m R k inb spos).toLoadRect hl) >>= fun _ =>
          Prog.lift (.store (M.slice (Rect.unit (s := S4096x128) ![0, 0] (⟨2, ![R, 128]⟩ : Shape).size inbA) hs) (chunkRect m R k inb spos) w Finset.univ hx hmm) >>= K) Q) := by
  subst hX
  iintro H Hk
  iapply (wp_load Variants.none (c : Thread nD τ) none Set.univ (m := M.slice (Rect.unit (s := S4096x128) ![0, 0] (⟨2, ![R, 128]⟩ : Shape).size inbA) hs)
    (r := (chunkRect m R k inb spos).toLoadRect) (Finset.subset_univ _)) $$ H
  iintro H
  iapply (wp_store Variants.none (c : Thread nD τ) none Set.univ (m := M.slice (Rect.unit (s := S4096x128) ![0, 0] (⟨2, ![R, 128]⟩ : Shape).size inbA) hs)
    (r := chunkRect m R k inb spos) (w := w) (Mk := Finset.univ) (Finset.subset_univ _)) $$ H
  iintro H
  iapply Hk $$ [] H
  ipureintro
  exact chunk_write M.view f m R k hk w inbA inb spos

/-- A load and a store of zeros under the block's first rows. -/
theorem under_store (c : Dev nD) (M : Memref sig .tc .vmem S4096x128 .f32) (f : Bf (F := F) c M) (R R' : ℕ) (hR : R + R' = 4096)
    (X : Vec F S4096x128 .f32) (hX : M.view.read (Elt F) f = X) (z : F .f32) (w : Vec F (⟨2, ![R', 128]⟩ : Shape) .f32) (hw : w = fun _ => z)
    (inb inb' : ∀ a, (![R, 0] : Fin 2 → ℕ) a + (⟨2, ![R', 128]⟩ : Shape).size a ≤ S4096x128.size a) (hl) (hx) (hmm)
    {α : Type} (K : PUnit → Prog (TpuEff nD τ sig (Elt F) Λ₀ .tc) α) (Q : α → sProp 𝕄) :
    pt c M f ⊢ iprop((∀ f', ⌜M.view.read (Elt F) f' = under R z X⌝ -∗ pt c M f' -∗ wp frame (wpE (defs₀ (F := F)) Variants.none c none) Set.univ (K ⟨⟩) Q)
      -∗ wp frame (wpE (defs₀ (F := F)) Variants.none c none) Set.univ
        (Prog.lift (.load M (Rect.unit (s := S4096x128) ![R, 0] (⟨2, ![R', 128]⟩ : Shape).size inb).toLoadRect hl) >>= fun _ =>
          Prog.lift (.store M (Rect.unit (s := S4096x128) ![R, 0] (⟨2, ![R', 128]⟩ : Shape).size inb') w Finset.univ hx hmm) >>= K) Q) := by
  subst hX hw
  iintro H Hk
  iapply (wp_load Variants.none (c : Thread nD τ) none Set.univ (m := M)
    (r := (Rect.unit (s := S4096x128) ![R, 0] (⟨2, ![R', 128]⟩ : Shape).size inb).toLoadRect) (Finset.subset_univ _)) $$ H
  iintro H
  iapply (wp_store Variants.none (c : Thread nD τ) none Set.univ (m := M)
    (r := Rect.unit (s := S4096x128) ![R, 0] (⟨2, ![R', 128]⟩ : Shape).size inb') (Mk := Finset.univ) (Finset.subset_univ _)) $$ H
  iintro H
  iapply Hk $$ [] H
  ipureintro
  funext j
  have hj0 : (j 0).val < 4096 := (j 0).isLt
  unfold under
  split
  · next h =>
    have hj : (Rect.unit (s := S4096x128) ![R, 0] (⟨2, ![R', 128]⟩ : Shape).size inb').emb
        (ix2 (⟨(j 0).val - R, by omega⟩ : Fin R') (j 1 : Fin 128)) = j := by
      funext a
      apply Fin.ext
      fin_cases a
      · show R + 1 * ((j 0).val - R) = (j 0).val; omega
      · show 0 + 1 * (j 1).val = (j 1).val; omega
    rw [← hj]
    exact View.read_slice_write_emb (v := M.view) _ f _ (Finset.mem_univ _)
  · next h =>
    refine View.read_slice_write_of_not_mem (v := M.view) _ f _ _ fun hm => h ?_
    obtain ⟨x, -, rfl⟩ := Finset.mem_map.mp hm
    show R ≤ R + 1 * (x 0).val
    omega

end Cert.Proof.Experts

end
-- ==== Proof.Tail.lean ====
/-
  The second part of the expert kernel's body at a grid point: with the block's count of valid rows read, one of five
  cases computes the block's first 128, 256, 384 or 512 rows from the kept casts and stores them laid out with zeros
  under them, or stores zeros alone.
-/
module

public import proofs.«01_k».proof.Proof.Rows

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-- The zero a row that holds nothing is given. -/
abbrev zero : F .f32 := Scalar.ofBits .f32 0x00000000#32

/-- The three values the first layer of the first 128 rows leaves. -/
abbrev mid128 (X : Vec F S4096x128 .f32) (A : FVec F S1024x2048 .bf16) (b : Vec F S1x1x2048 .f32) :
    Σ' (_ : FVec F S128x1024 .f32) (_ : FVec F S128x1024 .f32) (_ : FVec F S128x1024 .f32), F .f32 :=
  ⟨k0_pay20 (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b, k0_pay21 (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b, k0_pay22 (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b, Scalar.ofBits .f32 0x3F800000#32⟩

/-- The first 128 rows of a block's result. -/
def rows128 (X : Vec F S4096x128 .f32) (A : FVec F S1024x2048 .bf16) (b : Vec F S1x1x2048 .f32) (B : FVec F S1024x1024 .bf16) (d : Vec F S1x1x1024 .f32) :
    FVec F S128x1024 .f32 :=
  k0_pay23 (mid128 X A b).1 (mid128 X A b).2.1 (mid128 X A b).2.2.1 (mid128 X A b).2.2.2 B d

theorem part2_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f7 : Bf (F := F) c a7) (f9 : Bf (F := F) c a9) (X : Vec F S4096x128 .f32) (A : FVec F S1024x2048 .bf16) (b : Vec F S1x1x2048 .f32)
    (e7 : a7.view.read (Elt F) f7 = X) (e9 : a9.view.read (Elt F) f9 = b) (Q) :
    iprop(pt c a7 f7 ∗ pt c a9 f9 ∗ pt c (Memref.whole cc0_scratch2) A
      ∗ (iprop(pt c a7 f7 ∗ pt c a9 f9 ∗ pt c (Memref.whole cc0_scratch2) A) -∗ Q (mid128 X A b)))
    ⊢ wp frame (wpE (defs₀ (F := F)) Variants.none c none) Set.univ
        (k0_part2 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17) Q := by
  rw [k0_part2_eq_skeleton]
  unfold k0_part2_skel
  dsimp only
  iintro ⟨H7, H9, HA, Hk⟩
  iapply (chunk_load c a7 f7 128 0 (by omega) (by omega) X e7) $$ H7
  iintro H7
  iapply (chunk_load c a7 f7 128 1 (by omega) (by omega) X e7) $$ H7
  iintro H7
  iapply (chunk_load c a7 f7 128 2 (by omega) (by omega) X e7) $$ H7
  iintro H7
  iapply (chunk_load c a7 f7 128 3 (by omega) (by omega) X e7) $$ H7
  iintro H7
  iapply (chunk_load c a7 f7 128 4 (by omega) (by omega) X e7) $$ H7
  iintro H7
  iapply (chunk_load c a7 f7 128 5 (by omega) (by omega) X e7) $$ H7
  iintro H7
  iapply (chunk_load c a7 f7 128 6 (by omega) (by omega) X e7) $$ H7
  iintro H7
  iapply (chunk_load c a7 f7 128 7 (by omega) (by omega) X e7) $$ H7
  iintro H7
  iapply (full_load c (Memref.whole cc0_scratch2) A A rfl ![0, 0] (by funext a; fin_cases a <;> rfl)) $$ HA
  iintro HA
  iapply (full_load c a9 f9 b e9 ![0, 0, 0] (by funext a; fin_cases a <;> rfl)) $$ H9
  iintro H9
  sl_step
  iapply Hk
  isplitl [H7]; · iexact H7
  isplitl [H9]; · iexact H9
  iexact HA

theorem part3_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f11 : Bf (F := F) c a11) (f12 : Bf (F := F) c a12) (B : FVec F S1024x1024 .bf16) (d : Vec F S1x1x1024 .f32) (Y : Vec F S4096x128 .f32)
    (e11 : a11.view.read (Elt F) f11 = d) (e12 : a12.view.read (Elt F) f12 = Y) (v51 v56 v63 : FVec F S128x1024 .f32) (cst : F .f32) (Q) :
    iprop(pt c a11 f11 ∗ pt c a12 f12 ∗ pt c (Memref.whole cc0_scratch3) B
      ∗ (∀ f', ⌜a12.view.read (Elt F) f' = put 128 4 (k0_pay28 v51 v56 v63 cst B d) (put 128 3 (k0_pay27 v51 v56 v63 cst B d) (put 128 2 (k0_pay26 v51 v56 v63 cst B d) (put 128 1 (k0_pay25 v51 v56 v63 cst B d) (put 128 0 (k0_pay24 v51 v56 v63 cst B d) Y))))⌝ -∗
          iprop(pt c a11 f11 ∗ pt c a12 f' ∗ pt c (Memref.whole cc0_scratch3) B) -∗ Q (k0_pay23 v51 v56 v63 cst B d)))
    ⊢ wp frame (wpE (defs₀ (F := F)) Variants.none c none) Set.univ
        (k0_part3 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v51 v56 v63 cst) Q := by
  rw [k0_part3_eq_skeleton]
  unfold k0_part3_skel
  dsimp only
  iintro ⟨H11, H12, HB, Hk⟩
  iapply (full_load c (Memref.whole cc0_scratch3) B B rfl ![0, 0] (by funext a; fin_cases a <;> rfl)) $$ HB
  iintro HB
  iapply (full_load c a11 f11 d e11 ![0, 0, 0] (by funext a; fin_cases a <;> rfl)) $$ H11
  iintro H11
  iapply (chunk_store c a12 f12 128 1024 0 (by omega) _ e12) $$ H12
  iintro %g0 %q0 H12
  iapply (chunk_store c a12 g0 128 1024 1 (by omega) _ q0) $$ H12
  iintro %g1 %q1 H12
  iapply (chunk_store c a12 g1 128 1024 2 (by omega) _ q1) $$ H12
  iintro %g2 %q2 H12
  iapply (chunk_store c a12 g2 128 1024 3 (by omega) _ q2) $$ H12
  iintro %g3 %q3 H12
  iapply (chunk_store c a12 g3 128 1024 4 (by omega) _ q3) $$ H12
  iintro %g4 %q4 H12
  sl_step
  iapply Hk $$ [] [H11 H12 HB]
  · ipureintro; exact q4
  isplitl [H11]; · iexact H11
  isplitl [H12]; · iexact H12
  iexact HB

/-- The three values the first layer of the first 256 rows leaves. -/
abbrev mid256 (X : Vec F S4096x128 .f32) (A : FVec F S1024x2048 .bf16) (b : Vec F S1x1x2048 .f32) :
    Σ' (_ : FVec F S256x1024 .f32) (_ : FVec F S256x1024 .f32) (_ : FVec F S256x1024 .f32), F .f32 :=
  ⟨k0_pay30 (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b, k0_pay31 (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b, k0_pay32 (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b, Scalar.ofBits .f32 0x3F800000#32⟩

/-- The first 256 rows of a block's result. -/
def rows256 (X : Vec F S4096x128 .f32) (A : FVec F S1024x2048 .bf16) (b : Vec F S1x1x2048 .f32) (B : FVec F S1024x1024 .bf16) (d : Vec F S1x1x1024 .f32) :
    FVec F S256x1024 .f32 :=
  k0_pay33 (mid256 X A b).1 (mid256 X A b).2.1 (mid256 X A b).2.2.1 (mid256 X A b).2.2.2 B d

theorem part4_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f7 : Bf (F := F) c a7) (f9 : Bf (F := F) c a9) (X : Vec F S4096x128 .f32) (A : FVec F S1024x2048 .bf16) (b : Vec F S1x1x2048 .f32)
    (e7 : a7.view.read (Elt F) f7 = X) (e9 : a9.view.read (Elt F) f9 = b) (Q) :
    iprop(pt c a7 f7 ∗ pt c a9 f9 ∗ pt c (Memref.whole cc0_scratch2) A
      ∗ (iprop(pt c a7 f7 ∗ pt c a9 f9 ∗ pt c (Memref.whole cc0_scratch2) A) -∗ Q (mid256 X A b)))
    ⊢ wp frame (wpE (defs₀ (F := F)) Variants.none c none) Set.univ
        (k0_part4 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17) Q := by
  rw [k0_part4_eq_skeleton]
  unfold k0_part4_skel
  dsimp only
  iintro ⟨H7, H9, HA, Hk⟩
  iapply (chunk_load c a7 f7 256 0 (by omega) (by omega) X e7) $$ H7
  iintro H7
  iapply (chunk_load c a7 f7 256 1 (by omega) (by omega) X e7) $$ H7
  iintro H7
  iapply (chunk_load c a7 f7 256 2 (by omega) (by omega) X e7) $$ H7
  iintro H7
  iapply (chunk_load c a7 f7 256 3 (by omega) (by omega) X e7) $$ H7
  iintro H7
  iapply (chunk_load c a7 f7 256 4 (by omega) (by omega) X e7) $$ H7
  iintro H7
  iapply (chunk_load c a7 f7 256 5 (by omega) (by omega) X e7) $$ H7
  iintro H7
  iapply (chunk_load c a7 f7 256 6 (by omega) (by omega) X e7) $$ H7
  iintro H7
  iapply (chunk_load c a7 f7 256 7 (by omega) (by omega) X e7) $$ H7
  iintro H7
  iapply (full_load c (Memref.whole cc0_scratch2) A A rfl ![0, 0] (by funext a; fin_cases a <;> rfl)) $$ HA
  iintro HA
  iapply (full_load c a9 f9 b e9 ![0, 0, 0] (by funext a; fin_cases a <;> rfl)) $$ H9
  iintro H9
  sl_step
  iapply Hk
  isplitl [H7]; · iexact H7
  isplitl [H9]; · iexact H9
  iexact HA

theorem part5_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f11 : Bf (F := F) c a11) (f12 : Bf (F := F) c a12) (B : FVec F S1024x1024 .bf16) (d : Vec F S1x1x1024 .f32) (Y : Vec F S4096x128 .f32)
    (e11 : a11.view.read (Elt F) f11 = d) (e12 : a12.view.read (Elt F) f12 = Y) (v51 v56 v63 : FVec F S256x1024 .f32) (cst : F .f32) (Q) :
    iprop(pt c a11 f11 ∗ pt c a12 f12 ∗ pt c (Memref.whole cc0_scratch3) B
      ∗ (∀ f', ⌜a12.view.read (Elt F) f' = put 256 4 (k0_pay38 v51 v56 v63 cst B d) (put 256 3 (k0_pay37 v51 v56 v63 cst B d) (put 256 2 (k0_pay36 v51 v56 v63 cst B d) (put 256 1 (k0_pay35 v51 v56 v63 cst B d) (put 256 0 (k0_pay34 v51 v56 v63 cst B d) Y))))⌝ -∗
          iprop(pt c a11 f11 ∗ pt c a12 f' ∗ pt c (Memref.whole cc0_scratch3) B) -∗ Q (k0_pay33 v51 v56 v63 cst B d)))
    ⊢ wp frame (wpE (defs₀ (F := F)) Variants.none c none) Set.univ
        (k0_part5 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v51 v56 v63 cst) Q := by
  rw [k0_part5_eq_skeleton]
  unfold k0_part5_skel
  dsimp only
  iintro ⟨H11, H12, HB, Hk⟩
  iapply (full_load c (Memref.whole cc0_scratch3) B B rfl ![0, 0] (by funext a; fin_cases a <;> rfl)) $$ HB
  iintro HB
  iapply (full_load c a11 f11 d e11 ![0, 0, 0] (by funext a; fin_cases a <;> rfl)) $$ H11
  iintro H11
  iapply (chunk_store c a12 f12 256 2048 0 (by omega) _ e12) $$ H12
  iintro %g0 %q0 H12
  iapply (chunk_store c a12 g0 256 2048 1 (by omega) _ q0) $$ H12
  iintro %g1 %q1 H12
  iapply (chunk_store c a12 g1 256 2048 2 (by omega) _ q1) $$ H12
  iintro %g2 %q2 H12
  iapply (chunk_store c a12 g2 256 2048 3 (by omega) _ q2) $$ H12
  iintro %g3 %q3 H12
  iapply (chunk_store c a12 g3 256 2048 4 (by omega) _ q3) $$ H12
  iintro %g4 %q4 H12
  sl_step
  iapply Hk $$ [] [H11 H12 HB]
  · ipureintro; exact q4
  isplitl [H11]; · iexact H11
  isplitl [H12]; · iexact H12
  iexact HB

/-- The three values the first layer of the first 384 rows leaves. -/
abbrev mid384 (X : Vec F S4096x128 .f32) (A : FVec F S1024x2048 .bf16) (b : Vec F S1x1x2048 .f32) :
    Σ' (_ : FVec F S384x1024 .f32) (_ : FVec F S384x1024 .f32) (_ : FVec F S384x1024 .f32), F .f32 :=
  ⟨k0_pay40 (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b, k0_pay41 (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b, k0_pay42 (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b, Scalar.ofBits .f32 0x3F800000#32⟩

/-- The first 384 rows of a block's result. -/
def rows384 (X : Vec F S4096x128 .f32) (A : FVec F S1024x2048 .bf16) (b : Vec F S1x1x2048 .f32) (B : FVec F S1024x1024 .bf16) (d : Vec F S1x1x1024 .f32) :
    FVec F S384x1024 .f32 :=
  k0_pay43 (mid384 X A b).1 (mid384 X A b).2.1 (mid384 X A b).2.2.1 (mid384 X A b).2.2.2 B d

theorem part6_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f7 : Bf (F := F) c a7) (f9 : Bf (F := F) c a9) (X : Vec F S4096x128 .f32) (A : FVec F S1024x2048 .bf16) (b : Vec F S1x1x2048 .f32)
    (e7 : a7.view.read (Elt F) f7 = X) (e9 : a9.view.read (Elt F) f9 = b) (Q) :
    iprop(pt c a7 f7 ∗ pt c a9 f9 ∗ pt c (Memref.whole cc0_scratch2) A
      ∗ (iprop(pt c a7 f7 ∗ pt c a9 f9 ∗ pt c (Memref.whole cc0_scratch2) A) -∗ Q (mid384 X A b)))
    ⊢ wp frame (wpE (defs₀ (F := F)) Variants.none c none) Set.univ
        (k0_part6 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17) Q := by
  rw [k0_part6_eq_skeleton]
  unfold k0_part6_skel
  dsimp only
  iintro ⟨H7, H9, HA, Hk⟩
  iapply (chunk_load c a7 f7 384 0 (by omega) (by omega) X e7) $$ H7
  iintro H7
  iapply (chunk_load c a7 f7 384 1 (by omega) (by omega) X e7) $$ H7
  iintro H7
  iapply (chunk_load c a7 f7 384 2 (by omega) (by omega) X e7) $$ H7
  iintro H7
  iapply (chunk_load c a7 f7 384 3 (by omega) (by omega) X e7) $$ H7
  iintro H7
  iapply (chunk_load c a7 f7 384 4 (by omega) (by omega) X e7) $$ H7
  iintro H7
  iapply (chunk_load c a7 f7 384 5 (by omega) (by omega) X e7) $$ H7
  iintro H7
  iapply (chunk_load c a7 f7 384 6 (by omega) (by omega) X e7) $$ H7
  iintro H7
  iapply (chunk_load c a7 f7 384 7 (by omega) (by omega) X e7) $$ H7
  iintro H7
  iapply (full_load c (Memref.whole cc0_scratch2) A A rfl ![0, 0] (by funext a; fin_cases a <;> rfl)) $$ HA
  iintro HA
  iapply (full_load c a9 f9 b e9 ![0, 0, 0] (by funext a; fin_cases a <;> rfl)) $$ H9
  iintro H9
  sl_step
  iapply Hk
  isplitl [H7]; · iexact H7
  isplitl [H9]; · iexact H9
  iexact HA

theorem part7_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f11 : Bf (F := F) c a11) (f12 : Bf (F := F) c a12) (B : FVec F S1024x1024 .bf16) (d : Vec F S1x1x1024 .f32) (Y : Vec F S4096x128 .f32)
    (e11 : a11.view.read (Elt F) f11 = d) (e12 : a12.view.read (Elt F) f12 = Y) (v51 v56 v63 : FVec F S384x1024 .f32) (cst : F .f32) (Q) :
    iprop(pt c a11 f11 ∗ pt c a12 f12 ∗ pt c (Memref.whole cc0_scratch3) B
      ∗ (∀ f', ⌜a12.view.read (Elt F) f' = put 384 4 (k0_pay48 v51 v56 v63 cst B d) (put 384 3 (k0_pay47 v51 v56 v63 cst B d) (put 384 2 (k0_pay46 v51 v56 v63 cst B d) (put 384 1 (k0_pay45 v51 v56 v63 cst B d) (put 384 0 (k0_pay44 v51 v56 v63 cst B d) Y))))⌝ -∗
          iprop(pt c a11 f11 ∗ pt c a12 f' ∗ pt c (Memref.whole cc0_scratch3) B) -∗ Q (k0_pay43 v51 v56 v63 cst B d)))
    ⊢ wp frame (wpE (defs₀ (F := F)) Variants.none c none) Set.univ
        (k0_part7 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v51 v56 v63 cst) Q := by
  rw [k0_part7_eq_skeleton]
  unfold k0_part7_skel
  dsimp only
  iintro ⟨H11, H12, HB, Hk⟩
  iapply (full_load c (Memref.whole cc0_scratch3) B B rfl ![0, 0] (by funext a; fin_cases a <;> rfl)) $$ HB
  iintro HB
  iapply (full_load c a11 f11 d e11 ![0, 0, 0] (by funext a; fin_cases a <;> rfl)) $$ H11
  iintro H11
  iapply (chunk_store c a12 f12 384 3072 0 (by omega) _ e12) $$ H12
  iintro %g0 %q0 H12
  iapply (chunk_store c a12 g0 384 3072 1 (by omega) _ q0) $$ H12
  iintro %g1 %q1 H12
  iapply (chunk_store c a12 g1 384 3072 2 (by omega) _ q1) $$ H12
  iintro %g2 %q2 H12
  iapply (chunk_store c a12 g2 384 3072 3 (by omega) _ q2) $$ H12
  iintro %g3 %q3 H12
  iapply (chunk_store c a12 g3 384 3072 4 (by omega) _ q3) $$ H12
  iintro %g4 %q4 H12
  sl_step
  iapply Hk $$ [] [H11 H12 HB]
  · ipureintro; exact q4
  isplitl [H11]; · iexact H11
  isplitl [H12]; · iexact H12
  iexact HB

/-- The three values the first layer of the first 512 rows leaves. -/
abbrev mid512 (X : Vec F S4096x128 .f32) (A : FVec F S1024x2048 .bf16) (b : Vec F S1x1x2048 .f32) :
    Σ' (_ : FVec F S512x1024 .f32) (_ : FVec F S512x1024 .f32) (_ : FVec F S512x1024 .f32), F .f32 :=
  ⟨k0_pay50 (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b, k0_pay51 (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b, k0_pay52 (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b, Scalar.ofBits .f32 0x3F800000#32⟩

/-- The first 512 rows of a block's result. -/
def rows512 (X : Vec F S4096x128 .f32) (A : FVec F S1024x2048 .bf16) (b : Vec F S1x1x2048 .f32) (B : FVec F S1024x1024 .bf16) (d : Vec F S1x1x1024 .f32) :
    FVec F S512x1024 .f32 :=
  k0_pay53 (mid512 X A b).1 (mid512 X A b).2.1 (mid512 X A b).2.2.1 (mid512 X A b).2.2.2 B d

theorem part8_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f7 : Bf (F := F) c a7) (f9 : Bf (F := F) c a9) (X : Vec F S4096x128 .f32) (A : FVec F S1024x2048 .bf16) (b : Vec F S1x1x2048 .f32)
    (e7 : a7.view.read (Elt F) f7 = X) (e9 : a9.view.read (Elt F) f9 = b) (Q) :
    iprop(pt c a7 f7 ∗ pt c a9 f9 ∗ pt c (Memref.whole cc0_scratch2) A
      ∗ (iprop(pt c a7 f7 ∗ pt c a9 f9 ∗ pt c (Memref.whole cc0_scratch2) A) -∗ Q (mid512 X A b)))
    ⊢ wp frame (wpE (defs₀ (F := F)) Variants.none c none) Set.univ
        (k0_part8 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17) Q := by
  rw [k0_part8_eq_skeleton]
  unfold k0_part8_skel
  dsimp only
  iintro ⟨H7, H9, HA, Hk⟩
  iapply (chunk_load c a7 f7 512 0 (by omega) (by omega) X e7) $$ H7
  iintro H7
  iapply (chunk_load c a7 f7 512 1 (by omega) (by omega) X e7) $$ H7
  iintro H7
  iapply (chunk_load c a7 f7 512 2 (by omega) (by omega) X e7) $$ H7
  iintro H7
  iapply (chunk_load c a7 f7 512 3 (by omega) (by omega) X e7) $$ H7
  iintro H7
  iapply (chunk_load c a7 f7 512 4 (by omega) (by omega) X e7) $$ H7
  iintro H7
  iapply (chunk_load c a7 f7 512 5 (by omega) (by omega) X e7) $$ H7
  iintro H7
  iapply (chunk_load c a7 f7 512 6 (by omega) (by omega) X e7) $$ H7
  iintro H7
  iapply (chunk_load c a7 f7 512 7 (by omega) (by omega) X e7) $$ H7
  iintro H7
  iapply (full_load c (Memref.whole cc0_scratch2) A A rfl ![0, 0] (by funext a; fin_cases a <;> rfl)) $$ HA
  iintro HA
  iapply (full_load c a9 f9 b e9 ![0, 0, 0] (by funext a; fin_cases a <;> rfl)) $$ H9
  iintro H9
  sl_step
  iapply Hk
  isplitl [H7]; · iexact H7
  isplitl [H9]; · iexact H9
  iexact HA

theorem part9_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17)
    (f11 : Bf (F := F) c a11) (f12 : Bf (F := F) c a12) (B : FVec F S1024x1024 .bf16) (d : Vec F S1x1x1024 .f32) (Y : Vec F S4096x128 .f32)
    (e11 : a11.view.read (Elt F) f11 = d) (e12 : a12.view.read (Elt F) f12 = Y) (v51 v56 v63 : FVec F S512x1024 .f32) (cst : F .f32) (Q) :
    iprop(pt c a11 f11 ∗ pt c a12 f12 ∗ pt c (Memref.whole cc0_scratch3) B
      ∗ (∀ f', ⌜a12.view.read (Elt F) f' = put 512 4 (k0_pay58 v51 v56 v63 cst B d) (put 512 3 (k0_pay57 v51 v56 v63 cst B d) (put 512 2 (k0_pay56 v51 v56 v63 cst B d) (put 512 1 (k0_pay55 v51 v56 v63 cst B d) (put 512 0 (k0_pay54 v51 v56 v63 cst B d) Y))))⌝ -∗
          iprop(pt c a11 f11 ∗ pt c a12 f' ∗ pt c (Memref.whole cc0_scratch3) B) -∗ Q (k0_pay53 v51 v56 v63 cst B d)))
    ⊢ wp frame (wpE (defs₀ (F := F)) Variants.none c none) Set.univ
        (k0_part9 i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v51 v56 v63 cst) Q := by
  rw [k0_part9_eq_skeleton]
  unfold k0_part9_skel
  dsimp only
  iintro ⟨H11, H12, HB, Hk⟩
  iapply (full_load c (Memref.whole cc0_scratch3) B B rfl ![0, 0] (by funext a; fin_cases a <;> rfl)) $$ HB
  iintro HB
  iapply (full_load c a11 f11 d e11 ![0, 0, 0] (by funext a; fin_cases a <;> rfl)) $$ H11
  iintro H11
  iapply (chunk_store c a12 f12 512 4096 0 (by omega) _ e12) $$ H12
  iintro %g0 %q0 H12
  iapply (chunk_store c a12 g0 512 4096 1 (by omega) _ q0) $$ H12
  iintro %g1 %q1 H12
  iapply (chunk_store c a12 g1 512 4096 2 (by omega) _ q1) $$ H12
  iintro %g2 %q2 H12
  iapply (chunk_store c a12 g2 512 4096 3 (by omega) _ q2) $$ H12
  iintro %g3 %q3 H12
  iapply (chunk_store c a12 g3 512 4096 4 (by omega) _ q3) $$ H12
  iintro %g4 %q4 H12
  sl_step
  iapply Hk $$ [] [H11 H12 HB]
  · ipureintro; exact q4
  isplitl [H11]; · iexact H11
  isplitl [H12]; · iexact H12
  iexact HB

theorem under_all {α : Type} (z : α) (X : S4096x128.Idx → α) (hX : 8 * 512 = 4096) : under (8 * 512) z X = X := by
  funext j
  exact if_neg (by have := (j 0).isLt; show ¬ 8 * 512 ≤ (j 0).val; have h : (j 0).val < 4096 := (j 0).isLt; omega)

/-- The body from the read of the block's valid rows on. -/
def tailP (i : grid0.Coords) (arg1 : Memref sig .tc .smem S164 .i32) (harg1 : arg1.IsWhole) (arg2 : Memref sig .tc .smem S1 .i32) (harg2 : arg2.IsWhole) (arg3 : Memref sig .tc .smem S164 .i32) (harg3 : arg3.IsWhole) (arg4 : Memref sig .tc .smem S164 .i32) (harg4 : arg4.IsWhole) (arg5 : Memref sig .tc .smem S164 .i32) (harg5 : arg5.IsWhole) (arg6 : Memref sig .tc .smem S164 .i32) (harg6 : arg6.IsWhole) (arg7 : Memref sig .tc .vmem S4096x128 .f32) (harg7 : arg7.IsWhole) (arg8 : Memref sig .tc .hbm S2x32x1024x2048 .f32) (harg8 : arg8.IsWhole) (arg9 : Memref sig .tc .vmem S1x1x2048 .f32) (harg9 : arg9.IsWhole) (arg10 : Memref sig .tc .hbm S2x32x1024x1024 .f32) (harg10 : arg10.IsWhole) (arg11 : Memref sig .tc .vmem S1x1x1024 .f32) (harg11 : arg11.IsWhole) (arg12 : Memref sig .tc .vmem S4096x128 .f32) (harg12 : arg12.IsWhole) (arg13 : Memref sig .tc .vmem S2x1024x2048 .f32) (harg13 : arg13.IsWhole) (arg14 : Memref sig .tc .vmem S2x1024x1024 .f32) (harg14 : arg14.IsWhole) (arg15 : Memref sig .tc .vmem S1024x2048 .bf16) (harg15 : arg15.IsWhole) (arg16 : Memref sig .tc .vmem S1024x1024 .bf16) (harg16 : arg16.IsWhole) (arg17 : DmaSems sig S2x2) (v9 : BitVec 32) : Prog (TpuEff nD τ sig (Elt F) Λ₀ .tc) PUnit := do
  if k0_h4 : k0_cond4 v9 = 1#1 then do
    let ⟨v51, v56, v63, cst_31⟩ : Σ' (v51 : FVec F S128x1024 .f32) (v56 : FVec F S128x1024 .f32) (v63 : FVec F S128x1024 .f32), F .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let v76 : FVec F S128x1024 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v56 v63 cst_31
    let v93 : Memref sig .tc .vmem S1024x128 .f32 := arg12.slice (Rect.unit (s := S4096x128) ![0, 0] S1024x128.size inb_S4096x128_S1024x128_0_0) (fun _ => rfl)
    let v94 : Vec F S128x128 .f32 ← Prog.lift (.load v93 (⟨![5, 0], S128x128.size, ![8, 1], inb_S1024x128_S128x128_5_0_s_8_1⟩ : LoadRect S1024x128) (View.loadsAt_vmem h_S128x128))
    Prog.lift (.store v93 ⟨(⟨![5, 0], S128x128.size, ![8, 1], inb_S1024x128_S128x128_5_0_s_8_1⟩ : LoadRect S1024x128), spos_8_1⟩ (k0_pay1 v76) Finset.univ (View.stores_vmem_bits_univ h_S128x128 rfl) (.inl rfl))
    let v96 : Memref sig .tc .vmem S1024x128 .f32 := arg12.slice (Rect.unit (s := S4096x128) ![0, 0] S1024x128.size inb_S4096x128_S1024x128_0_0) (fun _ => rfl)
    let v97 : Vec F S128x128 .f32 ← Prog.lift (.load v96 (⟨![6, 0], S128x128.size, ![8, 1], inb_S1024x128_S128x128_6_0_s_8_1⟩ : LoadRect S1024x128) (View.loadsAt_vmem h_S128x128))
    Prog.lift (.store v96 ⟨(⟨![6, 0], S128x128.size, ![8, 1], inb_S1024x128_S128x128_6_0_s_8_1⟩ : LoadRect S1024x128), spos_8_1⟩ (k0_pay2 v76) Finset.univ (View.stores_vmem_bits_univ h_S128x128 rfl) (.inl rfl))
    let v99 : Memref sig .tc .vmem S1024x128 .f32 := arg12.slice (Rect.unit (s := S4096x128) ![0, 0] S1024x128.size inb_S4096x128_S1024x128_0_0) (fun _ => rfl)
    let v100 : Vec F S128x128 .f32 ← Prog.lift (.load v99 (⟨![7, 0], S128x128.size, ![8, 1], inb_S1024x128_S128x128_7_0_s_8_1⟩ : LoadRect S1024x128) (View.loadsAt_vmem h_S128x128))
    Prog.lift (.store v99 ⟨(⟨![7, 0], S128x128.size, ![8, 1], inb_S1024x128_S128x128_7_0_s_8_1⟩ : LoadRect S1024x128), spos_8_1⟩ (k0_pay3 v76) Finset.univ (View.stores_vmem_bits_univ h_S128x128 rfl) (.inl rfl))
    let v102 : Vec F S3072x128 .f32 ← Prog.lift (.load arg12 (Rect.unit (s := S4096x128) ![1024, 0] S3072x128.size inb_S4096x128_S3072x128_1024_0).toLoadRect (View.loadsAt_vmem h_S3072x128))
    Prog.lift (.store arg12 (Rect.unit (s := S4096x128) ![1024, 0] S3072x128.size inb_S4096x128_S3072x128_1024_0) (k0_pay4 (F := F)) Finset.univ (View.stores_vmem_bits_univ h_S3072x128 rfl) (.inl rfl))
    pure ⟨⟩
  else do
    pure ⟨⟩
  if k0_h5 : k0_cond5 v9 = 1#1 then do
    let ⟨v51, v56, v63, cst_31⟩ : Σ' (v51 : FVec F S256x1024 .f32) (v56 : FVec F S256x1024 .f32) (v63 : FVec F S256x1024 .f32), F .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let v76 : FVec F S256x1024 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v56 v63 cst_31
    let v93 : Memref sig .tc .vmem S2048x128 .f32 := arg12.slice (Rect.unit (s := S4096x128) ![0, 0] S2048x128.size inb_S4096x128_S2048x128_0_0) (fun _ => rfl)
    let v94 : Vec F S256x128 .f32 ← Prog.lift (.load v93 (⟨![5, 0], S256x128.size, ![8, 1], inb_S2048x128_S256x128_5_0_s_8_1⟩ : LoadRect S2048x128) (View.loadsAt_vmem h_S256x128))
    Prog.lift (.store v93 ⟨(⟨![5, 0], S256x128.size, ![8, 1], inb_S2048x128_S256x128_5_0_s_8_1⟩ : LoadRect S2048x128), spos_8_1⟩ (k0_pay5 v76) Finset.univ (View.stores_vmem_bits_univ h_S256x128 rfl) (.inl rfl))
    let v96 : Memref sig .tc .vmem S2048x128 .f32 := arg12.slice (Rect.unit (s := S4096x128) ![0, 0] S2048x128.size inb_S4096x128_S2048x128_0_0) (fun _ => rfl)
    let v97 : Vec F S256x128 .f32 ← Prog.lift (.load v96 (⟨![6, 0], S256x128.size, ![8, 1], inb_S2048x128_S256x128_6_0_s_8_1⟩ : LoadRect S2048x128) (View.loadsAt_vmem h_S256x128))
    Prog.lift (.store v96 ⟨(⟨![6, 0], S256x128.size, ![8, 1], inb_S2048x128_S256x128_6_0_s_8_1⟩ : LoadRect S2048x128), spos_8_1⟩ (k0_pay6 v76) Finset.univ (View.stores_vmem_bits_univ h_S256x128 rfl) (.inl rfl))
    let v99 : Memref sig .tc .vmem S2048x128 .f32 := arg12.slice (Rect.unit (s := S4096x128) ![0, 0] S2048x128.size inb_S4096x128_S2048x128_0_0) (fun _ => rfl)
    let v100 : Vec F S256x128 .f32 ← Prog.lift (.load v99 (⟨![7, 0], S256x128.size, ![8, 1], inb_S2048x128_S256x128_7_0_s_8_1⟩ : LoadRect S2048x128) (View.loadsAt_vmem h_S256x128))
    Prog.lift (.store v99 ⟨(⟨![7, 0], S256x128.size, ![8, 1], inb_S2048x128_S256x128_7_0_s_8_1⟩ : LoadRect S2048x128), spos_8_1⟩ (k0_pay7 v76) Finset.univ (View.stores_vmem_bits_univ h_S256x128 rfl) (.inl rfl))
    let v102 : Vec F S2048x128 .f32 ← Prog.lift (.load arg12 (Rect.unit (s := S4096x128) ![2048, 0] S2048x128.size inb_S4096x128_S2048x128_2048_0).toLoadRect (View.loadsAt_vmem h_S2048x128))
    Prog.lift (.store arg12 (Rect.unit (s := S4096x128) ![2048, 0] S2048x128.size inb_S4096x128_S2048x128_2048_0) (k0_pay8 (F := F)) Finset.univ (View.stores_vmem_bits_univ h_S2048x128 rfl) (.inl rfl))
    pure ⟨⟩
  else do
    pure ⟨⟩
  if k0_h6 : k0_cond6 v9 = 1#1 then do
    let ⟨v51, v56, v63, cst_31⟩ : Σ' (v51 : FVec F S384x1024 .f32) (v56 : FVec F S384x1024 .f32) (v63 : FVec F S384x1024 .f32), F .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let v76 : FVec F S384x1024 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v56 v63 cst_31
    let v93 : Memref sig .tc .vmem S3072x128 .f32 := arg12.slice (Rect.unit (s := S4096x128) ![0, 0] S3072x128.size inb_S4096x128_S3072x128_0_0) (fun _ => rfl)
    let v94 : Vec F S384x128 .f32 ← Prog.lift (.load v93 (⟨![5, 0], S384x128.size, ![8, 1], inb_S3072x128_S384x128_5_0_s_8_1⟩ : LoadRect S3072x128) (View.loadsAt_vmem h_S384x128))
    Prog.lift (.store v93 ⟨(⟨![5, 0], S384x128.size, ![8, 1], inb_S3072x128_S384x128_5_0_s_8_1⟩ : LoadRect S3072x128), spos_8_1⟩ (k0_pay9 v76) Finset.univ (View.stores_vmem_bits_univ h_S384x128 rfl) (.inl rfl))
    let v96 : Memref sig .tc .vmem S3072x128 .f32 := arg12.slice (Rect.unit (s := S4096x128) ![0, 0] S3072x128.size inb_S4096x128_S3072x128_0_0) (fun _ => rfl)
    let v97 : Vec F S384x128 .f32 ← Prog.lift (.load v96 (⟨![6, 0], S384x128.size, ![8, 1], inb_S3072x128_S384x128_6_0_s_8_1⟩ : LoadRect S3072x128) (View.loadsAt_vmem h_S384x128))
    Prog.lift (.store v96 ⟨(⟨![6, 0], S384x128.size, ![8, 1], inb_S3072x128_S384x128_6_0_s_8_1⟩ : LoadRect S3072x128), spos_8_1⟩ (k0_pay10 v76) Finset.univ (View.stores_vmem_bits_univ h_S384x128 rfl) (.inl rfl))
    let v99 : Memref sig .tc .vmem S3072x128 .f32 := arg12.slice (Rect.unit (s := S4096x128) ![0, 0] S3072x128.size inb_S4096x128_S3072x128_0_0) (fun _ => rfl)
    let v100 : Vec F S384x128 .f32 ← Prog.lift (.load v99 (⟨![7, 0], S384x128.size, ![8, 1], inb_S3072x128_S384x128_7_0_s_8_1⟩ : LoadRect S3072x128) (View.loadsAt_vmem h_S384x128))
    Prog.lift (.store v99 ⟨(⟨![7, 0], S384x128.size, ![8, 1], inb_S3072x128_S384x128_7_0_s_8_1⟩ : LoadRect S3072x128), spos_8_1⟩ (k0_pay11 v76) Finset.univ (View.stores_vmem_bits_univ h_S384x128 rfl) (.inl rfl))
    let v102 : Vec F S1024x128 .f32 ← Prog.lift (.load arg12 (Rect.unit (s := S4096x128) ![3072, 0] S1024x128.size inb_S4096x128_S1024x128_3072_0).toLoadRect (View.loadsAt_vmem h_S1024x128))
    Prog.lift (.store arg12 (Rect.unit (s := S4096x128) ![3072, 0] S1024x128.size inb_S4096x128_S1024x128_3072_0) (k0_pay12 (F := F)) Finset.univ (View.stores_vmem_bits_univ h_S1024x128 rfl) (.inl rfl))
    pure ⟨⟩
  else do
    pure ⟨⟩
  if k0_h7 : k0_cond7 v9 = 1#1 then do
    let ⟨v51, v56, v63, cst_31⟩ : Σ' (v51 : FVec F S512x1024 .f32) (v56 : FVec F S512x1024 .f32) (v63 : FVec F S512x1024 .f32), F .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let v76 : FVec F S512x1024 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v56 v63 cst_31
    let v93 : Memref sig .tc .vmem S4096x128 .f32 := arg12.slice (Rect.unit (s := S4096x128) ![0, 0] S4096x128.size inb_S4096x128_S4096x128_0_0) (fun _ => rfl)
    let v94 : Vec F S512x128 .f32 ← Prog.lift (.load v93 (⟨![5, 0], S512x128.size, ![8, 1], inb_S4096x128_S512x128_5_0_s_8_1⟩ : LoadRect S4096x128) (View.loadsAt_vmem h_S512x128))
    Prog.lift (.store v93 ⟨(⟨![5, 0], S512x128.size, ![8, 1], inb_S4096x128_S512x128_5_0_s_8_1⟩ : LoadRect S4096x128), spos_8_1⟩ (k0_pay13 v76) Finset.univ (View.stores_vmem_bits_univ h_S512x128 rfl) (.inl rfl))
    let v96 : Memref sig .tc .vmem S4096x128 .f32 := arg12.slice (Rect.unit (s := S4096x128) ![0, 0] S4096x128.size inb_S4096x128_S4096x128_0_0) (fun _ => rfl)
    let v97 : Vec F S512x128 .f32 ← Prog.lift (.load v96 (⟨![6, 0], S512x128.size, ![8, 1], inb_S4096x128_S512x128_6_0_s_8_1⟩ : LoadRect S4096x128) (View.loadsAt_vmem h_S512x128))
    Prog.lift (.store v96 ⟨(⟨![6, 0], S512x128.size, ![8, 1], inb_S4096x128_S512x128_6_0_s_8_1⟩ : LoadRect S4096x128), spos_8_1⟩ (k0_pay14 v76) Finset.univ (View.stores_vmem_bits_univ h_S512x128 rfl) (.inl rfl))
    let v99 : Memref sig .tc .vmem S4096x128 .f32 := arg12.slice (Rect.unit (s := S4096x128) ![0, 0] S4096x128.size inb_S4096x128_S4096x128_0_0) (fun _ => rfl)
    let v100 : Vec F S512x128 .f32 ← Prog.lift (.load v99 (⟨![7, 0], S512x128.size, ![8, 1], inb_S4096x128_S512x128_7_0_s_8_1⟩ : LoadRect S4096x128) (View.loadsAt_vmem h_S512x128))
    Prog.lift (.store v99 ⟨(⟨![7, 0], S512x128.size, ![8, 1], inb_S4096x128_S512x128_7_0_s_8_1⟩ : LoadRect S4096x128), spos_8_1⟩ (k0_pay15 v76) Finset.univ (View.stores_vmem_bits_univ h_S512x128 rfl) (.inl rfl))
    pure ⟨⟩
  else do
    pure ⟨⟩
  if k0_h8 : k0_cond8 v9 = 1#1 then do
    let v34 : Vec F S4096x128 .f32 ← Prog.lift (.load arg12 (Rect.unit (s := S4096x128) ![0, 0] S4096x128.size inb_S4096x128_S4096x128_0_0).toLoadRect (View.loadsAt_vmem h_S4096x128))
    Prog.lift (.store arg12 (Rect.unit (s := S4096x128) ![0, 0] S4096x128.size inb_S4096x128_S4096x128_0_0) (k0_pay16 (F := F)) Finset.univ (View.stores_vmem_bits_univ h_S4096x128 rfl) (.inl rfl))
    pure ⟨⟩
  else do
    pure ⟨⟩
  pure ⟨⟩

theorem tail128_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32)
    (y : k0_cond4 v9 = 1#1) (n5 : ¬ k0_cond5 v9 = 1#1) (n6 : ¬ k0_cond6 v9 = 1#1) (n7 : ¬ k0_cond7 v9 = 1#1) (n8 : ¬ k0_cond8 v9 = 1#1)
    (f7 : Bf (F := F) c a7) (f9 : Bf (F := F) c a9) (f11 : Bf (F := F) c a11) (f12 : Bf (F := F) c a12)
    (X : Vec F S4096x128 .f32) (A : FVec F S1024x2048 .bf16) (b : Vec F S1x1x2048 .f32) (B : FVec F S1024x1024 .bf16) (d : Vec F S1x1x1024 .f32)
    (e7 : a7.view.read (Elt F) f7 = X) (e9 : a9.view.read (Elt F) f9 = b) (e11 : a11.view.read (Elt F) f11 = d) (Q : PUnit → sProp 𝕄) :
    iprop(pt c a7 f7 ∗ pt c a9 f9 ∗ pt c a11 f11 ∗ pt c a12 f12 ∗ pt c (Memref.whole cc0_scratch2) A ∗ pt c (Memref.whole cc0_scratch3) B
      ∗ (∀ f', ⌜a12.view.read (Elt F) f' = laid 128 zero (rows128 X A b B d)⌝ -∗
          iprop(pt c a7 f7 ∗ pt c a9 f9 ∗ pt c a11 f11 ∗ pt c a12 f' ∗ pt c (Memref.whole cc0_scratch2) A ∗ pt c (Memref.whole cc0_scratch3) B) -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  unfold tailP
  simp only [dif_pos y, dif_neg n5, dif_neg n6, dif_neg n7, dif_neg n8]
  iintro ⟨H7, H9, H11, H12, HA, HB, Hk⟩
  rw [wp_bind_eq]
  iapply (part2_run c i a1 h1 a2 h2 a3 h3 a4 h4 a5 h5 a6 h6 a7 h7 a8 h8 a9 h9 a10 h10 a11 h11 a12 h12 a13 h13 a14 h14 h15 h16 a17 f7 f9 X A b e7 e9)
  isplitl [H7]; · iexact H7
  isplitl [H9]; · iexact H9
  isplitl [HA]; · iexact HA
  iintro ⟨H7, H9, HA⟩
  beta_reduce
  rw [wp_bind_eq]
  iapply (part3_run c i a1 h1 a2 h2 a3 h3 a4 h4 a5 h5 a6 h6 a7 h7 a8 h8 a9 h9 a10 h10 a11 h11 a12 h12 a13 h13 a14 h14 h15 h16 a17 f11 f12 B d _ e11 rfl)
  isplitl [H11]; · iexact H11
  isplitl [H12]; · iexact H12
  isplitl [HB]; · iexact HB
  iintro %g4 %q4 ⟨H11, H12, HB⟩
  beta_reduce
  iapply (chunk_store c a12 g4 128 1024 5 (by omega) _ q4) $$ H12
  iintro %g5 %q5 H12
  iapply (chunk_store c a12 g5 128 1024 6 (by omega) _ q5) $$ H12
  iintro %g6 %q6 H12
  iapply (chunk_store c a12 g6 128 1024 7 (by omega) _ q6) $$ H12
  iintro %g7 %q7 H12
  iapply (under_store c a12 g7 1024 3072 (by omega) _ q7 zero _ rfl) $$ H12
  iintro %g8 %q8 H12
  sl_step
  iapply Hk $$ [] [H7 H9 H11 H12 HA HB]
  · ipureintro; exact q8.trans (laid_eq 128 zero _ _ slices_S128x1024_o0_0_S128x128 slices_S128x1024_o0_128_S128x128 slices_S128x1024_o0_256_S128x128 slices_S128x1024_o0_384_S128x128 slices_S128x1024_o0_512_S128x128 slices_S128x1024_o0_640_S128x128 slices_S128x1024_o0_768_S128x128 slices_S128x1024_o0_896_S128x128)
  isplitl [H7]; · iexact H7
  isplitl [H9]; · iexact H9
  isplitl [H11]; · iexact H11
  isplitl [H12]; · iexact H12
  isplitl [HA]; · iexact HA
  iexact HB

theorem tail256_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32)
    (y : k0_cond5 v9 = 1#1) (n4 : ¬ k0_cond4 v9 = 1#1) (n6 : ¬ k0_cond6 v9 = 1#1) (n7 : ¬ k0_cond7 v9 = 1#1) (n8 : ¬ k0_cond8 v9 = 1#1)
    (f7 : Bf (F := F) c a7) (f9 : Bf (F := F) c a9) (f11 : Bf (F := F) c a11) (f12 : Bf (F := F) c a12)
    (X : Vec F S4096x128 .f32) (A : FVec F S1024x2048 .bf16) (b : Vec F S1x1x2048 .f32) (B : FVec F S1024x1024 .bf16) (d : Vec F S1x1x1024 .f32)
    (e7 : a7.view.read (Elt F) f7 = X) (e9 : a9.view.read (Elt F) f9 = b) (e11 : a11.view.read (Elt F) f11 = d) (Q : PUnit → sProp 𝕄) :
    iprop(pt c a7 f7 ∗ pt c a9 f9 ∗ pt c a11 f11 ∗ pt c a12 f12 ∗ pt c (Memref.whole cc0_scratch2) A ∗ pt c (Memref.whole cc0_scratch3) B
      ∗ (∀ f', ⌜a12.view.read (Elt F) f' = laid 256 zero (rows256 X A b B d)⌝ -∗
          iprop(pt c a7 f7 ∗ pt c a9 f9 ∗ pt c a11 f11 ∗ pt c a12 f' ∗ pt c (Memref.whole cc0_scratch2) A ∗ pt c (Memref.whole cc0_scratch3) B) -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  unfold tailP
  simp only [dif_pos y, dif_neg n4, dif_neg n6, dif_neg n7, dif_neg n8]
  iintro ⟨H7, H9, H11, H12, HA, HB, Hk⟩
  rw [wp_bind_eq]
  iapply (part4_run c i a1 h1 a2 h2 a3 h3 a4 h4 a5 h5 a6 h6 a7 h7 a8 h8 a9 h9 a10 h10 a11 h11 a12 h12 a13 h13 a14 h14 h15 h16 a17 f7 f9 X A b e7 e9)
  isplitl [H7]; · iexact H7
  isplitl [H9]; · iexact H9
  isplitl [HA]; · iexact HA
  iintro ⟨H7, H9, HA⟩
  beta_reduce
  rw [wp_bind_eq]
  iapply (part5_run c i a1 h1 a2 h2 a3 h3 a4 h4 a5 h5 a6 h6 a7 h7 a8 h8 a9 h9 a10 h10 a11 h11 a12 h12 a13 h13 a14 h14 h15 h16 a17 f11 f12 B d _ e11 rfl)
  isplitl [H11]; · iexact H11
  isplitl [H12]; · iexact H12
  isplitl [HB]; · iexact HB
  iintro %g4 %q4 ⟨H11, H12, HB⟩
  beta_reduce
  iapply (chunk_store c a12 g4 256 2048 5 (by omega) _ q4) $$ H12
  iintro %g5 %q5 H12
  iapply (chunk_store c a12 g5 256 2048 6 (by omega) _ q5) $$ H12
  iintro %g6 %q6 H12
  iapply (chunk_store c a12 g6 256 2048 7 (by omega) _ q6) $$ H12
  iintro %g7 %q7 H12
  iapply (under_store c a12 g7 2048 2048 (by omega) _ q7 zero _ rfl) $$ H12
  iintro %g8 %q8 H12
  sl_step
  iapply Hk $$ [] [H7 H9 H11 H12 HA HB]
  · ipureintro; exact q8.trans (laid_eq 256 zero _ _ slices_S256x1024_o0_0_S256x128 slices_S256x1024_o0_128_S256x128 slices_S256x1024_o0_256_S256x128 slices_S256x1024_o0_384_S256x128 slices_S256x1024_o0_512_S256x128 slices_S256x1024_o0_640_S256x128 slices_S256x1024_o0_768_S256x128 slices_S256x1024_o0_896_S256x128)
  isplitl [H7]; · iexact H7
  isplitl [H9]; · iexact H9
  isplitl [H11]; · iexact H11
  isplitl [H12]; · iexact H12
  isplitl [HA]; · iexact HA
  iexact HB

theorem tail384_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32)
    (y : k0_cond6 v9 = 1#1) (n4 : ¬ k0_cond4 v9 = 1#1) (n5 : ¬ k0_cond5 v9 = 1#1) (n7 : ¬ k0_cond7 v9 = 1#1) (n8 : ¬ k0_cond8 v9 = 1#1)
    (f7 : Bf (F := F) c a7) (f9 : Bf (F := F) c a9) (f11 : Bf (F := F) c a11) (f12 : Bf (F := F) c a12)
    (X : Vec F S4096x128 .f32) (A : FVec F S1024x2048 .bf16) (b : Vec F S1x1x2048 .f32) (B : FVec F S1024x1024 .bf16) (d : Vec F S1x1x1024 .f32)
    (e7 : a7.view.read (Elt F) f7 = X) (e9 : a9.view.read (Elt F) f9 = b) (e11 : a11.view.read (Elt F) f11 = d) (Q : PUnit → sProp 𝕄) :
    iprop(pt c a7 f7 ∗ pt c a9 f9 ∗ pt c a11 f11 ∗ pt c a12 f12 ∗ pt c (Memref.whole cc0_scratch2) A ∗ pt c (Memref.whole cc0_scratch3) B
      ∗ (∀ f', ⌜a12.view.read (Elt F) f' = laid 384 zero (rows384 X A b B d)⌝ -∗
          iprop(pt c a7 f7 ∗ pt c a9 f9 ∗ pt c a11 f11 ∗ pt c a12 f' ∗ pt c (Memref.whole cc0_scratch2) A ∗ pt c (Memref.whole cc0_scratch3) B) -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  unfold tailP
  simp only [dif_pos y, dif_neg n4, dif_neg n5, dif_neg n7, dif_neg n8]
  iintro ⟨H7, H9, H11, H12, HA, HB, Hk⟩
  rw [wp_bind_eq]
  iapply (part6_run c i a1 h1 a2 h2 a3 h3 a4 h4 a5 h5 a6 h6 a7 h7 a8 h8 a9 h9 a10 h10 a11 h11 a12 h12 a13 h13 a14 h14 h15 h16 a17 f7 f9 X A b e7 e9)
  isplitl [H7]; · iexact H7
  isplitl [H9]; · iexact H9
  isplitl [HA]; · iexact HA
  iintro ⟨H7, H9, HA⟩
  beta_reduce
  rw [wp_bind_eq]
  iapply (part7_run c i a1 h1 a2 h2 a3 h3 a4 h4 a5 h5 a6 h6 a7 h7 a8 h8 a9 h9 a10 h10 a11 h11 a12 h12 a13 h13 a14 h14 h15 h16 a17 f11 f12 B d _ e11 rfl)
  isplitl [H11]; · iexact H11
  isplitl [H12]; · iexact H12
  isplitl [HB]; · iexact HB
  iintro %g4 %q4 ⟨H11, H12, HB⟩
  beta_reduce
  iapply (chunk_store c a12 g4 384 3072 5 (by omega) _ q4) $$ H12
  iintro %g5 %q5 H12
  iapply (chunk_store c a12 g5 384 3072 6 (by omega) _ q5) $$ H12
  iintro %g6 %q6 H12
  iapply (chunk_store c a12 g6 384 3072 7 (by omega) _ q6) $$ H12
  iintro %g7 %q7 H12
  iapply (under_store c a12 g7 3072 1024 (by omega) _ q7 zero _ rfl) $$ H12
  iintro %g8 %q8 H12
  sl_step
  iapply Hk $$ [] [H7 H9 H11 H12 HA HB]
  · ipureintro; exact q8.trans (laid_eq 384 zero _ _ slices_S384x1024_o0_0_S384x128 slices_S384x1024_o0_128_S384x128 slices_S384x1024_o0_256_S384x128 slices_S384x1024_o0_384_S384x128 slices_S384x1024_o0_512_S384x128 slices_S384x1024_o0_640_S384x128 slices_S384x1024_o0_768_S384x128 slices_S384x1024_o0_896_S384x128)
  isplitl [H7]; · iexact H7
  isplitl [H9]; · iexact H9
  isplitl [H11]; · iexact H11
  isplitl [H12]; · iexact H12
  isplitl [HA]; · iexact HA
  iexact HB

theorem tail512_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32)
    (y : k0_cond7 v9 = 1#1) (n4 : ¬ k0_cond4 v9 = 1#1) (n5 : ¬ k0_cond5 v9 = 1#1) (n6 : ¬ k0_cond6 v9 = 1#1) (n8 : ¬ k0_cond8 v9 = 1#1)
    (f7 : Bf (F := F) c a7) (f9 : Bf (F := F) c a9) (f11 : Bf (F := F) c a11) (f12 : Bf (F := F) c a12)
    (X : Vec F S4096x128 .f32) (A : FVec F S1024x2048 .bf16) (b : Vec F S1x1x2048 .f32) (B : FVec F S1024x1024 .bf16) (d : Vec F S1x1x1024 .f32)
    (e7 : a7.view.read (Elt F) f7 = X) (e9 : a9.view.read (Elt F) f9 = b) (e11 : a11.view.read (Elt F) f11 = d) (Q : PUnit → sProp 𝕄) :
    iprop(pt c a7 f7 ∗ pt c a9 f9 ∗ pt c a11 f11 ∗ pt c a12 f12 ∗ pt c (Memref.whole cc0_scratch2) A ∗ pt c (Memref.whole cc0_scratch3) B
      ∗ (∀ f', ⌜a12.view.read (Elt F) f' = laid 512 zero (rows512 X A b B d)⌝ -∗
          iprop(pt c a7 f7 ∗ pt c a9 f9 ∗ pt c a11 f11 ∗ pt c a12 f' ∗ pt c (Memref.whole cc0_scratch2) A ∗ pt c (Memref.whole cc0_scratch3) B) -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  unfold tailP
  simp only [dif_pos y, dif_neg n4, dif_neg n5, dif_neg n6, dif_neg n8]
  iintro ⟨H7, H9, H11, H12, HA, HB, Hk⟩
  rw [wp_bind_eq]
  iapply (part8_run c i a1 h1 a2 h2 a3 h3 a4 h4 a5 h5 a6 h6 a7 h7 a8 h8 a9 h9 a10 h10 a11 h11 a12 h12 a13 h13 a14 h14 h15 h16 a17 f7 f9 X A b e7 e9)
  isplitl [H7]; · iexact H7
  isplitl [H9]; · iexact H9
  isplitl [HA]; · iexact HA
  iintro ⟨H7, H9, HA⟩
  beta_reduce
  rw [wp_bind_eq]
  iapply (part9_run c i a1 h1 a2 h2 a3 h3 a4 h4 a5 h5 a6 h6 a7 h7 a8 h8 a9 h9 a10 h10 a11 h11 a12 h12 a13 h13 a14 h14 h15 h16 a17 f11 f12 B d _ e11 rfl)
  isplitl [H11]; · iexact H11
  isplitl [H12]; · iexact H12
  isplitl [HB]; · iexact HB
  iintro %g4 %q4 ⟨H11, H12, HB⟩
  beta_reduce
  iapply (chunk_store c a12 g4 512 4096 5 (by omega) _ q4) $$ H12
  iintro %g5 %q5 H12
  iapply (chunk_store c a12 g5 512 4096 6 (by omega) _ q5) $$ H12
  iintro %g6 %q6 H12
  iapply (chunk_store c a12 g6 512 4096 7 (by omega) _ q6) $$ H12
  iintro %g7 %q7 H12
  sl_step
  iapply Hk $$ [] [H7 H9 H11 H12 HA HB]
  · ipureintro; exact (q7.trans (under_all _ _ rfl).symm).trans (laid_eq 512 zero _ _ slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128)
  isplitl [H7]; · iexact H7
  isplitl [H9]; · iexact H9
  isplitl [H11]; · iexact H11
  isplitl [H12]; · iexact H12
  isplitl [HA]; · iexact HA
  iexact HB

theorem tail0_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32)
    (y : k0_cond8 v9 = 1#1) (n4 : ¬ k0_cond4 v9 = 1#1) (n5 : ¬ k0_cond5 v9 = 1#1) (n6 : ¬ k0_cond6 v9 = 1#1) (n7 : ¬ k0_cond7 v9 = 1#1)
    (f12 : Bf (F := F) c a12) (Q : PUnit → sProp 𝕄) :
    iprop(pt c a12 f12 ∗ (∀ f', ⌜a12.view.read (Elt F) f' = fun _ => zero⌝ -∗ pt c a12 f' -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  unfold tailP
  simp only [dif_pos y, dif_neg n4, dif_neg n5, dif_neg n6, dif_neg n7]
  iintro ⟨H12, Hk⟩
  iapply (under_store c a12 f12 0 4096 (by omega) _ rfl zero _ rfl) $$ H12
  iintro %g8 %q8 H12
  sl_step
  iapply Hk $$ [] H12
  ipureintro; exact q8.trans (by funext j; exact if_pos (Nat.zero_le _))

end Cert.Proof.Experts

end
-- ==== Proof.Body.lean ====
/-
  The expert kernel's body at a grid point, whole: what it does to the weights in flight, to the kept casts and to the
  block it stores, from the words the point reads in the six tables.
-/
module

public import proofs.«01_k».proof.Proof.Tail

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-- What a block's buffer is left at, from the count of its valid rows, its input, the two weights and the two biases. -/
def outF (n : ℕ) (X : Vec F S4096x128 .f32) (A : FVec F S1024x2048 .bf16) (b : Vec F S1x1x2048 .f32) (B : FVec F S1024x1024 .bf16) (d : Vec F S1x1x1024 .f32) :
    Vec F S4096x128 .f32 :=
  if n = 0 then fun _ => zero
  else if n ≤ 128 then laid 128 zero (rows128 X A b B d)
  else if n ≤ 256 then laid 256 zero (rows256 X A b B d)
  else if n ≤ 384 then laid 384 zero (rows384 X A b B d)
  else laid 512 zero (rows512 X A b B d)

theorem outF_zero (X : Vec F S4096x128 .f32) (A A' : FVec F S1024x2048 .bf16) (b : Vec F S1x1x2048 .f32) (B B' : FVec F S1024x1024 .bf16) (d : Vec F S1x1x1024 .f32) :
    outF 0 X A b B d = outF 0 X A' b B' d := by unfold outF; rw [if_pos rfl, if_pos rfl]

set_option maxRecDepth 100000 in
set_option maxHeartbeats 4000000 in
theorem conds (v : BitVec 32) (h : v.toNat ≤ 512) :
    (k0_cond4 v = 1#1 ↔ 0 < v.toNat ∧ v.toNat ≤ 128) ∧ (k0_cond5 v = 1#1 ↔ 128 < v.toNat ∧ v.toNat ≤ 256)
      ∧ (k0_cond6 v = 1#1 ↔ 256 < v.toNat ∧ v.toNat ≤ 384) ∧ (k0_cond7 v = 1#1 ↔ 384 < v.toNat ∧ v.toNat ≤ 512)
      ∧ (k0_cond8 v = 1#1 ↔ v.toNat = 0) := by
  have all : ∀ n : Fin 513, (k0_cond4 (BitVec.ofNat 32 n.val) = 1#1 ↔ 0 < n.val ∧ n.val ≤ 128)
      ∧ (k0_cond5 (BitVec.ofNat 32 n.val) = 1#1 ↔ 128 < n.val ∧ n.val ≤ 256)
      ∧ (k0_cond6 (BitVec.ofNat 32 n.val) = 1#1 ↔ 256 < n.val ∧ n.val ≤ 384)
      ∧ (k0_cond7 (BitVec.ofNat 32 n.val) = 1#1 ↔ 384 < n.val ∧ n.val ≤ 512)
      ∧ (k0_cond8 (BitVec.ofNat 32 n.val) = 1#1 ↔ n.val = 0) := by decide
  have := all ⟨v.toNat, by omega⟩
  simpa only [BitVec.ofNat_toNat, BitVec.setWidth_eq] using this

theorem tail_run (c : Dev nD) (i : grid0.Coords) (a1 h1 a2 h2 a3 h3 a4 h4 a5 h5 a6 h6) (a7 : Memref sig .tc .vmem S4096x128 .f32) (h7 a8 h8) (a9 : Memref sig .tc .vmem S1x1x2048 .f32) (h9 a10 h10) (a11 : Memref sig .tc .vmem S1x1x1024 .f32) (h11) (a12 : Memref sig .tc .vmem S4096x128 .f32) (h12 a13 h13 a14 h14 h15 h16 a17) (v9 : BitVec 32) (hv : v9.toNat ≤ 512)
    (f7 : Bf (F := F) c a7) (f9 : Bf (F := F) c a9) (f11 : Bf (F := F) c a11) (f12 : Bf (F := F) c a12)
    (X : Vec F S4096x128 .f32) (A : FVec F S1024x2048 .bf16) (b : Vec F S1x1x2048 .f32) (B : FVec F S1024x1024 .bf16) (d : Vec F S1x1x1024 .f32)
    (e7 : a7.view.read (Elt F) f7 = X) (e9 : a9.view.read (Elt F) f9 = b) (e11 : a11.view.read (Elt F) f11 = d) (Q : PUnit → sProp 𝕄) :
    iprop(pt c a7 f7 ∗ pt c a9 f9 ∗ pt c a11 f11 ∗ pt c a12 f12 ∗ pt c (Memref.whole cc0_scratch2) A ∗ pt c (Memref.whole cc0_scratch3) B
      ∗ (∀ f', ⌜a12.view.read (Elt F) f' = outF v9.toNat X A b B d⌝ -∗
          iprop(pt c a7 f7 ∗ pt c a9 f9 ∗ pt c a11 f11 ∗ pt c a12 f' ∗ pt c (Memref.whole cc0_scratch2) A ∗ pt c (Memref.whole cc0_scratch3) B) -∗ Q ⟨⟩))
    ⊢ wp frame (wpE (defs₀ (F := F)) Variants.none c none) Set.univ (tailP i a1 h1 a2 h2 a3 h3 a4 h4 a5 h5 a6 h6 a7 h7 a8 h8 a9 h9 a10 h10 a11 h11 a12 h12 a13 h13 a14 h14 (Memref.whole cc0_scratch2) h15 (Memref.whole cc0_scratch3) h16 a17 v9) Q := by
  obtain ⟨c4, c5, c6, c7, c8⟩ := conds v9 hv
  unfold outF
  by_cases q0 : v9.toNat = 0
  · rw [if_pos q0]
    iintro ⟨H7, H9, H11, H12, HA, HB, Hk⟩
    iapply (tail0_run c i a1 h1 a2 h2 a3 h3 a4 h4 a5 h5 a6 h6 a7 h7 a8 h8 a9 h9 a10 h10 a11 h11 a12 h12 a13 h13 a14 h14 h15 h16 a17 v9 (c8.2 q0) (fun h => by have := c4.1 h; omega) (fun h => by have := c5.1 h; omega)
      (fun h => by have := c6.1 h; omega) (fun h => by have := c7.1 h; omega) f12 Q)
    isplitl [H12]; · iexact H12
    iintro %f' %hf H12
    iapply Hk $$ [] [H7 H9 H11 H12 HA HB]
    · ipureintro; exact hf
    isplitl [H7]; · iexact H7
    isplitl [H9]; · iexact H9
    isplitl [H11]; · iexact H11
    isplitl [H12]; · iexact H12
    isplitl [HA]; · iexact HA
    iexact HB
  rw [if_neg q0]
  by_cases q1 : v9.toNat ≤ 128
  · rw [if_pos q1]
    exact tail128_run c i a1 h1 a2 h2 a3 h3 a4 h4 a5 h5 a6 h6 a7 h7 a8 h8 a9 h9 a10 h10 a11 h11 a12 h12 a13 h13 a14 h14 h15 h16 a17 v9 (c4.2 (by omega)) (fun h => by have := c5.1 h; omega) (fun h => by have := c6.1 h; omega)
      (fun h => by have := c7.1 h; omega) (fun h => by have := c8.1 h; omega) f7 f9 f11 f12 X A b B d e7 e9 e11 Q
  rw [if_neg q1]
  by_cases q2 : v9.toNat ≤ 256
  · rw [if_pos q2]
    exact tail256_run c i a1 h1 a2 h2 a3 h3 a4 h4 a5 h5 a6 h6 a7 h7 a8 h8 a9 h9 a10 h10 a11 h11 a12 h12 a13 h13 a14 h14 h15 h16 a17 v9 (c5.2 (by omega)) (fun h => by have := c4.1 h; omega) (fun h => by have := c6.1 h; omega)
      (fun h => by have := c7.1 h; omega) (fun h => by have := c8.1 h; omega) f7 f9 f11 f12 X A b B d e7 e9 e11 Q
  rw [if_neg q2]
  by_cases q3 : v9.toNat ≤ 384
  · rw [if_pos q3]
    exact tail384_run c i a1 h1 a2 h2 a3 h3 a4 h4 a5 h5 a6 h6 a7 h7 a8 h8 a9 h9 a10 h10 a11 h11 a12 h12 a13 h13 a14 h14 h15 h16 a17 v9 (c6.2 (by omega)) (fun h => by have := c4.1 h; omega) (fun h => by have := c5.1 h; omega)
      (fun h => by have := c7.1 h; omega) (fun h => by have := c8.1 h; omega) f7 f9 f11 f12 X A b B d e7 e9 e11 Q
  rw [if_neg q3]
  exact tail512_run c i a1 h1 a2 h2 a3 h3 a4 h4 a5 h5 a6 h6 a7 h7 a8 h8 a9 h9 a10 h10 a11 h11 a12 h12 a13 h13 a14 h14 h15 h16 a17 v9 (c7.2 (by omega)) (fun h => by have := c4.1 h; omega) (fun h => by have := c5.1 h; omega)
    (fun h => by have := c6.1 h; omega) (fun h => by have := c8.1 h; omega) f7 f9 f11 f12 X A b B d e7 e9 e11 Q

/-- The body from the read of whether the block is its expert's first on. -/
def restP (i : grid0.Coords) (arg1 : Memref sig .tc .smem S164 .i32) (harg1 : arg1.IsWhole) (arg2 : Memref sig .tc .smem S1 .i32) (harg2 : arg2.IsWhole) (arg3 : Memref sig .tc .smem S164 .i32) (harg3 : arg3.IsWhole) (arg4 : Memref sig .tc .smem S164 .i32) (harg4 : arg4.IsWhole) (arg5 : Memref sig .tc .smem S164 .i32) (harg5 : arg5.IsWhole) (arg6 : Memref sig .tc .smem S164 .i32) (harg6 : arg6.IsWhole) (arg7 : Memref sig .tc .vmem S4096x128 .f32) (harg7 : arg7.IsWhole) (arg8 : Memref sig .tc .hbm S2x32x1024x2048 .f32) (harg8 : arg8.IsWhole) (arg9 : Memref sig .tc .vmem S1x1x2048 .f32) (harg9 : arg9.IsWhole) (arg10 : Memref sig .tc .hbm S2x32x1024x1024 .f32) (harg10 : arg10.IsWhole) (arg11 : Memref sig .tc .vmem S1x1x1024 .f32) (harg11 : arg11.IsWhole) (arg12 : Memref sig .tc .vmem S4096x128 .f32) (harg12 : arg12.IsWhole) (arg13 : Memref sig .tc .vmem S2x1024x2048 .f32) (harg13 : arg13.IsWhole) (arg14 : Memref sig .tc .vmem S2x1024x1024 .f32) (harg14 : arg14.IsWhole) (arg15 : Memref sig .tc .vmem S1024x2048 .bf16) (harg15 : arg15.IsWhole) (arg16 : Memref sig .tc .vmem S1024x1024 .bf16) (harg16 : arg16.IsWhole) (arg17 : DmaSems sig S2x2) : Prog (TpuEff nD τ sig (Elt F) Λ₀ .tc) PUnit := do
  let arg0 : BitVec 32 := BitVec.ofNat 32 (i 0).val
  let v4 : Elt F .i32 ← smemLoad arg3 (Rect.unit (s := S164) (k0_off1 i) S1.size (k0_off1_inb i)) numel1_S1 rfl
  if k0_h2 : k0_cond2 v4 = 1#1 then do
    let ⟨v34, v64, k0_hw4, c0_i32_31⟩ : Σ' (v34 : Elt F .i32) (v64 : Elt F .i32) (k0_hw4 : k0_chk4 v4 v34 v64), BitVec 32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg0 v4 k0_h2
    if k0_h3 : k0_cond3 v64 = 1#1 then do
      let v69 : Elt F .i32 ← smemLoad arg5 (Rect.unit (s := S164) (k0_off14 i) S1.size (k0_off14_inb i)) numel1_S1 rfl
      have k0_hw5 : k0_chk5 v4 v64 v69 := (← Prog.lift (TpuEff.assume (k0_chk5 v4 v64 v69) (k0_chk5.dec v4 v64 v69))).down
      let v71 : DmaSems sig S1x1 := arg17.slice (Rect.unit (s := S2x2) (k0_off15 v34) S1x1.size (k0_off15_inb v4 v34 v64 k0_hw4 k0_h2 k0_h3))
      let v72 : DmaSems sig S_ := v71.squeeze S_ squeezes_S1x1_S_
      let v73 : Memref sig .tc .vmem S1x1024x2048 .f32 := arg13.slice (Rect.unit (s := S2x1024x2048) (k0_off16 v34) S1x1024x2048.size (k0_off16_inb v4 v34 v64 k0_hw4 k0_h2 k0_h3)) (fun _ => rfl)
      let v74 : Memref sig .tc .vmem S1024x2048 .f32 := v73.squeeze S1024x2048 squeezes_S1x1024x2048_S1024x2048
      let v75 : Memref sig .tc .hbm S1x1x1024x2048 .f32 := arg8.slice (Rect.unit (s := S2x32x1024x2048) (k0_off17 v69) S1x1x1024x2048.size (k0_off17_inb v4 v64 v69 k0_hw5 k0_h2 k0_h3)) (fun _ => rfl)
      let v76 : Memref sig .tc .hbm S1024x2048 .f32 := v75.squeeze S1024x2048 squeezes_S1x1x1024x2048_S1024x2048
      Prog.lift (.enqueueDma v76 (.here v74) (.dma v72.sem) ((View.wordExact_bits rfl).reshape _ _) ((View.wordExact_bits rfl).reshape _ _) ⟨Or.inl rfl, trivial⟩)
      let v77 : DmaSems sig S1x1 := arg17.slice (Rect.unit (s := S2x2) (k0_off18 v34) S1x1.size (k0_off18_inb v4 v34 v64 k0_hw4 k0_h2 k0_h3))
      let v78 : DmaSems sig S_ := v77.squeeze S_ squeezes_S1x1_S_
      let v79 : Memref sig .tc .vmem S1x1024x1024 .f32 := arg14.slice (Rect.unit (s := S2x1024x1024) (k0_off19 v34) S1x1024x1024.size (k0_off19_inb v4 v34 v64 k0_hw4 k0_h2 k0_h3)) (fun _ => rfl)
      let v80 : Memref sig .tc .vmem S1024x1024 .f32 := v79.squeeze S1024x1024 squeezes_S1x1024x1024_S1024x1024
      let v81 : Memref sig .tc .hbm S1x1x1024x1024 .f32 := arg10.slice (Rect.unit (s := S2x32x1024x1024) (k0_off20 v69) S1x1x1024x1024.size (k0_off20_inb v4 v64 v69 k0_hw5 k0_h2 k0_h3)) (fun _ => rfl)
      let v82 : Memref sig .tc .hbm S1024x1024 .f32 := v81.squeeze S1024x1024 squeezes_S1x1x1024x1024_S1024x1024
      Prog.lift (.enqueueDma v82 (.here v80) (.dma v78.sem) ((View.wordExact_bits rfl).reshape _ _) ((View.wordExact_bits rfl).reshape _ _) ⟨Or.inl rfl, trivial⟩)
      pure ⟨⟩
    else do
      pure ⟨⟩
    pure ⟨⟩
  else do
    pure ⟨⟩
  let v9 : Elt F .i32 ← smemLoad arg6 (Rect.unit (s := S164) (k0_off21 i) S1.size (k0_off21_inb i)) numel1_S1 rfl
  tailP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v9

/-- The other slot. -/
def oth (s : Fin 2) : Fin 2 := 1 - s

/-- The expert a table's word names, if it names one. -/
def nextOf (w : BitVec 32) : Option (Fin 32) := if h : w.toNat < 32 then some ⟨w.toNat, h⟩ else none

/-- What a core holds of the weights between two points: expert `e`'s blocks in flight to slot `s`, or nothing in flight. -/
def St (c : Dev nD) (W1 : Bf (F := F) c (Memref.whole main_arg2)) (W2 : Bf (F := F) c (Memref.whole main_arg4)) (s : Fin 2) : Option (Fin 32) → sProp 𝕄
  | some e => iprop(∃ g1 g2 h1 h2, flying c s e g1 g2 W1 W2 ∗ free c (oth s) h1 h2)
  | none => iprop(∃ g1 g2 h1 h2, home c W1 W2 ∗ free c s g1 g2 ∗ free c (oth s) h1 h2)

/-- The kept casts, of expert `x`'s weights if one is named. -/
def kept (c : Dev nD) (W1 : Bf (F := F) c (Memref.whole main_arg2)) (W2 : Bf (F := F) c (Memref.whole main_arg4)) (x : Option (Fin 32)) : sProp 𝕄 :=
  iprop(∃ A B, ⌜∀ e, x = some e → A = cast1 c W1 e ∧ B = cast2 c W2 e⌝ ∗ pt c (Memref.whole cc0_scratch2) A ∗ pt c (Memref.whole cc0_scratch3) B)

/-- The word a point reads in a table of one word a point. -/
theorem word_at (c : Dev nD) (M : Memref sig .tc .smem S164 .i32) (f : Bf (F := F) c M) (i : grid0.Coords) (inb) (h1) :
    wordAt c M f (Rect.unit (s := S164) (k0_off1 i) S1.size inb) h1 = M.view.read (Elt F) f (ix1 (i 0 : Fin 164)) := by
  show M.view.read (Elt F) f _ = M.view.read (Elt F) f _
  congr 1
  funext a
  apply Fin.ext
  fin_cases a
  have hi : (i 0).val < 164 := (i 0).isLt
  show (Scalar.indexCast (BitVec.ofNat 32 (i 0).val)).toNat + 1 * 0 = (i 0).val
  show (BitVec.ofNat 32 (i 0).val).toNat + 1 * 0 = (i 0).val
  rw [BitVec.toNat_ofNat, Nat.mod_eq_of_lt (by omega)]
  exact Nat.add_zero _

theorem oth_oth (s : Fin 2) : oth (oth s) = s := by revert s; decide

theorem oth_word (w : BitVec 32) (h : w.toNat < 2) : ∃ h', oth ⟨w.toNat, h⟩ = ⟨(Scalar.subi 1#32 w).toNat, h'⟩ := by
  have hw : w = 0#32 ∨ w = 1#32 := by
    rcases (by omega : w.toNat = 0 ∨ w.toNat = 1) with h | h
    · left; exact BitVec.eq_of_toNat_eq h
    · right; exact BitVec.eq_of_toNat_eq h
  rcases hw with rfl | rfl
  · exact ⟨by decide, rfl⟩
  · exact ⟨by decide, rfl⟩

theorem cond2_iff (w : BitVec 32) : k0_cond2 w = 1#1 ↔ w = 1#32 := by
  unfold k0_cond2
  by_cases h : w = 1#32
  · subst h; decide
  · refine iff_of_false ?_ h
    have hb : (w == 1#32) = false := by simpa using h
    simp only [Scalar.cmpi, Scalar.extui, IntOp.cmpi, hb]
    decide

theorem cond3_lt (w : BitVec 32) (h : w.toNat < 32) : k0_cond3 w = 1#1 := by
  have all : ∀ n : Fin 32, k0_cond3 (BitVec.ofNat 32 n.val) = 1#1 := by decide
  have := all ⟨w.toNat, h⟩
  simpa only [BitVec.ofNat_toNat, BitVec.setWidth_eq] using this

/-- A core's six tables. -/
def tabs (c : Dev nD) (f0 : Bf (F := F) c (Memref.whole main_v20)) (f1 : Bf (F := F) c (Memref.whole main_v22)) (f2 : Bf (F := F) c (Memref.whole main_v34))
    (f3 : Bf (F := F) c (Memref.whole main_v38)) (f4 : Bf (F := F) c (Memref.whole main_v63)) (f5 : Bf (F := F) c (Memref.whole main_v71)) : sProp 𝕄 :=
  iprop(tb c (Memref.whole main_v20) f0 ∗ tb c (Memref.whole main_v22) f1 ∗ tb c (Memref.whole main_v34) f2 ∗ tb c (Memref.whole main_v38) f3
    ∗ tb c (Memref.whole main_v63) f4 ∗ tb c (Memref.whole main_v71) f5)

/-- A core's four blocks at a point. -/
def blocks (c : Dev nD) {a7 : Memref sig .tc .vmem S4096x128 .f32} {a9 : Memref sig .tc .vmem S1x1x2048 .f32} {a11 : Memref sig .tc .vmem S1x1x1024 .f32}
    {a12 : Memref sig .tc .vmem S4096x128 .f32} (f7 : Bf (F := F) c a7) (f9 : Bf (F := F) c a9) (f11 : Bf (F := F) c a11) (f12 : Bf (F := F) c a12) : sProp 𝕄 :=
  iprop(pt c a7 f7 ∗ pt c a9 f9 ∗ pt c a11 f11 ∗ pt c a12 f12)

theorem end_run (c : Dev nD) (i : grid0.Coords) (h1 h2 h3 h4 h5 h6) (a7 : Memref sig .tc .vmem S4096x128 .f32) (h7 h8) (a9 : Memref sig .tc .vmem S1x1x2048 .f32) (h9 h10) (a11 : Memref sig .tc .vmem S1x1x1024 .f32) (h11) (a12 : Memref sig .tc .vmem S4096x128 .f32) (h12 h13 h14 h15 h16)
    (f5 : Bf (F := F) c (Memref.whole main_v71)) (wv : BitVec 32)
    (e5 : (Memref.whole main_v71).view.read (Elt F) f5 (ix1 (i 0 : Fin 164)) = wv) (hv : wv.toNat ≤ 512) (e : Fin 32) (x : Option (Fin 32)) (hx : wv.toNat ≠ 0 → x = some e)
    (W1 : Bf (F := F) c (Memref.whole main_arg2)) (W2 : Bf (F := F) c (Memref.whole main_arg4))
    (f7 : Bf (F := F) c a7) (f9 : Bf (F := F) c a9) (f11 : Bf (F := F) c a11) (f12 : Bf (F := F) c a12)
    (X : Vec F S4096x128 .f32) (b : Vec F S1x1x2048 .f32) (d : Vec F S1x1x1024 .f32)
    (e7 : a7.view.read (Elt F) f7 = X) (e9 : a9.view.read (Elt F) f9 = b) (e11 : a11.view.read (Elt F) f11 = d) (Q : PUnit → sProp 𝕄) :
    iprop(tb c (Memref.whole main_v71) f5 ∗ kept c W1 W2 x ∗ blocks c f7 f9 f11 f12
      ∗ (∀ f', ⌜a12.view.read (Elt F) f' = outF wv.toNat X (cast1 c W1 e) b (cast2 c W2 e) d⌝ -∗
          iprop(tb c (Memref.whole main_v71) f5 ∗ kept c W1 W2 x ∗ blocks c f7 f9 f11 f') -∗ Q ⟨⟩))
    ⊢ wp frame (wpE (defs₀ (F := F)) Variants.none c none) Set.univ
      (smemLoad (Memref.whole main_v71) (Rect.unit (s := S164) (k0_off21 i) S1.size (k0_off21_inb i)) numel1_S1 rfl >>= fun v9 => tailP i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4 v9) Q := by
  unfold kept blocks
  iintro ⟨H5, ⟨%A, %B, %hAB, HA, HB⟩, ⟨H7, H9, H11, H12⟩, Hk⟩
  iapply (smem_run c (Memref.whole main_v71) f5 _ _ _ wv ((word_at c (Memref.whole main_v71) f5 i _ _).trans e5)) $$ H5
  iintro H5
  iapply (tail_run c i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 h15 h16 cc0_scratch4 wv hv f7 f9 f11 f12 X A b B d e7 e9 e11 Q)
  isplitl [H7]; · iexact H7
  isplitl [H9]; · iexact H9
  isplitl [H11]; · iexact H11
  isplitl [H12]; · iexact H12
  isplitl [HA]; · iexact HA
  isplitl [HB]; · iexact HB
  iintro %f' %hf ⟨H7, H9, H11, H12, HA, HB⟩
  iapply Hk $$ [] [H5 H7 H9 H11 H12 HA HB]
  · ipureintro
    rw [hf]
    by_cases h0 : wv.toNat = 0
    · rw [h0]; exact outF_zero ..
    · obtain ⟨rfl, rfl⟩ := hAB e (hx h0); rfl
  isplitl [H5]; · iexact H5
  isplitl [HA HB]
  · iexists A, B
    isplitr; · ipureintro; exact hAB
    isplitl [HA] <;> iassumption
  isplitl [H7]; · iexact H7
  isplitl [H9]; · iexact H9
  isplitl [H11]; · iexact H11
  iexact H12

set_option maxHeartbeats 1000000 in
/-- A point that is not its expert's first: the flight and the kept casts stay. -/
theorem rest_same (c : Dev nD) (i : grid0.Coords) (h1 h2 h3 h4 h5 h6) (a7 : Memref sig .tc .vmem S4096x128 .f32) (h7 h8) (a9 : Memref sig .tc .vmem S1x1x2048 .f32) (h9 h10) (a11 : Memref sig .tc .vmem S1x1x1024 .f32) (h11) (a12 : Memref sig .tc .vmem S4096x128 .f32) (h12 h13 h14 h15 h16)
    (f0 : Bf (F := F) c (Memref.whole main_v20)) (f1 : Bf (F := F) c (Memref.whole main_v22)) (f2 : Bf (F := F) c (Memref.whole main_v34))
    (f3 : Bf (F := F) c (Memref.whole main_v38)) (f4 : Bf (F := F) c (Memref.whole main_v63)) (f5 : Bf (F := F) c (Memref.whole main_v71))
    (we wf ws wn wv : BitVec 32)
    (e0 : (Memref.whole main_v20).view.read (Elt F) f0 (ix1 (i 0 : Fin 164)) = we) (e2 : (Memref.whole main_v34).view.read (Elt F) f2 (ix1 (i 0 : Fin 164)) = wf)
    (e3 : (Memref.whole main_v38).view.read (Elt F) f3 (ix1 (i 0 : Fin 164)) = ws) (e4 : (Memref.whole main_v63).view.read (Elt F) f4 (ix1 (i 0 : Fin 164)) = wn)
    (e5 : (Memref.whole main_v71).view.read (Elt F) f5 (ix1 (i 0 : Fin 164)) = wv)
    (he32 : we.toNat < 32) (hv : wv.toNat ≤ 512) (hf : wf ≠ 1#32) (s : Fin 2) (o x : Option (Fin 32)) (hx : wv.toNat ≠ 0 → x = some ⟨we.toNat, he32⟩)
    (W1 : Bf (F := F) c (Memref.whole main_arg2)) (W2 : Bf (F := F) c (Memref.whole main_arg4)) (W : Waits sig Unit)
    (f7 : Bf (F := F) c a7) (f9 : Bf (F := F) c a9) (f11 : Bf (F := F) c a11) (f12 : Bf (F := F) c a12)
    (X : Vec F S4096x128 .f32) (b : Vec F S1x1x2048 .f32) (d : Vec F S1x1x1024 .f32)
    (e7 : a7.view.read (Elt F) f7 = X) (e9 : a9.view.read (Elt F) f9 = b) (e11 : a11.view.read (Elt F) f11 = d) (Q : PUnit → sProp 𝕄) :
    iprop(tabs c f0 f1 f2 f3 f4 f5 ∗ St c W1 W2 s o ∗ kept c W1 W2 x ∗ owes (c : Thread nD τ) 0 W ∗ blocks c f7 f9 f11 f12
      ∗ (∀ f', ⌜a12.view.read (Elt F) f' = outF wv.toNat X (cast1 c W1 ⟨we.toNat, he32⟩) b (cast2 c W2 ⟨we.toNat, he32⟩) d⌝ -∗
          iprop(tabs c f0 f1 f2 f3 f4 f5 ∗ St c W1 W2 s o ∗ kept c W1 W2 x ∗ (∃ W, owes (c : Thread nD τ) 0 W) ∗ blocks c f7 f9 f11 f') -∗ Q ⟨⟩))
    ⊢ wp frame (wpE (defs₀ (F := F)) Variants.none c none) Set.univ (restP i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4) Q := by
  unfold restP tabs
  dsimp only
  iintro ⟨⟨H0, H1, H2, H3, H4, H5⟩, HS, Hd, HO, Hb, Hk⟩
  iapply (smem_run c (Memref.whole main_v34) f2 _ _ _ wf ((word_at c (Memref.whole main_v34) f2 i _ _).trans e2)) $$ H2
  iintro H2
  rw [dif_neg (fun h => hf ((cond2_iff wf).1 h))]
  iapply (end_run c i h1 h2 h3 h4 h5 h6 a7 h7 h8 a9 h9 h10 a11 h11 a12 h12 h13 h14 h15 h16 f5 wv e5 hv ⟨we.toNat, he32⟩ x hx W1 W2 f7 f9 f11 f12 X b d e7 e9 e11 Q)
  isplitl [H5]; · iexact H5
  isplitl [Hd]; · iexact Hd
  isplitl [Hb]; · iexact Hb
  iintro %f' %hf ⟨H5, Hd, Hb⟩
  iapply Hk $$ [] [H0 H1 H2 H3 H4 H5 HS Hd HO Hb]
  · ipureintro; exact hf
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]; · iexact HS
  isplitl [Hd]; · iexact Hd
  isplitl [HO]; · iexists W; iexact HO
  iexact Hb

theorem casts_kept (c : Dev nD) (W1 : Bf (F := F) c (Memref.whole main_arg2)) (W2 : Bf (F := F) c (Memref.whole main_arg4)) (e : Fin 32) :
    casts c W1 W2 e ⊢ kept c W1 W2 (some e) := by
  unfold casts kept
  iintro ⟨HA, HB⟩
  iexists _, _
  isplitr
  · ipureintro
    intro e' he
    cases he
    exact ⟨rfl, rfl⟩
  isplitl [HA] <;> iassumption

theorem St_none (c : Dev nD) (W1 : Bf (F := F) c (Memref.whole main_arg2)) (W2 : Bf (F := F) c (Memref.whole main_arg4)) (s : Fin 2)
    (p1 : Bf (F := F) c (sl1 s)) (p2 : Bf (F := F) c (sl2 s)) (q1 : Bf (F := F) c (sl1 (oth s))) (q2 : Bf (F := F) c (sl2 (oth s))) :
    iprop(home c W1 W2 ∗ free c s p1 p2 ∗ free c (oth s) q1 q2) ⊢ St c W1 W2 (oth s) (nextOf 4294967295#32) := by
  rw [show nextOf 4294967295#32 = none by decide]
  obtain ⟨t, rfl⟩ : ∃ t, s = oth t := ⟨oth s, (oth_oth s).symm⟩
  revert q1 q2
  rw [oth_oth]
  intro q1 q2
  unfold St
  iintro ⟨Hh, Hs, Ho⟩
  iexists _, _, _, _
  isplitl [Hh]; · iexact Hh
  isplitl [Ho] <;> iassumption

theorem St_some (c : Dev nD) (W1 : Bf (F := F) c (Memref.whole main_arg2)) (W2 : Bf (F := F) c (Memref.whole main_arg4)) (s : Fin 2) (w : BitVec 32) (h : w.toNat < 32)
    (q1 : Bf (F := F) c (sl1 (oth s))) (q2 : Bf (F := F) c (sl2 (oth s))) (p1 : Bf (F := F) c (sl1 s)) (p2 : Bf (F := F) c (sl2 s)) :
    iprop(flying c (oth s) ⟨w.toNat, h⟩ q1 q2 W1 W2 ∗ free c s p1 p2) ⊢ St c W1 W2 (oth s) (nextOf w) := by
  rw [show nextOf w = some ⟨w.toNat, h⟩ from dif_pos h]
  obtain ⟨t, rfl⟩ : ∃ t, s = oth t := ⟨oth s, (oth_oth s).symm⟩
  revert q1 q2
  rw [oth_oth]
  intro q1 q2
  unfold St
  iintro ⟨HF, Hs⟩
  iexists _, _, _, _
  isplitl [HF] <;> iassumption

set_option maxHeartbeats 2000000 in
/-- An expert's first point: its blocks land and are cast, and the next expert's are started. -/
theorem rest_first (c : Dev nD) (i : grid0.Coords) (h1 h2 h3 h4 h5 h6) (a7 : Memref sig .tc .vmem S4096x128 .f32) (h7 h8) (a9 : Memref sig .tc .vmem S1x1x2048 .f32) (h9 h10) (a11 : Memref sig .tc .vmem S1x1x1024 .f32) (h11) (a12 : Memref sig .tc .vmem S4096x128 .f32) (h12 h13 h14 h15 h16)
    (f0 : Bf (F := F) c (Memref.whole main_v20)) (f1 : Bf (F := F) c (Memref.whole main_v22)) (f2 : Bf (F := F) c (Memref.whole main_v34))
    (f3 : Bf (F := F) c (Memref.whole main_v38)) (f4 : Bf (F := F) c (Memref.whole main_v63)) (f5 : Bf (F := F) c (Memref.whole main_v71))
    (we wf ws wn wv : BitVec 32)
    (e0 : (Memref.whole main_v20).view.read (Elt F) f0 (ix1 (i 0 : Fin 164)) = we) (e2 : (Memref.whole main_v34).view.read (Elt F) f2 (ix1 (i 0 : Fin 164)) = wf)
    (e3 : (Memref.whole main_v38).view.read (Elt F) f3 (ix1 (i 0 : Fin 164)) = ws) (e4 : (Memref.whole main_v63).view.read (Elt F) f4 (ix1 (i 0 : Fin 164)) = wn)
    (e5 : (Memref.whole main_v71).view.read (Elt F) f5 (ix1 (i 0 : Fin 164)) = wv)
    (he32 : we.toNat < 32) (hv : wv.toNat ≤ 512) (hf : wf = 1#32) (hs2 : ws.toNat < 2) (hn : wn = 4294967295#32 ∨ wn.toNat < 32) (d2 : Bf (F := F) c (Memref.whole cc0_scratch2)) (d3 : Bf (F := F) c (Memref.whole cc0_scratch3))
    (W1 : Bf (F := F) c (Memref.whole main_arg2)) (W2 : Bf (F := F) c (Memref.whole main_arg4)) (W : Waits sig Unit)
    (f7 : Bf (F := F) c a7) (f9 : Bf (F := F) c a9) (f11 : Bf (F := F) c a11) (f12 : Bf (F := F) c a12)
    (X : Vec F S4096x128 .f32) (b : Vec F S1x1x2048 .f32) (d : Vec F S1x1x1024 .f32)
    (e7 : a7.view.read (Elt F) f7 = X) (e9 : a9.view.read (Elt F) f9 = b) (e11 : a11.view.read (Elt F) f11 = d) (Q : PUnit → sProp 𝕄) :
    iprop(tabs c f0 f1 f2 f3 f4 f5 ∗ St c W1 W2 ⟨ws.toNat, hs2⟩ (some ⟨we.toNat, he32⟩) ∗ pt c (Memref.whole cc0_scratch2) d2 ∗ pt c (Memref.whole cc0_scratch3) d3 ∗ owes (c : Thread nD τ) 0 W ∗ blocks c f7 f9 f11 f12
      ∗ (∀ f', ⌜a12.view.read (Elt F) f' = outF wv.toNat X (cast1 c W1 ⟨we.toNat, he32⟩) b (cast2 c W2 ⟨we.toNat, he32⟩) d⌝ -∗
          iprop(tabs c f0 f1 f2 f3 f4 f5 ∗ St c W1 W2 (oth ⟨ws.toNat, hs2⟩) (nextOf wn) ∗ kept c W1 W2 (some ⟨we.toNat, he32⟩) ∗ (∃ W, owes (c : Thread nD τ) 0 W) ∗ blocks c f7 f9 f11 f') -∗ Q ⟨⟩))
    ⊢ wp frame (wpE (defs₀ (F := F)) Variants.none c none) Set.univ (restP i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4) Q := by
  obtain ⟨hs', hso⟩ := oth_word ws hs2
  have hc4 : k0_chk4 wf ws wn := ⟨fun _ _ => sem_inb 0 ⟨_, hs'⟩, fun _ _ => sl1_inb ⟨_, hs'⟩, fun _ _ => sem_inb 1 ⟨_, hs'⟩, fun _ _ => sl2_inb ⟨_, hs'⟩⟩
  have hc2 : k0_cond2 wf = 1#1 := (cond2_iff wf).2 hf
  unfold restP tabs
  dsimp only
  rw [show St c W1 W2 ⟨ws.toNat, hs2⟩ (some ⟨we.toNat, he32⟩) = iprop(∃ g1 g2 h1 h2, flying c ⟨ws.toNat, hs2⟩ ⟨we.toNat, he32⟩ g1 g2 W1 W2 ∗ free c (oth ⟨ws.toNat, hs2⟩) h1 h2) from rfl]
  iintro ⟨⟨H0, H1, H2, H3, H4, H5⟩, ⟨%g1, %g2, %q1, %q2, HF, Hfr⟩, Hd2, Hd3, HO, Hb, Hk⟩
  iapply (smem_run c (Memref.whole main_v34) f2 _ _ _ wf ((word_at c (Memref.whole main_v34) f2 i _ _).trans e2)) $$ H2
  iintro H2
  rw [dif_pos hc2, wp_bind_eq]
  iapply (part1_run c i (Memref.whole main_v22) h2 (Memref.whole main_v34) h3 (Memref.whole main_v71) h6 a7 h7 h8 a9 h9 h10 a11 h11 a12 h12 h1 h4 h5 h13 h14 h15 h16 (BitVec.ofNat 32 (i 0).val) wf hc2 f0 f3 f4 we ws wn
    ((word_at c (Memref.whole main_v20) f0 i _ _).trans e0) ((word_at c (Memref.whole main_v38) f3 i _ _).trans e3)
    ((word_at c (Memref.whole main_v63) f4 i _ _).trans e4) he32 hs2 hc4 g1 g2 W1 W2 W d2 d3)
  isplitl [H0]; · iexact H0
  isplitl [H3]; · iexact H3
  isplitl [H4]; · iexact H4
  isplitl [HF]; · iexact HF
  isplitl [Hd2]; · iexact Hd2
  isplitl [Hd3]; · iexact Hd3
  isplitl [HO]; · iexact HO
  iintro ⟨H0, H3, H4, Hh, ⟨%p1, %p2, Hfs⟩, Hd, HO⟩
  beta_reduce
  dsimp only
  ihave Hd := (casts_kept c W1 W2 ⟨we.toNat, he32⟩) $$ Hd
  rcases hn with hn | hn
  · subst hn
    rw [dif_neg (by decide)]
    ihave HS := (St_none c W1 W2 ⟨ws.toNat, hs2⟩ p1 p2 q1 q2) $$ [Hh Hfs Hfr]
    · isplitl [Hh]; · iexact Hh
      isplitl [Hfs] <;> iassumption
    iapply (end_run c i h1 h2 h3 h4 h5 h6 a7 h7 h8 a9 h9 h10 a11 h11 a12 h12 h13 h14 h15 h16 f5 wv e5 hv ⟨we.toNat, he32⟩ (some ⟨we.toNat, he32⟩) (fun _ => rfl) W1 W2 f7 f9 f11 f12 X b d e7 e9 e11 Q)
    isplitl [H5]; · iexact H5
    isplitl [Hd]; · iexact Hd
    isplitl [Hb]; · iexact Hb
    iintro %f' %hf ⟨H5, Hd, Hb⟩
    iapply Hk $$ [] [H0 H1 H2 H3 H4 H5 HS Hd HO Hb]
    · ipureintro; exact hf
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HS]; · iexact HS
    isplitl [Hd]; · iexact Hd
    isplitl [HO]; · iexact HO
    iexact Hb
  · have hc5 : k0_chk5 wf wn wn := ⟨fun _ _ => src1_inb ⟨wn.toNat, hn⟩, fun _ _ => src2_inb ⟨wn.toNat, hn⟩⟩
    rw [dif_pos (cond3_lt wn hn)]
    iapply (smem_run c (Memref.whole main_v63) f4 _ _ _ wn ((word_at c (Memref.whole main_v63) f4 i _ _).trans e4)) $$ H4
    iintro H4
    iapply (assume_run c _ hc5)
    rw [hso]
    ihave Hi := (show iprop(home c W1 W2 ∗ free c ⟨(Scalar.subi 1#32 ws).toNat, hs'⟩ _ _) ⊢ _ from issue_run c ⟨(Scalar.subi 1#32 ws).toNat, hs'⟩ ⟨wn.toNat, hn⟩ _ _ W1 W2 _ Q) $$ [Hh Hfr]
    · isplitl [Hh] <;> iassumption
    iapply Hi
    iintro HF
    rw [← hso]
    ihave HS := (St_some c W1 W2 ⟨ws.toNat, hs2⟩ wn hn q1 q2 p1 p2) $$ [HF Hfs]
    · isplitl [HF] <;> iassumption
    iapply (end_run c i h1 h2 h3 h4 h5 h6 a7 h7 h8 a9 h9 h10 a11 h11 a12 h12 h13 h14 h15 h16 f5 wv e5 hv ⟨we.toNat, he32⟩ (some ⟨we.toNat, he32⟩) (fun _ => rfl) W1 W2 f7 f9 f11 f12 X b d e7 e9 e11 Q)
    isplitl [H5]; · iexact H5
    isplitl [Hd]; · iexact Hd
    isplitl [Hb]; · iexact Hb
    iintro %f' %hf ⟨H5, Hd, Hb⟩
    iapply Hk $$ [] [H0 H1 H2 H3 H4 H5 HS Hd HO Hb]
    · ipureintro; exact hf
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HS]; · iexact HS
    isplitl [Hd]; · iexact Hd
    isplitl [HO]; · iexact HO
    iexact Hb

theorem cond1_iff (i : grid0.Coords) : k0_cond1 i = 1#1 ↔ (i 0).val = 0 := by
  have hi : (i 0).val < 164 := (i 0).isLt
  have hb : (BitVec.ofNat 32 (i 0).val == 0#32) = decide ((i 0).val = 0) := by
    rw [Bool.eq_iff_iff]
    simp only [beq_iff_eq, decide_eq_true_eq]
    constructor
    · intro h
      have := congrArg BitVec.toNat h
      rwa [BitVec.toNat_ofNat, Nat.mod_eq_of_lt (by omega)] at this
    · intro h; rw [h]
  unfold k0_cond1
  simp only [Scalar.cmpi, Scalar.extui, IntOp.cmpi, hb]
  by_cases h : (i 0).val = 0
  · simp only [h]; decide
  · simp only [h]; decide

set_option maxHeartbeats 2000000 in
/-- A point past the first is the rest of the body. -/
theorem body_rest (c : Dev nD) (i : grid0.Coords) (h1 h2 h3 h4 h5 h6) (a7 : Memref sig .tc .vmem S4096x128 .f32) (h7 h8) (a9 : Memref sig .tc .vmem S1x1x2048 .f32) (h9 h10) (a11 : Memref sig .tc .vmem S1x1x1024 .f32) (h11) (a12 : Memref sig .tc .vmem S4096x128 .f32) (h12 h13 h14 h15 h16) (hi : (i 0).val ≠ 0) (P : sProp 𝕄) (Q : PUnit → sProp 𝕄)
    (h : P ⊢ wp frame (wpE (defs₀ (F := F)) Variants.none c none) Set.univ (restP i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4) Q) :
    P ⊢ wp frame (wpE (defs₀ (F := F)) Variants.none c none) Set.univ (cc0_experts i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4) Q := by
  rw [cc0_experts_eq_skeleton]
  unfold cc0_experts_skel
  dsimp only
  rw [dif_neg (fun h => hi ((cond1_iff i).1 h))]
  exact h

set_option maxHeartbeats 4000000 in
/-- The first point: the first expert's blocks are started and the rest of the body run. -/
theorem body_zero (c : Dev nD) (i : grid0.Coords) (h1 h2 h3 h4 h5 h6) (a7 : Memref sig .tc .vmem S4096x128 .f32) (h7 h8) (a9 : Memref sig .tc .vmem S1x1x2048 .f32) (h9 h10) (a11 : Memref sig .tc .vmem S1x1x1024 .f32) (h11) (a12 : Memref sig .tc .vmem S4096x128 .f32) (h12 h13 h14 h15 h16)
    (f0 : Bf (F := F) c (Memref.whole main_v20)) (f1 : Bf (F := F) c (Memref.whole main_v22)) (f2 : Bf (F := F) c (Memref.whole main_v34))
    (f3 : Bf (F := F) c (Memref.whole main_v38)) (f4 : Bf (F := F) c (Memref.whole main_v63)) (f5 : Bf (F := F) c (Memref.whole main_v71))
    (we wf ws wn wv : BitVec 32)
    (e0 : (Memref.whole main_v20).view.read (Elt F) f0 (ix1 (i 0 : Fin 164)) = we) (e2 : (Memref.whole main_v34).view.read (Elt F) f2 (ix1 (i 0 : Fin 164)) = wf)
    (e3 : (Memref.whole main_v38).view.read (Elt F) f3 (ix1 (i 0 : Fin 164)) = ws) (e4 : (Memref.whole main_v63).view.read (Elt F) f4 (ix1 (i 0 : Fin 164)) = wn)
    (e5 : (Memref.whole main_v71).view.read (Elt F) f5 (ix1 (i 0 : Fin 164)) = wv)
    (he32 : we.toNat < 32) (hv : wv.toNat ≤ 512) (hi : (i 0).val = 0) (hf : wf = 1#32) (hs0 : ws = 0#32) (hn : wn = 4294967295#32 ∨ wn.toNat < 32) (d2 : Bf (F := F) c (Memref.whole cc0_scratch2)) (d3 : Bf (F := F) c (Memref.whole cc0_scratch3))
    (W1 : Bf (F := F) c (Memref.whole main_arg2)) (W2 : Bf (F := F) c (Memref.whole main_arg4)) (W : Waits sig Unit)
    (f7 : Bf (F := F) c a7) (f9 : Bf (F := F) c a9) (f11 : Bf (F := F) c a11) (f12 : Bf (F := F) c a12)
    (X : Vec F S4096x128 .f32) (b : Vec F S1x1x2048 .f32) (d : Vec F S1x1x1024 .f32)
    (e7 : a7.view.read (Elt F) f7 = X) (e9 : a9.view.read (Elt F) f9 = b) (e11 : a11.view.read (Elt F) f11 = d) (Q : PUnit → sProp 𝕄) :
    iprop(tabs c f0 f1 f2 f3 f4 f5 ∗ St c W1 W2 0 none ∗ pt c (Memref.whole cc0_scratch2) d2 ∗ pt c (Memref.whole cc0_scratch3) d3 ∗ owes (c : Thread nD τ) 0 W ∗ blocks c f7 f9 f11 f12
      ∗ (∀ f', ⌜a12.view.read (Elt F) f' = outF wv.toNat X (cast1 c W1 ⟨we.toNat, he32⟩) b (cast2 c W2 ⟨we.toNat, he32⟩) d⌝ -∗
          iprop(tabs c f0 f1 f2 f3 f4 f5 ∗ St c W1 W2 (oth 0) (nextOf wn) ∗ kept c W1 W2 (some ⟨we.toNat, he32⟩) ∗ (∃ W, owes (c : Thread nD τ) 0 W) ∗ blocks c f7 f9 f11 f') -∗ Q ⟨⟩))
    ⊢ wp frame (wpE (defs₀ (F := F)) Variants.none c none) Set.univ (cc0_experts i (Memref.whole main_v20) h1 (Memref.whole main_v22) h2 (Memref.whole main_v34) h3 (Memref.whole main_v38) h4 (Memref.whole main_v63) h5 (Memref.whole main_v71) h6 a7 h7 (Memref.whole main_arg2) h8 a9 h9 (Memref.whole main_arg4) h10 a11 h11 a12 h12 (Memref.whole cc0_scratch0) h13 (Memref.whole cc0_scratch1) h14 (Memref.whole cc0_scratch2) h15 (Memref.whole cc0_scratch3) h16 cc0_scratch4) Q := by
  subst hs0
  have hc1 : k0_chk1 i we := ⟨fun _ => src1_inb ⟨we.toNat, he32⟩, fun _ => src2_inb ⟨we.toNat, he32⟩⟩
  have hw0 : ∀ inb h1, wordAt c (Memref.whole main_v20) f0 (Rect.unit (s := S164) ![0] S1.size inb) h1 = we := by
    intro inb h1
    rw [← e0]
    show (Memref.whole main_v20).view.read (Elt F) f0 _ = (Memref.whole main_v20).view.read (Elt F) f0 _
    congr 1
    funext a
    apply Fin.ext
    fin_cases a
    exact hi.symm
  rw [cc0_experts_eq_skeleton]
  unfold cc0_experts_skel
  dsimp only
  rw [dif_pos ((cond1_iff i).2 hi)]
  unfold tabs
  rw [show St c W1 W2 0 none = iprop(∃ g1 g2 h1 h2, home c W1 W2 ∗ free c 0 g1 g2 ∗ free c (oth 0) h1 h2) from rfl]
  iintro ⟨⟨H0, H1, H2, H3, H4, H5⟩, ⟨%g1, %g2, %q1, %q2, Hh, Hfs, Hfr⟩, Hd2, Hd3, HO, Hb, Hk⟩
  iapply (smem_run c (Memref.whole main_v20) f0 _ _ _ we (hw0 _ _)) $$ H0
  iintro H0
  iapply (assume_run c _ hc1)
  ihave Hi := (show iprop(home c W1 W2 ∗ free c 0 g1 g2) ⊢ _ from issue_run c 0 ⟨we.toNat, he32⟩ g1 g2 W1 W2 _ Q) $$ [Hh Hfs]
  · isplitl [Hh] <;> iassumption
  iapply Hi
  iintro HF
  iapply (rest_first c i h1 h2 h3 h4 h5 h6 a7 h7 h8 a9 h9 h10 a11 h11 a12 h12 h13 h14 h15 h16 f0 f1 f2 f3 f4 f5 we wf 0#32 wn wv e0 e2 e3 e4 e5 he32 hv hf (by decide) hn d2 d3 W1 W2 W f7 f9 f11 f12 X b d e7 e9 e11 Q)
  isplitl [H0 H1 H2 H3 H4 H5]
  · unfold tabs
    isplitl [H0]; · iexact H0
    isplitl [H1]; · iexact H1
    isplitl [H2]; · iexact H2
    isplitl [H3]; · iexact H3
    isplitl [H4]; · iexact H4
    iexact H5
  isplitl [HF Hfr]
  · unfold St
    iexists g1, g2, q1, q2
    isplitl [HF]; · iexact HF
    iexact Hfr
  isplitl [Hd2]; · iexact Hd2
  isplitl [Hd3]; · iexact Hd3
  isplitl [HO]; · iexact HO
  isplitl [Hb]; · iexact Hb
  unfold tabs
  iexact Hk

end Cert.Proof.Experts

end
-- ==== Proof.Run.lean ====
/-
  The grid's run: what the six tables must say of the points (`Good`), what the core holds between two points, and the
  body's obligation at every point.
-/
module

public import proofs.«01_k».proof.Proof.Body
public import proofs.«01_k».proof.Proof.Gen.KernelIdeal.Launch
public import Idealize.ShloMosaic.Lib.Pipeline.FrameBody

@[expose] public section

noncomputable section

namespace Cert.Proof.Experts

open Cert.KernelIdeal Cert.KernelIdeal.Gen

open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The tables' words -/

def tE (pf : pre0.Contents (Elt F)) (n : Fin 164) : BitVec 32 := (pf 0 : S164.Idx → BitVec 32) (ix1 n)
def tU (pf : pre0.Contents (Elt F)) : BitVec 32 := (pf 1 : S1.Idx → BitVec 32) (ix1 0)
def tF (pf : pre0.Contents (Elt F)) (n : Fin 164) : BitVec 32 := (pf 2 : S164.Idx → BitVec 32) (ix1 n)
def tS (pf : pre0.Contents (Elt F)) (n : Fin 164) : BitVec 32 := (pf 3 : S164.Idx → BitVec 32) (ix1 n)
def tN (pf : pre0.Contents (Elt F)) (n : Fin 164) : BitVec 32 := (pf 4 : S164.Idx → BitVec 32) (ix1 n)
def tV (pf : pre0.Contents (Elt F)) (n : Fin 164) : BitVec 32 := (pf 5 : S164.Idx → BitVec 32) (ix1 n)

/-- What the run needs of the tables: the words in range, and how a point's words follow the ones before. -/
structure Good (pf : pre0.Contents (Elt F)) : Prop where
  e : ∀ n, (tE pf n).toNat < 32
  s : ∀ n, (tS pf n).toNat < 2
  nx : ∀ n, tN pf n = 4294967295#32 ∨ (tN pf n).toNat < 32
  v : ∀ n, (tV pf n).toNat ≤ 512
  u : 1 ≤ (tU pf).toNat ∧ (tU pf).toNat ≤ 164
  f0 : tF pf 0 = 1#32 ∧ tS pf 0 = 0#32
  first : ∀ n n' : Fin 164, n'.val = n.val + 1 → tF pf n' = 1#32 → tN pf n = tE pf n' ∧ (tS pf n').toNat = 1 - (tS pf n).toNat
  same : ∀ n n' : Fin 164, n'.val = n.val + 1 → tF pf n' ≠ 1#32 → tN pf n' = tN pf n ∧ tS pf n' = tS pf n
    ∧ ((tV pf n').toNat ≠ 0 → tE pf n' = tE pf n ∧ (tV pf n).toNat ≠ 0)
  last : tN pf 163 = 4294967295#32

theorem coords0 : ∀ t : Fin grid0.N, ((grid0.coords t) 0).val = t.val := by decide +kernel

/-- A whole memref's elements held at contents, as its buffer held whole. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- A whole memref's elements, opened as its buffer's contents. -/
theorem opened (c : Dev nD) {sp : Space} {S : Shape} {e : EltTy} (M : Memref sig .tc sp S e) (h : M.IsWhole) (X Y : S.Idx → Elt F e) (he : X = Y) :
    (owns (c : Thread nD τ) M fullShare X : sProp 𝕄) ⊢ iprop(∃ f : Bf (F := F) c M, ⌜M.view.read (Elt F) f = Y⌝ ∗ pt c M f) := by
  rw [owns_pt c M h, he]

/-- A whole memref's elements, closed from its buffer's contents. -/
theorem closed (c : Dev nD) {sp : Space} {S : Shape} {e : EltTy} (M : Memref sig .tc sp S e) (h : M.IsWhole) (f : Bf (F := F) c M) (Y : S.Idx → Elt F e)
    (he : M.view.read (Elt F) f = Y) : pt c M f ⊢ (owns (c : Thread nD τ) M fullShare Y : sProp 𝕄) := by
  rw [owns_pt c M h]
  iintro H
  iexists f
  isplitr; · ipureintro; exact he
  iexact H

section Data

variable (a : (pcfg0 (F := F)).Adm) (hg : Good a.1) (V : (c : Dev nD) → (b : Ref sig .tc) → Buf (Elt F) ((c.tc : Thread nD τ).loc b))

/-- The expert of a point. -/
def ex (n : Fin 164) : Fin 32 := ⟨(tE a.1 n).toNat, hg.e n⟩

/-- A window's block at a point. -/
def iblk (c : Dev nD) (w : Fin 4) (t : Fin (cfg0 a).N) : (((cfg0 a).win w).xblock ((cfg0 a).grid.coords t)).Idx → Elt F ((cfg0 a).win w).elt :=
  (((cfg0 a).win w).blk t).view.read (Elt F) (V c (Pipeline.arrRef (cfg0 a).spec w))

/-- A point's place in the tables. -/
def pn (t : Fin (cfg0 a).N) : Fin 164 := (grid0.coords t) 0

/-- What the body leaves in the output's buffer at a point. -/
def outB (c : Dev nD) (t : Fin (cfg0 a).N) : Vec F S4096x128 .f32 :=
  outF (tV a.1 (pn a t)).toNat (iblk a V c 0 t) (cast1 c (V c main_arg2) (ex a hg (pn a t))) (iblk a V c 1 t) (cast2 c (V c main_arg4) (ex a hg (pn a t)))
    (iblk a V c 2 t)

/-- What the core holds before point `n`. -/
def PhiS (c : Dev nD) : (n : ℕ) → n ≤ 164 → sProp 𝕄
  | 0, _ => iprop(tabs c (a.1 0) (a.1 1) (a.1 2) (a.1 3) (a.1 4) (a.1 5) ∗ (∃ r, prngReg c r) ∗ St c (V c main_arg2) (V c main_arg4) 0 none
      ∗ ∃ d2 d3, pt c (Memref.whole cc0_scratch2) d2 ∗ pt c (Memref.whole cc0_scratch3) d3)
  | n + 1, h => iprop(tabs c (a.1 0) (a.1 1) (a.1 2) (a.1 3) (a.1 4) (a.1 5) ∗ (∃ r, prngReg c r)
      ∗ St c (V c main_arg2) (V c main_arg4) (oth ⟨(tS a.1 ⟨n, h⟩).toNat, hg.s _⟩) (nextOf (tN a.1 ⟨n, h⟩))
      ∗ ∃ x, ⌜(tV a.1 ⟨n, h⟩).toNat ≠ 0 → x = some (ex a hg ⟨n, h⟩)⌝ ∗ kept c (V c main_arg2) (V c main_arg4) x)

theorem N_le (t : Fin ((cfg0 a).N + 1)) : t.val ≤ 164 := Nat.le_of_lt_succ (lt_of_lt_of_eq t.isLt (congrArg (· + 1) N_0))

/-- The proof data of a core. -/
def dats (_ : Fin 1) (c : Dev nD) : Dat τ (Elt F) Unit ℕ (UU nD τ) ℕ (cfg0 a) c where
  A w := V c (Pipeline.arrRef (cfg0 a).spec w)
  after w t := match w with
    | ⟨0, _⟩ => iblk a V c 0 t
    | ⟨1, _⟩ => iblk a V c 1 t
    | ⟨2, _⟩ => iblk a V c 2 t
    | ⟨3, _⟩ => outB a hg V c t
    | ⟨_ + 4, h⟩ => absurd h (Nat.not_lt.2 (Nat.le_add_left _ _))
  Φ t := PhiS a hg V c t.val (N_le a t)
  q _ := fullShare
  owed _ := 0

theorem before0 (c : Dev nD) (t : Fin (cfg0 a).N) (d) : (dats a hg V 0 c).before 0 t d = iblk a V c 0 t := by
  rw [(dats a hg V 0 c).before_in_eq_fetched 0 rfl (fun _ => rfl) (fun _ _ _ => rfl) (fun _ => by unfold Dat.blockOf; dsimp only [dats]; rfl) t d]
  unfold Dat.fetched Dat.blockOf; dsimp only [dats]; rfl
theorem before1 (c : Dev nD) (t : Fin (cfg0 a).N) (d) : (dats a hg V 0 c).before 1 t d = iblk a V c 1 t := by
  rw [(dats a hg V 0 c).before_in_eq_fetched 1 rfl (fun _ => rfl) (fun _ _ _ => rfl) (fun _ => by unfold Dat.blockOf; dsimp only [dats]; rfl) t d]
  unfold Dat.fetched Dat.blockOf; dsimp only [dats]; rfl
theorem before2 (c : Dev nD) (t : Fin (cfg0 a).N) (d) : (dats a hg V 0 c).before 2 t d = iblk a V c 2 t := by
  rw [(dats a hg V 0 c).before_in_eq_fetched 2 rfl (fun _ => rfl) (fun _ _ _ => rfl) (fun _ => by unfold Dat.blockOf; dsimp only [dats]; rfl) t d]
  unfold Dat.fetched Dat.blockOf; dsimp only [dats]; rfl

theorem off_val (i : grid0.Coords) : (Scalar.indexCast (BitVec.ofNat 32 (i 0).val)).toNat = (i 0).val := by
  have hi : (i 0).val < 164 := (i 0).isLt
  show (BitVec.ofNat 32 (i 0).val).toNat = (i 0).val
  rw [BitVec.toNat_ofNat, Nat.mod_eq_of_lt (by omega)]

include hg in
/-- The output is stored at every point. -/
theorem idle3 (t : Fin (cfg0 a).N) : (cfg0 a).idle 3 ((cfg0 a).grid.coords t) = false := by
  have hv := hg.v (pn a t)
  obtain ⟨c4, c5, c6, c7, c8⟩ := conds _ hv
  have hd : a.1.atD 5 (k0_off21 (grid0.coords t)) = tV a.1 (pn a t) := by
    have hb : ∀ b : Fin 1, k0_off21 (grid0.coords t) b + 1 ≤ S164.size b := by
      intro b
      fin_cases b
      show (Scalar.indexCast (BitVec.ofNat 32 ((grid0.coords t) 0).val)).toNat + 1 ≤ 164
      rw [off_val]
      exact ((grid0.coords t) 0).isLt
    unfold Pipeline.Prefetch.Contents.atD
    split_ifs with h
    · refine congrArg (a.1 5) (funext fun b => Fin.ext ?_)
      revert b
      show ∀ b : Fin 1, _
      intro b
      fin_cases b
      exact off_val _
    · exact absurd hb h
  show (!(k0_cond4 (a.1.atD 5 (k0_off21 (grid0.coords t))) == 1#1) && !(k0_cond5 (a.1.atD 5 (k0_off21 (grid0.coords t))) == 1#1)
    && !(k0_cond6 (a.1.atD 5 (k0_off21 (grid0.coords t))) == 1#1) && !(k0_cond7 (a.1.atD 5 (k0_off21 (grid0.coords t))) == 1#1)
    && !(k0_cond8 (a.1.atD 5 (k0_off21 (grid0.coords t))) == 1#1)) = false
  rw [hd]
  have : k0_cond4 (tV a.1 (pn a t)) = 1#1 ∨ k0_cond5 (tV a.1 (pn a t)) = 1#1 ∨ k0_cond6 (tV a.1 (pn a t)) = 1#1 ∨ k0_cond7 (tV a.1 (pn a t)) = 1#1
      ∨ k0_cond8 (tV a.1 (pn a t)) = 1#1 := by rw [c4, c5, c6, c7, c8]; omega
  rcases this with h | h | h | h | h <;> simp [h]

/-- How the carried words follow at a point past the first. -/
theorem slot_next (n n' : Fin 164) (hn : n'.val = n.val + 1) (hf : tF a.1 n' = 1#32) :
    oth ⟨(tS a.1 n).toNat, hg.s n⟩ = ⟨(tS a.1 n').toNat, hg.s n'⟩ ∧ nextOf (tN a.1 n) = some (ex a hg n') := by
  obtain ⟨h1, h2⟩ := hg.first n n' hn hf
  have hs := hg.s n
  constructor
  · apply Fin.ext
    have : ∀ x : Fin 2, (oth x).val = 1 - x.val := by decide
    exact (this _).trans h2.symm
  · rw [h1]; unfold nextOf; rw [dif_pos (hg.e n')]; rfl

abbrev 𝒱₀ : Variants := Variants.none

theorem oth_val (k : ℕ) (h : k < 2) : (oth ⟨k, h⟩).val = 1 - k := by interval_cases k <;> rfl

/-- What a point leaves. -/
def postQ (c : Dev nD) (t : Fin (cfg0 a).N) (hN : t.val + 1 ≤ 164) : PUnit → sProp 𝕄 := fun _ =>
  iprop(PhiS a hg V c (t.val + 1) hN
    ∗ (∃ W : Waits sig Unit, ⌜(↑W : Set _) ⊆ (dats a hg V 0 c).bound () t.succ⌝ ∗ owes (c : Thread nD τ) 0 W)
    ∗ owns (c : Thread nD τ) (stage0_0 ((cfg0 a).slots t 0)) fullShare (iblk a V c 0 t)
    ∗ owns (c : Thread nD τ) (stage0_1 ((cfg0 a).slots t 1)) fullShare (iblk a V c 1 t)
    ∗ owns (c : Thread nD τ) (stage0_2 ((cfg0 a).slots t 2)) fullShare (iblk a V c 2 t)
    ∗ owns (c : Thread nD τ) (stage0_3 ((cfg0 a).slots t 3)) fullShare (outB a hg V c t))

theorem phi_zero (c : Dev nD) (n : ℕ) (h : n ≤ 164) (e : n = 0) : PhiS a hg V c n h
    = iprop(tabs c (a.1 0) (a.1 1) (a.1 2) (a.1 3) (a.1 4) (a.1 5) ∗ (∃ r, prngReg c r) ∗ St c (V c main_arg2) (V c main_arg4) 0 none
      ∗ ∃ d2 d3, pt c (Memref.whole cc0_scratch2) d2 ∗ pt c (Memref.whole cc0_scratch3) d3) := by subst e; rfl

theorem phi_succ (c : Dev nD) (n m : ℕ) (h : n ≤ 164) (hm : m < 164) (e : n = m + 1) : PhiS a hg V c n h
    = iprop(tabs c (a.1 0) (a.1 1) (a.1 2) (a.1 3) (a.1 4) (a.1 5) ∗ (∃ r, prngReg c r)
      ∗ St c (V c main_arg2) (V c main_arg4) (oth ⟨(tS a.1 ⟨m, hm⟩).toNat, hg.s _⟩) (nextOf (tN a.1 ⟨m, hm⟩))
      ∗ ∃ x, ⌜(tV a.1 ⟨m, hm⟩).toNat ≠ 0 → x = some (ex a hg ⟨m, hm⟩)⌝ ∗ kept c (V c main_arg2) (V c main_arg4) x) := by subst e; rfl

set_option maxHeartbeats 4000000 in
theorem body_obligation (c : Dev nD) : BodyObligation (dats a hg V 0 c) (defs₀ (F := F)) 𝒱₀ () Set.univ := fun t => by
  rw [bigSep_W0, bigSep_W0]
  dsimp only
  rw [show idle0 a.1 3 ((pcfg0.gridAt a.1).coords t) = false from idle3 a hg t]
  simp only [before0, before1, before2]
  have hN : t.val < 164 := lt_of_lt_of_eq t.isLt N_0
  have hpn : (pn a t).val = t.val := coords0 t
  rw [show (dats a hg V 0 c).Φ t.castSucc = PhiS a hg V c t.val (le_of_lt hN) from by
    dsimp only [dats]; exact Dat.Φ_castSucc (N := (cfg0 a).N) (fun n h => PhiS a hg V c n (h.trans (le_of_eq N_0))) t]
  rw [show (dats a hg V 0 c).Φ t.succ = PhiS a hg V c (t.val + 1) hN from by dsimp only [dats]; rfl]
  unfold Dat.owesAt Pipeline.owesWithin
  rw [show (dats a hg V 0 c).owed t.castSucc = 0 from rfl, show (dats a hg V 0 c).owed t.succ = 0 from rfl]
  unfold 𝒱₀
  show BIBase.Entails _ (wp frame (wpE (defs₀ (F := F)) Variants.none c none) Set.univ (cc0_experts (grid0.coords t) (Memref.whole main_v20) (Memref.isWhole_whole _) (Memref.whole main_v22) (Memref.isWhole_whole _) (Memref.whole main_v34) (Memref.isWhole_whole _) (Memref.whole main_v38) (Memref.isWhole_whole _) (Memref.whole main_v63) (Memref.isWhole_whole _) (Memref.whole main_v71) (Memref.isWhole_whole _) (stage0_0 ((cfg0 a).slots t 0)) (hstage0_0 ((cfg0 a).slots t 0)) (Memref.whole main_arg2) (Memref.isWhole_whole _) (stage0_1 ((cfg0 a).slots t 1)) (hstage0_1 ((cfg0 a).slots t 1)) (Memref.whole main_arg4) (Memref.isWhole_whole _) (stage0_2 ((cfg0 a).slots t 2)) (hstage0_2 ((cfg0 a).slots t 2)) (stage0_3 ((cfg0 a).slots t 3)) (hstage0_3 ((cfg0 a).slots t 3)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) (postQ a hg V c t hN))
  iintro ⟨HP, ⟨%W, %hW, HO⟩, ⟨%d0, H7⟩, ⟨%d1, H9⟩, ⟨%d2, H11⟩, ⟨%d3, H12⟩⟩
  ihave H7 := (opened c (stage0_0 ((cfg0 a).slots t 0)) (hstage0_0 ((cfg0 a).slots t 0)) _ _ (before0 a hg V c t d0)) $$ H7
  ihave H9 := (opened c (stage0_1 ((cfg0 a).slots t 1)) (hstage0_1 ((cfg0 a).slots t 1)) _ _ (before1 a hg V c t d1)) $$ H9
  ihave H11 := (opened c (stage0_2 ((cfg0 a).slots t 2)) (hstage0_2 ((cfg0 a).slots t 2)) _ _ (before2 a hg V c t d2)) $$ H11
  ihave H12 := (opened c (stage0_3 ((cfg0 a).slots t 3)) (hstage0_3 ((cfg0 a).slots t 3)) _ _ rfl) $$ H12
  icases H7 with ⟨%f7, %e7, H7⟩
  icases H9 with ⟨%f9, %e9, H9⟩
  icases H11 with ⟨%f11, %e11, H11⟩
  icases H12 with ⟨%f12, %e12, H12⟩
  have H7' : (stage0_0 ((cfg0 a).slots t 0)).IsWhole := hstage0_0 ((cfg0 a).slots t 0)
  have H9' : (stage0_1 ((cfg0 a).slots t 1)).IsWhole := hstage0_1 ((cfg0 a).slots t 1)
  have H11' : (stage0_2 ((cfg0 a).slots t 2)).IsWhole := hstage0_2 ((cfg0 a).slots t 2)
  have H12' : (stage0_3 ((cfg0 a).slots t 3)).IsWhole := hstage0_3 ((cfg0 a).slots t 3)
  have hpe : pn a t = ⟨t.val, hN⟩ := Fin.ext hpn
  by_cases h0 : t.val = 0
  · have hp0 : pn a t = 0 := Fin.ext (hpn.trans h0)
    ihave HP := (Entails.of_eq (phi_zero a hg V c t.val _ h0)) $$ HP
    icases HP with ⟨HT, ⟨%r, HR⟩, HS, ⟨%g2, %g3, Hd2, Hd3⟩⟩
    have key := body_zero c (grid0.coords t) (Memref.isWhole_whole _) (Memref.isWhole_whole _) (Memref.isWhole_whole _) (Memref.isWhole_whole _) (Memref.isWhole_whole _) (Memref.isWhole_whole _) (stage0_0 ((cfg0 a).slots t 0)) H7' (Memref.isWhole_whole _) (stage0_1 ((cfg0 a).slots t 1)) H9' (Memref.isWhole_whole _) (stage0_2 ((cfg0 a).slots t 2)) H11' (stage0_3 ((cfg0 a).slots t 3)) H12' (Memref.isWhole_whole _) (Memref.isWhole_whole _) (Memref.isWhole_whole _) (Memref.isWhole_whole _) (a.1 0) (a.1 1) (a.1 2) (a.1 3) (a.1 4) (a.1 5) (tE a.1 (pn a t)) (tF a.1 (pn a t)) (tS a.1 (pn a t)) (tN a.1 (pn a t)) (tV a.1 (pn a t)) rfl rfl rfl rfl rfl (hg.e _) (hg.v _) (hpn.trans h0) (by rw [hp0]; exact hg.f0.1) (by rw [hp0]; exact hg.f0.2) (hg.nx _) g2 g3 (V c main_arg2) (V c main_arg4) W f7 f9 f11 f12 (iblk a V c 0 t) (iblk a V c 1 t) (iblk a V c 2 t) e7 e9 e11 (postQ a hg V c t hN)
    iapply key
    isplitl [HT]; · iexact HT
    isplitl [HS]; · iexact HS
    isplitl [Hd2]; · iexact Hd2
    isplitl [Hd3]; · iexact Hd3
    isplitl [HO]; · iexact HO
    isplitl [H7 H9 H11 H12]
    · unfold blocks
      isplitl [H7]; · iexact H7
      isplitl [H9]; · iexact H9
      isplitl [H11]; · iexact H11
      iexact H12
    unfold blocks
    unfold postQ
    iintro %f' %hf' ⟨HT, HS, HK, ⟨%W', HO⟩, ⟨H7, H9, H11, H12⟩⟩
    rw [phi_succ a hg V c (t.val + 1) t.val hN hN rfl]
    ihave H7 := (closed c (stage0_0 ((cfg0 a).slots t 0)) H7' f7 _ e7) $$ H7
    ihave H9 := (closed c (stage0_1 ((cfg0 a).slots t 1)) H9' f9 _ e9) $$ H9
    ihave H11 := (closed c (stage0_2 ((cfg0 a).slots t 2)) H11' f11 _ e11) $$ H11
    ihave H12 := (closed c (stage0_3 ((cfg0 a).slots t 3)) H12' f' _ hf') $$ H12
    isplitl [HT HR HS HK]
    · isplitl [HT]; · iexact HT
      isplitl [HR]; · iexists r; iexact HR
      isplitl [HS]; · simp only [← hpe]; rw [show (⟨(tS a.1 (pn a t)).toNat, hg.s _⟩ : Fin 2) = 0 from Fin.ext (by show (tS a.1 (pn a t)).toNat = 0; rw [hp0, hg.f0.2]; rfl)]; iexact HS
      iexists (some (ex a hg (pn a t)))
      isplitr; · ipureintro; intro _; rw [← hpe]
      iexact HK
    isplitl [HO]
    · iexists W'
      isplitr; · ipureintro; exact fun _ _ => Or.inl trivial
      iexact HO
    isplitl [H7]; · iexact H7
    isplitl [H9]; · iexact H9
    isplitl [H11]; · iexact H11
    iexact H12
  · obtain ⟨n, hn⟩ : ∃ n, t.val = n + 1 := ⟨t.val - 1, by omega⟩
    have hnl : n < 164 := by omega
    have hnn : (pn a t).val = (⟨n, hnl⟩ : Fin 164).val + 1 := hpn.trans hn
    ihave HP := (Entails.of_eq (phi_succ a hg V c t.val n _ hnl hn)) $$ HP
    icases HP with ⟨HT, ⟨%r, HR⟩, HS, ⟨%x, %hx, HK⟩⟩
    iapply (body_rest c (grid0.coords t) (Memref.isWhole_whole _) (Memref.isWhole_whole _) (Memref.isWhole_whole _) (Memref.isWhole_whole _) (Memref.isWhole_whole _) (Memref.isWhole_whole _) (stage0_0 ((cfg0 a).slots t 0)) H7' (Memref.isWhole_whole _) (stage0_1 ((cfg0 a).slots t 1)) H9' (Memref.isWhole_whole _) (stage0_2 ((cfg0 a).slots t 2)) H11' (stage0_3 ((cfg0 a).slots t 3)) H12' (Memref.isWhole_whole _) (Memref.isWhole_whole _) (Memref.isWhole_whole _) (Memref.isWhole_whole _) (fun h => h0 (hpn.symm.trans h)) _ (postQ a hg V c t hN) (BIBase.Entails.rfl))
    by_cases hf : tF a.1 (pn a t) = 1#32
    · obtain ⟨hN1, hS1⟩ := hg.first ⟨n, hnl⟩ (pn a t) hnn hf
      have hso : (oth ⟨(tS a.1 ⟨n, hnl⟩).toNat, hg.s _⟩ : Fin 2) = ⟨(tS a.1 (pn a t)).toNat, hg.s _⟩ := by
        exact Fin.ext ((oth_val _ (hg.s _)).trans hS1.symm)
      have hno : nextOf (tN a.1 ⟨n, hnl⟩) = some ⟨(tE a.1 (pn a t)).toNat, hg.e _⟩ := by
        rw [hN1]; unfold nextOf; exact dif_pos (hg.e _)
      rw [hso, hno]
      unfold kept
      icases HK with ⟨%g2, %g3, -, Hd2, Hd3⟩
      have key := rest_first c (grid0.coords t) (Memref.isWhole_whole _) (Memref.isWhole_whole _) (Memref.isWhole_whole _) (Memref.isWhole_whole _) (Memref.isWhole_whole _) (Memref.isWhole_whole _) (stage0_0 ((cfg0 a).slots t 0)) H7' (Memref.isWhole_whole _) (stage0_1 ((cfg0 a).slots t 1)) H9' (Memref.isWhole_whole _) (stage0_2 ((cfg0 a).slots t 2)) H11' (stage0_3 ((cfg0 a).slots t 3)) H12' (Memref.isWhole_whole _) (Memref.isWhole_whole _) (Memref.isWhole_whole _) (Memref.isWhole_whole _) (a.1 0) (a.1 1) (a.1 2) (a.1 3) (a.1 4) (a.1 5) (tE a.1 (pn a t)) (tF a.1 (pn a t)) (tS a.1 (pn a t)) (tN a.1 (pn a t)) (tV a.1 (pn a t)) rfl rfl rfl rfl rfl (hg.e _) (hg.v _) hf (hg.s _) (hg.nx _) g2 g3 (V c main_arg2) (V c main_arg4) W f7 f9 f11 f12 (iblk a V c 0 t) (iblk a V c 1 t) (iblk a V c 2 t) e7 e9 e11 (postQ a hg V c t hN)
      iapply key
      isplitl [HT]; · iexact HT
      isplitl [HS]; · iexact HS
      isplitl [Hd2]; · iexact Hd2
      isplitl [Hd3]; · iexact Hd3
      isplitl [HO]; · iexact HO
      isplitl [H7 H9 H11 H12]
      · unfold blocks
        isplitl [H7]; · iexact H7
        isplitl [H9]; · iexact H9
        isplitl [H11]; · iexact H11
        iexact H12
      unfold blocks
      unfold postQ
      iintro %f' %hf' ⟨HT, HS, HK, ⟨%W', HO⟩, ⟨H7, H9, H11, H12⟩⟩
      rw [phi_succ a hg V c (t.val + 1) t.val hN hN rfl]
      ihave H7 := (closed c (stage0_0 ((cfg0 a).slots t 0)) H7' f7 _ e7) $$ H7
      ihave H9 := (closed c (stage0_1 ((cfg0 a).slots t 1)) H9' f9 _ e9) $$ H9
      ihave H11 := (closed c (stage0_2 ((cfg0 a).slots t 2)) H11' f11 _ e11) $$ H11
      ihave H12 := (closed c (stage0_3 ((cfg0 a).slots t 3)) H12' f' _ hf') $$ H12
      isplitl [HT HR HS HK]
      · isplitl [HT]; · iexact HT
        isplitl [HR]; · iexists r; iexact HR
        isplitl [HS]; · simp only [← hpe]; iexact HS
        iexists (some (ex a hg (pn a t)))
        isplitr; · ipureintro; intro _; rw [← hpe]
        iexact HK
      isplitl [HO]
      · iexists W'
        isplitr; · ipureintro; exact fun _ _ => Or.inl trivial
        iexact HO
      isplitl [H7]; · iexact H7
      isplitl [H9]; · iexact H9
      isplitl [H11]; · iexact H11
      iexact H12
    · obtain ⟨hN1, hS1, hV1⟩ := hg.same ⟨n, hnl⟩ (pn a t) hnn hf
      have hS1' : (⟨(tS a.1 (pn a t)).toNat, hg.s _⟩ : Fin 2) = ⟨(tS a.1 ⟨n, hnl⟩).toNat, hg.s _⟩ := Fin.ext (congrArg BitVec.toNat hS1)
      have hx' : (tV a.1 (pn a t)).toNat ≠ 0 → x = some ⟨(tE a.1 (pn a t)).toNat, hg.e _⟩ := fun h => by
        obtain ⟨hE1, hV2⟩ := hV1 h
        rw [hx hV2]
        exact congrArg some (Fin.ext (by show (tE a.1 ⟨n, hnl⟩).toNat = (tE a.1 (pn a t)).toNat; rw [hE1]))
      have key := rest_same c (grid0.coords t) (Memref.isWhole_whole _) (Memref.isWhole_whole _) (Memref.isWhole_whole _) (Memref.isWhole_whole _) (Memref.isWhole_whole _) (Memref.isWhole_whole _) (stage0_0 ((cfg0 a).slots t 0)) H7' (Memref.isWhole_whole _) (stage0_1 ((cfg0 a).slots t 1)) H9' (Memref.isWhole_whole _) (stage0_2 ((cfg0 a).slots t 2)) H11' (stage0_3 ((cfg0 a).slots t 3)) H12' (Memref.isWhole_whole _) (Memref.isWhole_whole _) (Memref.isWhole_whole _) (Memref.isWhole_whole _) (a.1 0) (a.1 1) (a.1 2) (a.1 3) (a.1 4) (a.1 5) (tE a.1 (pn a t)) (tF a.1 (pn a t)) (tS a.1 (pn a t)) (tN a.1 (pn a t)) (tV a.1 (pn a t)) rfl rfl rfl rfl rfl (hg.e _) (hg.v _) hf (oth ⟨(tS a.1 ⟨n, hnl⟩).toNat, hg.s _⟩) (nextOf (tN a.1 ⟨n, hnl⟩)) x hx' (V c main_arg2) (V c main_arg4) W f7 f9 f11 f12 (iblk a V c 0 t) (iblk a V c 1 t) (iblk a V c 2 t) e7 e9 e11 (postQ a hg V c t hN)
      iapply key
      isplitl [HT]; · iexact HT
      isplitl [HS]; · iexact HS
      isplitl [HK]; · iexact HK
      isplitl [HO]; · iexact HO
      isplitl [H7 H9 H11 H12]
      · unfold blocks
        isplitl [H7]; · iexact H7
        isplitl [H9]; · iexact H9
        isplitl [H11]; · iexact H11
        iexact H12
      unfold blocks
      unfold postQ
      iintro %f' %hf' ⟨HT, HS, HK, ⟨%W', HO⟩, ⟨H7, H9, H11, H12⟩⟩
      rw [phi_succ a hg V c (t.val + 1) t.val hN hN rfl]
      ihave H7 := (closed c (stage0_0 ((cfg0 a).slots t 0)) H7' f7 _ e7) $$ H7
      ihave H9 := (closed c (stage0_1 ((cfg0 a).slots t 1)) H9' f9 _ e9) $$ H9
      ihave H11 := (closed c (stage0_2 ((cfg0 a).slots t 2)) H11' f11 _ e11) $$ H11
      ihave H12 := (closed c (stage0_3 ((cfg0 a).slots t 3)) H12' f' _ hf') $$ H12
      isplitl [HT HR HS HK]
      · isplitl [HT]; · iexact HT
        isplitl [HR]; · iexists r; iexact HR
        isplitl [HS]; · simp only [← hpe]; rw [hS1', hN1]; iexact HS
        iexists x
        isplitr; · ipureintro; intro h; rw [← hpe] at h ⊢; exact hx' h
        iexact HK
      isplitl [HO]
      · iexists W'
        isplitr; · ipureintro; exact fun _ _ => Or.inl trivial
        iexact HO
      isplitl [H7]; · iexact H7
      isplitl [H9]; · iexact H9
      isplitl [H11]; · iexact H11
      iexact H12

end Data

end Cert.Proof.Experts

end
-- ==== Proof.Launch.lean ====
/-
  The launch of the experts' kernel at tables in range: what the core holds at the grid's two ends, and the run.
-/
module

public import proofs.«01_k».proof.Proof.Run
public import Idealize.ShloMosaic.Lib.Pipeline.Frame

@[expose] public section

noncomputable section

namespace Cert.Proof.Experts

open Cert.KernelIdeal Cert.KernelIdeal.Gen

open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The transfers' semaphores -/

/-- The kernel's four semaphores. -/
abbrev osem : Fin 4 → SemLoc sig := fun
  | 0 => .dma (sem 0 0)
  | 1 => .dma (sem 1 0)
  | 2 => .dma (sem 0 1)
  | 3 => .dma (sem 1 1)

theorem ownSemFacts : Pipeline.OwnSemFacts spec0 osem := by decide

/-- The two weight arrays, read by the kernel itself. -/
abbrev HH : Finset (Ref sig .tc) := {main_arg2, main_arg4}

theorem hHH : HH ⊆ Pipeline.restRefsP sig pre0 spec0 := by decide

/-! ## The two halves of a slotted scratch -/

theorem set1 (s : Fin 2) : (sl1 s).view.set = Finset.univ.filter fun i : S2x1024x2048.Idx => (i 0).val = s.val := by
  have h : (sl1 s).view.set = (Rect.unit (s := S2x1024x2048) ![s.val, 0, 0] S1x1024x2048.size (sl1_inb s)).set := (View.set_reshape _ _).trans (View.set_slice_whole _ _)
  rw [h]
  ext i
  rw [LoadRect.mem_set, Finset.mem_filter]
  constructor
  · intro hi
    obtain ⟨j, hj, e⟩ := hi 0
    have hj : j < 1 := hj
    refine ⟨Finset.mem_univ _, e.trans ?_⟩
    show s.val + 1 * j = s.val
    omega
  · rintro ⟨-, hi⟩ a
    fin_cases a
    · exact ⟨0, Nat.one_pos, hi⟩
    · exact ⟨(i 1).val, (i 1).isLt, by show (i 1).val = 0 + 1 * (i 1).val; omega⟩
    · exact ⟨(i 2).val, (i 2).isLt, by show (i 2).val = 0 + 1 * (i 2).val; omega⟩

theorem compl1 : Finset.univ \ (sl1 0).view.set = (sl1 1).view.set := by
  rw [set1, set1]
  ext i
  have hi : (i 0).val < 2 := (i 0).isLt
  simp only [Finset.mem_sdiff, Finset.mem_univ, Finset.mem_filter, true_and, Fin.val_zero, Fin.val_one]
  omega

/-- The scratch whole, as its two slots. -/
theorem slots1 (c : Dev nD) (f : Bf (F := F) c (Memref.whole cc0_scratch0)) : pt c (Memref.whole cc0_scratch0) f ⊢ iprop(own c (sl1 0) f ∗ own c (sl1 1) f) := by
  refine (pointsTo_split_subset (Finset.subset_univ (sl1 0).view.set)).1.trans ?_
  rw [compl1]

/-- The two slots, as the scratch whole. -/
theorem whole1 (c : Dev nD) (f : Bf (F := F) c (sl1 0)) (g : Bf (F := F) c (sl1 1)) :
    iprop(own c (sl1 0) f ∗ own c (sl1 1) g) ⊢ iprop(∃ f, pt c (Memref.whole cc0_scratch0) f) := by
  refine (show iprop(own c (sl1 0) f ∗ own c (sl1 1) g) ⊢ _ from pointsTo_join (by rw [← compl1]; exact Finset.disjoint_sdiff)).trans ?_
  rw [← compl1, Finset.union_sdiff_of_subset (Finset.subset_univ _)]
  iintro H
  iexists _
  iexact H

theorem set2 (s : Fin 2) : (sl2 s).view.set = Finset.univ.filter fun i : S2x1024x1024.Idx => (i 0).val = s.val := by
  have h : (sl2 s).view.set = (Rect.unit (s := S2x1024x1024) ![s.val, 0, 0] S1x1024x1024.size (sl2_inb s)).set := (View.set_reshape _ _).trans (View.set_slice_whole _ _)
  rw [h]
  ext i
  rw [LoadRect.mem_set, Finset.mem_filter]
  constructor
  · intro hi
    obtain ⟨j, hj, e⟩ := hi 0
    have hj : j < 1 := hj
    refine ⟨Finset.mem_univ _, e.trans ?_⟩
    show s.val + 1 * j = s.val
    omega
  · rintro ⟨-, hi⟩ a
    fin_cases a
    · exact ⟨0, Nat.one_pos, hi⟩
    · exact ⟨(i 1).val, (i 1).isLt, by show (i 1).val = 0 + 1 * (i 1).val; omega⟩
    · exact ⟨(i 2).val, (i 2).isLt, by show (i 2).val = 0 + 1 * (i 2).val; omega⟩

theorem compl2 : Finset.univ \ (sl2 0).view.set = (sl2 1).view.set := by
  rw [set2, set2]
  ext i
  have hi : (i 0).val < 2 := (i 0).isLt
  simp only [Finset.mem_sdiff, Finset.mem_univ, Finset.mem_filter, true_and, Fin.val_zero, Fin.val_one]
  omega

/-- The scratch whole, as its two slots. -/
theorem slots2 (c : Dev nD) (f : Bf (F := F) c (Memref.whole cc0_scratch1)) : pt c (Memref.whole cc0_scratch1) f ⊢ iprop(own c (sl2 0) f ∗ own c (sl2 1) f) := by
  refine (pointsTo_split_subset (Finset.subset_univ (sl2 0).view.set)).1.trans ?_
  rw [compl2]

/-- The two slots, as the scratch whole. -/
theorem whole2 (c : Dev nD) (f : Bf (F := F) c (sl2 0)) (g : Bf (F := F) c (sl2 1)) :
    iprop(own c (sl2 0) f ∗ own c (sl2 1) g) ⊢ iprop(∃ f, pt c (Memref.whole cc0_scratch1) f) := by
  refine (show iprop(own c (sl2 0) f ∗ own c (sl2 1) g) ⊢ _ from pointsTo_join (by rw [← compl2]; exact Finset.disjoint_sdiff)).trans ?_
  rw [← compl2, Finset.union_sdiff_of_subset (Finset.subset_univ _)]
  iintro H
  iexists _
  iexact H

/-- Two slots with nothing in flight, as the two scratch buffers whole and the four semaphores at zero. -/
theorem frees (c : Dev nD) (s : Fin 2) (g1 : Bf (F := F) c (sl1 s)) (g2 : Bf (F := F) c (sl2 s)) (h1 : Bf (F := F) c (sl1 (oth s))) (h2 : Bf (F := F) c (sl2 (oth s))) :
    iprop(free c s g1 g2 ∗ free c (oth s) h1 h2) ⊢ iprop((∃ f, pt c (Memref.whole cc0_scratch0) f) ∗ (∃ f, pt c (Memref.whole cc0_scratch1) f)
      ∗ semVal ((c : Thread nD τ), osem 0) 0 ∗ semVal ((c : Thread nD τ), osem 1) 0 ∗ semVal ((c : Thread nD τ), osem 2) 0 ∗ semVal ((c : Thread nD τ), osem 3) 0) := by
  rcases ((by decide : ∀ s : Fin 2, s = 0 ∨ s = 1) s) with rfl | rfl
  · change Bf (F := F) c (sl1 1) at h1
    change Bf (F := F) c (sl2 1) at h2
    change iprop(free c 0 g1 g2 ∗ free c 1 h1 h2) ⊢ _
    unfold free
    iintro ⟨⟨P0, Q0, S0, T0⟩, ⟨P1, Q1, S1, T1⟩⟩
    isplitl [P0 P1]
    · iapply (whole1 c _ _)
      isplitl [P0]; · iexact P0
      iexact P1
    isplitl [Q0 Q1]
    · iapply (whole2 c _ _)
      isplitl [Q0]; · iexact Q0
      iexact Q1
    isplitl [S0]; · iexact S0
    isplitl [T0]; · iexact T0
    isplitl [S1]; · iexact S1
    iexact T1
  · change Bf (F := F) c (sl1 0) at h1
    change Bf (F := F) c (sl2 0) at h2
    change iprop(free c 1 g1 g2 ∗ free c 0 h1 h2) ⊢ _
    unfold free
    iintro ⟨⟨P1, Q1, S1, T1⟩, ⟨P0, Q0, S0, T0⟩⟩
    isplitl [P0 P1]
    · iapply (whole1 c _ _)
      isplitl [P0]; · iexact P0
      iexact P1
    isplitl [Q0 Q1]
    · iapply (whole2 c _ _)
      isplitl [Q0]; · iexact Q0
      iexact Q1
    isplitl [S0]; · iexact S0
    isplitl [T0]; · iexact T0
    isplitl [S1]; · iexact S1
    iexact T1

/-! ## The host operations before the region -/

abbrev opss : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20]

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub, hostOps0_15_sub, hostOps0_16_sub,
    hostOps0_17_sub, hostOps0_18_sub, hostOps0_19_sub, hostOps0_20_sub⟩

theorem opss_fresh : (opss (F := F)).Forall fun ops => ops.Forall fun op => op.fresh = ∅ := by
  refine ⟨?_, ?_, ?_, ?_, ?_, ?_, ?_, ?_, ?_, ?_, ?_, ?_, ?_, ?_, ?_, ?_, ?_, ?_, ?_, ?_, ?_⟩ <;> (repeat' constructor)

/-- A core's buffers when the region is entered. -/
@[irreducible] def VV (m : (ℓ : Loc nD τ sig) → Buf (Elt F) ℓ) (c : Dev nD) (b : Ref sig .tc) : Buf (Elt F) ((c.tc : Thread nD τ).loc b) :=
  StableHlo.after (opss (F := F)).flatten (fun b => m (c, b)) b

theorem hmain (m : (ℓ : Loc nD τ sig) → Buf (Elt F) ℓ) :
    Pipeline.HMainP (Ix := Unit) (Name := ℕ) (U := UU nD τ) (Lvl := ℕ) (pcfgs (F := F)) 0 defs₀ 𝒱₀ m main (VV m) := by
  unfold VV
  exact Pipeline.hmainP_prefixes (pcs := pcfgs (F := F)) (p := 0) (defs₀ := defs₀) (𝒱₀ := 𝒱₀) m main opss opss_sub opss_fresh (fun c => main_chain c)

section Launch

variable (a : (pcfg0 (F := F)).Adm) (hg : Good a.1) (m : (ℓ : Loc nD τ sig) → Buf (Elt F) ℓ)

omit [FloatOps F] in
theorem sems_eq (c : Dev nD) :
    (Pipeline.ownSems0 (Ix := Unit) (Name := ℕ) (U := UU nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0 ∗ semVal ((c : Thread nD τ), osem 3) 0) :=
  Pipeline.ownSems0_eq_of_list c osem [0, 1, 2, 3] (by decide) (by decide)

omit [FloatOps F] in
theorem HH_eq (c : Dev nD) (Φ : Ref sig .tc → sProp 𝕄) : bigSep HH Φ = iprop(Φ main_arg2 ∗ Φ main_arg4) :=
  bigSep_eq_bigSepL_of_eq (S := HH) [main_arg2, main_arg4] (by decide) (by decide) Φ

theorem tabs_eq (c : Dev nD) (pf : pre0.Contents (Elt F)) :
    (Pipeline.ΦT (U := UU nD τ) pre0 pf c : sProp 𝕄) = tabs c (pf 0) (pf 1) (pf 2) (pf 3) (pf 4) (pf 5) :=
  bigSep_univ_eq_bigSepL [(0 : Fin 6), 1, 2, 3, 4, 5] (by decide) (by decide) _

theorem hin (V : (c : Dev nD) → (b : Ref sig .tc) → Buf (Elt F) ((c.tc : Thread nD τ).loc b)) (c : Dev nD) :
    iprop(Pipeline.ΦD osem spec0 HH V c ∗ Pipeline.ΦT pre0 a.1 c) ⊢ (dats a hg V 0 c).Φ 0 := by
  rw [show (dats a hg V 0 c).Φ 0 = PhiS a hg V c 0 (Nat.zero_le _) from rfl, phi_zero a hg V c 0 _ rfl, Pipeline.ΦD_eq, scopedRest0_eq,
    sems_eq c, HH_eq c]
  rw [tabs_eq c a.1]
  iintro ⟨⟨⟨⟨%f0, Hc0⟩, ⟨%f1, Hc1⟩, H2, H3⟩, HR, ⟨Hs0, Hs1, Hs2, Hs3⟩, ⟨Ha2, Ha4⟩⟩, HT⟩
  ihave Hc0 := (slots1 c f0) $$ Hc0
  ihave Hc1 := (slots2 c f1) $$ Hc1
  icases Hc0 with ⟨Hp0, Hp1⟩
  icases Hc1 with ⟨Hq0, Hq1⟩
  isplitl [HT]; · iexact HT
  isplitl [HR]; · iexact HR
  isplitr [H2 H3]
  · unfold St
    iexists f0, f1, f0, f1
    isplitl [Ha2 Ha4]
    · unfold home
      isplitl [Ha2]; · iexact Ha2
      iexact Ha4
    isplitl [Hp0 Hq0 Hs0 Hs1]
    · unfold free
      isplitl [Hp0]; · iexact Hp0
      isplitl [Hq0]; · iexact Hq0
      isplitl [Hs0]; · iexact Hs0
      iexact Hs1
    · unfold free
      isplitl [Hp1]; · iexact Hp1
      isplitl [Hq1]; · iexact Hq1
      isplitl [Hs2]; · iexact Hs2
      iexact Hs3
  icases H2 with ⟨%f2, H2⟩
  icases H3 with ⟨%f3, H3⟩
  iexists f2, f3
  isplitl [H2]; · iexact H2
  iexact H3

theorem hout (V : (c : Dev nD) → (b : Ref sig .tc) → Buf (Elt F) ((c.tc : Thread nD τ).loc b)) (c : Dev nD) :
    (dats a hg V 0 c).Φ (Fin.last (cfg0 a).N) ⊢ Pipeline.ΦD osem spec0 HH V c := by
  rw [show (dats a hg V 0 c).Φ (Fin.last (cfg0 a).N) = PhiS a hg V c (Fin.last (cfg0 a).N).val (N_le a _) from by dsimp only [dats],
    phi_succ a hg V c (Fin.last (cfg0 a).N).val 163 (N_le a _) (by decide) N_0, Pipeline.ΦD_eq, scopedRest0_eq,
    sems_eq c, HH_eq c]
  rw [show tN a.1 ⟨163, by decide⟩ = 4294967295#32 from hg.last, show nextOf 4294967295#32 = none from rfl]
  generalize (oth ⟨(tS a.1 ⟨163, by decide⟩).toNat, hg.s _⟩ : Fin 2) = s
  unfold St kept home
  iintro ⟨-, HR, ⟨%g1, %g2, %h1, %h2, ⟨Ha2, Ha4⟩, Hf, Hf'⟩, ⟨%x, -, ⟨%A, %B, -, H2, H3⟩⟩⟩
  ihave Hf := (frees c s g1 g2 h1 h2) $$ [Hf Hf']
  · isplitl [Hf]; · iexact Hf
    iexact Hf'
  icases Hf with ⟨Hc0, Hc1, Hs0, Hs1, Hs2, Hs3⟩
  isplitl [Hc0 Hc1 H2 H3]
  · isplitl [Hc0]; · iexact Hc0
    isplitl [Hc1]; · iexact Hc1
    isplitl [H2]; · iexists A; iexact H2
    iexists B; iexact H3
  isplitl [HR]; · iexact HR
  isplitl [Hs0 Hs1 Hs2 Hs3]
  · isplitl [Hs0]; · iexact Hs0
    isplitl [Hs1]; · iexact Hs1
    isplitl [Hs2]; · iexact Hs2
    iexact Hs3
  isplitl [Ha2]; · iexact Ha2
  iexact Ha4

set_option backward.isDefEq.respectTransparency.types false in
/-- The run at tables in range. -/
theorem run (g : Dev nD → PrngReg) (hpf : ∀ c k, VV m c (pre0.ref k) = a.1 k) :
    θ_run defs (onTc (τ := τ) (main (F := F))) (s₀ m g) (fun r => Pipeline.FramePost (Pipeline.pin (pcfgs (F := F)) (fun _ => a)) (dats a hg (VV m)) 0 (VV m) r
      ∧ r.2.sem = fun _ => 0) := by
  have h1 := fun c => (body_obligation a hg (VV m) c).loose
  have h2 : ∀ c w, (dats a hg (VV m) 0 c).share w = fullShare := fun c => (dats a hg (VV m) 0 c).share_full fun _ => by dsimp only [dats]
  have h3 := hin a hg (VV m)
  have h4 := hout a hg (VV m)
  have h5 : ∀ c w, (dats a hg (VV m) 0 c).A w = VV m c (Pipeline.arrRef (cfg0 a).spec w) := fun c w => by dsimp only [dats]
  have h6 : ∀ c t, (dats a hg (VV m) 0 c).owed t = 0 := fun c t => by dsimp only [dats]
  refine Pipeline.θ_run_frameP_dma (pcfgs (F := F)) (fun _ => a) (dats a hg (VV m)) 0 launch0 osem defs₀ 𝒱₀ ownSemFacts HH hHH m g main
    h1 h2 h6 (VV m) ?_ h5 hpf h3 h4 (Q' := _)
  with_reducible_and_instances exact hmain m

end Launch

end Cert.Proof.Experts

end
-- ==== Proof.Counts.lean ====
/-
  THE ROUTING IN NATURAL NUMBERS. `c e` rows go to expert `e`. Every expert's rows are padded to blocks of 512; `q e` is the number of blocks up to and with expert `e`.
  `blk n` is the expert of block `n`, `fst n` is 1 where a block's expert differs from the block's before, and the facts below say how these move from one block to the next.
-/
module

public import Mathlib.Data.Nat.Count
public import Mathlib.Algebra.BigOperators.Group.List.Basic
public import Mathlib.Tactic.Common

@[expose] public section

namespace Experts.Counts

/-- The running sum of `f` up to and with `j`. -/
def cs (f : ℕ → ℕ) (j : ℕ) : ℕ := ((List.range (j + 1)).map f).sum

theorem cs_zero (f : ℕ → ℕ) : cs f 0 = f 0 := by simp [cs]

theorem cs_succ (f : ℕ → ℕ) (j : ℕ) : cs f (j + 1) = cs f j + f (j + 1) := by
  unfold cs
  rw [List.sum_range_succ]

theorem cs_le {f g : ℕ → ℕ} (h : ∀ e, f e ≤ g e) : ∀ j, cs f j ≤ cs g j
  | 0 => by rw [cs_zero, cs_zero]; exact h 0
  | j + 1 => by rw [cs_succ, cs_succ]; exact Nat.add_le_add (cs_le h j) (h _)

theorem le_cs (f : ℕ → ℕ) : ∀ j, f j ≤ cs f j
  | 0 => by rw [cs_zero]
  | j + 1 => by rw [cs_succ]; omega

theorem cs_mono (f : ℕ → ℕ) {i j : ℕ} (h : i ≤ j) : cs f i ≤ cs f j := by
  induction h with
  | refl => exact le_rfl
  | step _ ih => rw [cs_succ]; omega

theorem cs_bound (f : ℕ → ℕ) (B : ℕ) (h : ∀ e, f e ≤ B) : ∀ j, cs f j ≤ (j + 1) * B
  | 0 => by rw [cs_zero]; have := h 0; omega
  | j + 1 => by rw [cs_succ]; have h1 := cs_bound f B h j; have h2 := h (j + 1); rw [Nat.add_mul (j + 1) 1 B]; omega

/-- A count below `m` of a property that holds up to a point is that point. -/
theorem count_down (P : ℕ → Prop) [DecidablePred P] (hP : ∀ a b, a ≤ b → P b → P a) (m : ℕ) :
    ∀ e, e < m → (P e ↔ e < Nat.count P m) := by
  induction m with
  | zero => intro e he; omega
  | succ m ih =>
    intro e he
    rw [Nat.count_succ]
    by_cases hm : P m
    · have hc : Nat.count P m = m := by
        rcases Nat.lt_or_ge (Nat.count P m) m with h | h
        · exact absurd ((ih _ h).1 (hP _ m h.le hm)) (Nat.lt_irrefl _)
        · exact le_antisymm (Nat.count_le _) h
      rw [if_pos hm, hc]
      exact ⟨fun _ => he, fun _ => hP _ m (by omega) hm⟩
    · rw [if_neg hm, Nat.add_zero]
      rcases Nat.lt_or_ge e m with h | h
      · exact ih e h
      · have hem : e = m := by omega
        subst hem
        have := Nat.count_le P (n := e)
        exact ⟨fun h => absurd h hm, fun h => by omega⟩

variable (c : ℕ → ℕ)

/-- The rows of expert `e` with its padding. -/
def pd (e : ℕ) : ℕ := (c e + 511) / 512 * 512
/-- The padded rows up to and with expert `e`. -/
def pe (e : ℕ) : ℕ := cs (pd c) e
/-- The blocks up to and with expert `e`. -/
def q (e : ℕ) : ℕ := pe c e / 512
/-- The expert of block `n`. -/
def blk (n : ℕ) : ℕ := min (Nat.count (fun e => pe c e ≤ n * 512) 32) 31
/-- The row after expert `e`'s last. -/
def en (e : ℕ) : ℕ := pe c e - pd c e + c e
/-- The rows of block `n` that hold data. -/
def vl (n : ℕ) : ℕ := min 512 (en c (blk c n) - n * 512)
/-- 1 where a used block's expert is not the block's before. -/
def fst (n : ℕ) : ℕ := if n < q c 31 ∧ (n = 0 ∨ blk c n ≠ blk c (n - 1)) then 1 else 0
/-- The slot of block `n`'s weights. -/
def slot (n : ℕ) : ℕ := (cs (fst c) n - 1) % 2
/-- `w` is the least expert after `e` that has rows, 32 if none has. -/
def Nxt (e w : ℕ) : Prop := (∀ x, x < 32 → e < x → 0 < c x → w ≤ x) ∧ (w = 32 ∨ (w < 32 ∧ e < w ∧ 0 < c w))

theorem pe_zero : pe c 0 = pd c 0 := cs_zero _
theorem pe_succ (e : ℕ) : pe c (e + 1) = pe c e + pd c (e + 1) := cs_succ _ _

theorem pe_eq : ∀ e, pe c e = q c e * 512
  | 0 => by unfold q; rw [pe_zero]; unfold pd; omega
  | e + 1 => by
    have h := pe_eq e
    have : pe c (e + 1) % 512 = 0 := by rw [pe_succ, h]; unfold pd; omega
    unfold q; omega

theorem q_mono {i j : ℕ} (h : i ≤ j) : q c i ≤ q c j := Nat.div_le_div_right (cs_mono _ h)

theorem q_succ (e : ℕ) : q c (e + 1) = q c e + (c (e + 1) + 511) / 512 := by
  have h1 := pe_eq c e; have h2 := pe_eq c (e + 1); have h3 := pe_succ c e
  unfold pd at h3; omega

theorem q_zero : q c 0 = (c 0 + 511) / 512 := by
  have h1 := pe_eq c 0; have h2 := pe_zero c; unfold pd at h2; omega

theorem pd_le (e : ℕ) : pd c e ≤ pe c e := le_cs _ _

theorem c_le_pd (e : ℕ) : c e ≤ pd c e := by unfold pd; omega

theorem en_le (e : ℕ) : en c e ≤ q c e * 512 := by
  have h1 := pd_le c e; have h2 := c_le_pd c e; have h3 := pe_eq c e
  unfold en; omega

/-- A step of `q` is a step of `c`. -/
theorem c_pos {e n : ℕ} (h : ∀ x, x < e → q c x ≤ n) (hn : n < q c e) : 0 < c e := by
  rcases e with _ | e
  · rw [q_zero] at hn; omega
  · rw [q_succ] at hn; have := h e (by omega); omega

theorem c_zero {e : ℕ} (h : q c (e + 1) ≤ q c e) : c (e + 1) = 0 := by rw [q_succ] at h; omega

theorem le_iff (e n : ℕ) : pe c e ≤ n * 512 ↔ q c e ≤ n := by
  have := pe_eq c e
  omega

theorem blk_lt (n : ℕ) : blk c n < 32 := by unfold blk; omega

theorem count_iff (n e : ℕ) (he : e < 32) : q c e ≤ n ↔ e < Nat.count (fun e => pe c e ≤ n * 512) 32 := by
  rw [← le_iff]
  exact count_down (fun e => pe c e ≤ n * 512) (fun a b hab hb => le_trans (cs_mono _ hab) hb) 32 e he

/-- Past the used blocks the expert is the last. -/
theorem blk_end {n : ℕ} (h : q c 31 ≤ n) : blk c n = 31 := by
  have := (count_iff c n 31 (by omega)).1 h
  unfold blk; omega

/-- A used block's expert is the first whose blocks reach past it. -/
theorem blk_used {n : ℕ} (h : n < q c 31) : n < q c (blk c n) ∧ ∀ e, e < blk c n → q c e ≤ n := by
  have h31 : ¬ 31 < Nat.count (fun e => pe c e ≤ n * 512) 32 := fun h' => by
    have := (count_iff c n 31 (by omega)).2 h'; omega
  have hb : blk c n = Nat.count (fun e => pe c e ≤ n * 512) 32 := by unfold blk; omega
  refine ⟨?_, fun e he => (count_iff c n e (by have := blk_lt c n; omega)).2 (by omega)⟩
  have := (count_iff c n (blk c n) (blk_lt c n))
  rcases Nat.lt_or_ge n (q c (blk c n)) with h' | h'
  · exact h'
  · have := this.1 h'; omega

theorem used_le (h : cs c 31 ≤ 67584) : q c 31 ≤ 163 := by
  have h1 : ∀ j, pe c j ≤ cs c j + (j + 1) * 511 := by
    intro j
    induction j with
    | zero => rw [pe_zero, cs_zero]; unfold pd; omega
    | succ j ih => rw [pe_succ, cs_succ]; unfold pd; omega
  have := h1 31; have := pe_eq c 31; omega

theorem used_pos (h : 0 < cs c 31) : 0 < q c 31 := by
  have h1 := cs_le (c_le_pd c) 31
  have h2 : cs (pd c) 31 = pe c 31 := rfl
  have := pe_eq c 31; omega

theorem nxt_last {n w : ℕ} (h : q c 31 ≤ n + 1) (hw : Nxt c (blk c n) w) : w = 32 := by
  rcases hw.2 with h' | ⟨h1, h2, h3⟩
  · exact h'
  · rcases Nat.lt_or_ge n (q c 31) with hn | hn
    · have hb := blk_used c hn
      obtain ⟨x, rfl⟩ : ∃ x, w = x + 1 := ⟨w - 1, by omega⟩
      have h4 := q_mono c (i := blk c n) (j := x) (by omega)
      have h5 := q_mono c (i := x + 1) (j := 31) (by omega)
      have := c_zero c (e := x) (by omega)
      omega
    · rw [blk_end c hn] at h2; omega

theorem blk_mono (n : ℕ) : blk c n ≤ blk c (n + 1) := by
  have hl := blk_lt c n
  rcases Nat.lt_or_ge (n + 1) (q c 31) with h | h
  · rcases Nat.lt_or_ge (blk c (n + 1)) (blk c n) with h' | h'
    · have h1 := (blk_used c (n := n) (by omega)).2 _ h'
      have h2 := (blk_used c h).1
      omega
    · exact h'
  · rw [blk_end c h]; omega

theorem nxt_first {n w : ℕ} (h : n + 1 < q c 31) (hne : blk c (n + 1) ≠ blk c n) (hw : Nxt c (blk c n) w) : w = blk c (n + 1) := by
  have hm := blk_mono c n
  have hl := blk_lt c (n + 1)
  obtain ⟨a1, a2⟩ := blk_used c h
  obtain ⟨b1, b2⟩ := blk_used c (n := n) (by omega)
  have hp := c_pos c a2 a1
  have hle := hw.1 _ hl (by omega) hp
  rcases hw.2 with h' | ⟨h1, h2, h3⟩
  · omega
  · rcases Nat.lt_or_ge w (blk c (n + 1)) with h4 | h4
    · obtain ⟨x, rfl⟩ : ∃ x, w = x + 1 := ⟨w - 1, by omega⟩
      have h5 := q_mono c (i := blk c n) (j := x) (by omega)
      have h6 := a2 _ h4
      have := c_zero c (e := x) (by omega)
      omega
    · omega

theorem fst_zero (h : 0 < q c 31) : fst c 0 = 1 := if_pos ⟨h, Or.inl rfl⟩

theorem cs_fst_pos (h : 0 < q c 31) (n : ℕ) : 1 ≤ cs (fst c) n := by
  have h1 := cs_mono (fst c) (Nat.zero_le n)
  rw [cs_zero, fst_zero c h] at h1
  exact h1

theorem fst_le (n : ℕ) : fst c n ≤ 1 := by unfold fst; split <;> omega

theorem slot_first (h : 0 < q c 31) {n : ℕ} (hf : fst c (n + 1) = 1) : slot c (n + 1) = 1 - slot c n := by
  have := cs_fst_pos c h n
  unfold slot; rw [cs_succ, hf]; omega

theorem slot_same {n : ℕ} (hf : fst c (n + 1) = 0) : slot c (n + 1) = slot c n := by
  unfold slot; rw [cs_succ, hf, Nat.add_zero]

theorem first_iff (n : ℕ) : fst c (n + 1) = 1 ↔ n + 1 < q c 31 ∧ blk c (n + 1) ≠ blk c n := by
  unfold fst
  rw [Nat.add_sub_cancel]
  constructor
  · intro h
    by_contra h'
    rw [if_neg (by rintro ⟨h1, h2 | h2⟩; · omega
                   · exact h' ⟨h1, h2⟩)] at h
    omega
  · rintro ⟨h1, h2⟩
    exact if_pos ⟨h1, Or.inr h2⟩

theorem vl_zero {n : ℕ} (h : q c 31 ≤ n) : vl c n = 0 := by
  have := en_le c 31
  unfold vl; rw [blk_end c h]; omega

/-- From one block to the next with no new expert. -/
theorem step_same {n w w' : ℕ} (hf : fst c (n + 1) ≠ 1) (hw : Nxt c (blk c n) w) (hw' : Nxt c (blk c (n + 1)) w') :
    w' = w ∧ (vl c (n + 1) ≠ 0 → blk c (n + 1) = blk c n ∧ vl c n ≠ 0) := by
  rcases Nat.lt_or_ge (n + 1) (q c 31) with h | h
  · have he : blk c (n + 1) = blk c n := by
      by_contra h'
      exact hf ((first_iff c n).2 ⟨h, h'⟩)
    refine ⟨?_, fun hv => ⟨he, ?_⟩⟩
    · rw [he] at hw'
      rcases hw.2 with h1 | ⟨h1, h2, h3⟩ <;> rcases hw'.2 with h4 | ⟨h4, h5, h6⟩
      · omega
      · have := hw.1 _ h4 h5 h6; omega
      · have := hw'.1 _ h1 h2 h3; omega
      · have := hw.1 _ h4 h5 h6; have := hw'.1 _ h1 h2 h3; omega
    · unfold vl at hv ⊢
      rw [he] at hv
      omega
  · refine ⟨(nxt_last c (n := n + 1) (by omega) hw').trans (nxt_last c h hw).symm, fun hv => absurd (vl_zero c h) hv⟩

end Experts.Counts
-- ==== Proof.Plan.lean ====
/-
  THE TABLES AS THE HOST COMPUTES THEM: each printed table as one term over the counts, and its words as natural numbers.
-/
module

public import proofs.«01_k».proof.Proof.Launch
public import proofs.«01_k».proof.Proof.Counts
public import Idealize.ShloMosaic.Lib.StableHlo.ReadAt
public import Idealize.ShloMosaic.Lib.Routing.Words
public import Idealize.ShloMosaic.Lib.Routing.Ops
public import Idealize.ShloMosaic.Lib.WordArith
public import Idealize.ShloMosaic.PureOps.Reduce

@[expose] public section

noncomputable section

namespace Cert.Proof.Experts

open Cert.KernelIdeal Cert.KernelIdeal.Gen

open Idealize.ShloMosaic
open Idealize.ShloMosaic.TcCoe
open Idealize.ShloMosaic.ValueIdx
open Idealize.ShloMosaic.Routing
open Idealize.SL.Sem
open Experts.Counts

variable {F : FTy → Type} [FloatOps F]

/-! ## The terms -/

section Terms
variable (a : IVec S32 32)

def X6 : IVec S32 32 :=
  muli (pyDiv bcast_S_S32 (subi (addi a (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))
def X7 : IVec S32 32 :=
  Host.reduceWindow IntOp.addi ![32] ![1] ![31] ![0] (X6 a) (broadcastInDim S_ ![] bcast_S_S_ (constantI S_ 32 0#32)) reduceWindows_S32_S32_w32s1p31_0 h_S_
def X11 : IVec S164 32 := muli (iotaInDim S164 32 0) (broadcastInDim S164 ![] bcast_S_S164 (constantI S_ 32 512#32))
def X20 : IVec S164 32 :=
  minsi (Host.reduce IntOp.addi (extui 32 (cmpi .sle (broadcastInDim S164x32 ![0, 1] bcast_S1x32_S164x32_0_1 (broadcastInDim S1x32 ![1] bcast_S32_S1x32_1 (X7 a)))
      (broadcastInDim S164x32 ![0, 1] bcast_S164x1_S164x32_0_1 (broadcastInDim S164x1 ![0] bcast_S164_S164x1_0 X11))) natLt_1_32) (constantI S_ 32 0#32) reducesTo_S164x32_S164_d1 h_S_)
    (broadcastInDim S164 ![] bcast_S_S164 (constantI S_ 32 31#32))
def X22 : IVec S1 32 := pyDiv bcast_S_S1 (extractStridedSlice S1 ![31] (X7 a) slices_S32_S1_31) (constantI S_ 32 512#32)
def X23 : IVec S32 32 := addi (subi (X7 a) (X6 a)) a
/-- A bit in front of 163 others. -/
def cat2 (x : IVec S1 1) (y : IVec S163 1) : IVec S164 1 := concatenate S164 0 [⟨S1, x⟩, ⟨S163, y⟩] concatenates_S1_S163_S164_d0
theorem cat2_eq (x : IVec S1 1) (y : IVec S163 1) (h : Shape.Concatenates [S1, S163] S164 0) : concatenate S164 0 [⟨S1, x⟩, ⟨S163, y⟩] h = cat2 x y := rfl
def X34 : IVec S164 32 :=
  extui 32 (andi (cmpi .slt (iotaInDim S164 32 0) (broadcastInDim S164 ![] bcast_S_S164 (shapeCast S_ (X22 a) shapeCasts_S1_S_)))
    (cat2 (broadcastInDim S1 ![] bcast_S_S1 (constantI S_ 1 1#1)) (cmpi .ne (extractStridedSlice S163 ![1] (X20 a) slices_S164_S163_1)
      (extractStridedSlice S163 ![0] (X20 a) slices_S164_S163_0)))) natLt_1_32
def X38 : IVec S164 32 :=
  pyRem bcast_S_S164 (subi (Host.reduceWindow IntOp.addi ![164] ![1] ![163] ![0] (X34 a) (broadcastInDim S_ ![] bcast_S_S_ (constantI S_ 32 0#32)) reduceWindows_S164_S164_w164s1p163_0 h_S_)
    (broadcastInDim S164 ![] bcast_S_S164 (constantI S_ 32 1#32))) (constantI S_ 32 2#32)
def X51 : IVec S32x32 32 :=
  select (andi (cmpi .sgt (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (broadcastInDim S32x1 ![0] bcast_S32_S32x1_0 (iotaInDim S32 32 0))))
      (broadcastInDim S32x32 ![0, 1] bcast_S1x32_S32x32_0_1 (broadcastInDim S1x32 ![1] bcast_S32_S1x32_1 (cmpi .sgt a (broadcastInDim S32 ![] bcast_S_S32 (constantI S_ 32 0#32))))))
    (broadcastInDim S32x32 ![0, 1] bcast_S1x32_S32x32_0_1 (broadcastInDim S1x32 ![1] bcast_S32_S1x32_1 (iotaInDim S32 32 0)))
    (broadcastInDim S32x32 ![] bcast_S_S32x32 (constantI S_ 32 32#32))
def X52 : IVec S32 32 := Host.reduce IntOp.minsi (X51 a) (constantI S_ 32 2147483647#32) reducesTo_S32x32_S32_d1 h_S_
def X60 : IVec S32 32 :=
  select (cmpi .eq (X52 a) (broadcastInDim S32 ![] bcast_S_S32 (constantI S_ 32 32#32))) (broadcastInDim S32 ![] bcast_S_S32 (constantI S_ 32 4294967295#32)) (X52 a)
/-- A per-expert row read at every block's expert, by a one-hot sum. -/
def pick (y : IVec S32 32) : IVec S164 32 :=
  Host.reduce IntOp.addi (select (cmpi .eq (broadcastInDim S164x32 ![0, 1] bcast_S164x1_S164x32_0_1 (broadcastInDim S164x1 ![0] bcast_S164_S164x1_0 (X20 a)))
      (broadcastInDim S164x32 ![0, 1] bcast_S1x32_S164x32_0_1 (broadcastInDim S1x32 ![1] bcast_S32_S1x32_1 (iotaInDim S32 32 0))))
    (broadcastInDim S164x32 ![0, 1] bcast_S1x32_S164x32_0_1 (broadcastInDim S1x32 ![1] bcast_S32_S1x32_1 y)) (broadcastInDim S164x32 ![] bcast_S_S164x32 (constantI S_ 32 0#32)))
    (constantI S_ 32 0#32) reducesTo_S164x32_S164_d1 h_S_
def X63 : IVec S164 32 := pick a (X60 a)
def X71 : IVec S164 32 :=
  minsi (broadcastInDim S164 ![] bcast_S_S164 (constantI S_ 32 512#32)) (maxsi (broadcastInDim S164 ![] bcast_S_S164 (constantI S_ 32 0#32)) (subi (pick a (X23 a)) X11))
end Terms

section Reads
variable (m : (ℓ : Loc nD τ sig) → Buf (Elt F) ℓ) (c : Dev nD)

theorem VV_20 : VV m c main_v20 = X20 (m (c, (main_arg1 : Ref sig .tc))) := by
  unfold VV
  after_reads_simp
  simp -implicitDefEqProofs only [StableHlo.TRef.toBuf, StableHlo.TRef.ofBuf, cast_cast, cast_eq, id_eq]
  unfold X20 X7 X11 X6 pyDiv
  rfl
theorem VV_22 : VV m c main_v22 = X22 (m (c, (main_arg1 : Ref sig .tc))) := by
  unfold VV
  after_reads_simp
  simp -implicitDefEqProofs only [StableHlo.TRef.toBuf, StableHlo.TRef.ofBuf, cast_cast, cast_eq, id_eq]
  unfold X22 X7 X6 pyDiv
  rfl
theorem VV_34 : VV m c main_v34 = X34 (m (c, (main_arg1 : Ref sig .tc))) := by
  unfold VV
  after_reads_simp
  simp only [cat2_eq]
  after_reads_simp
  simp -implicitDefEqProofs only [StableHlo.TRef.toBuf, StableHlo.TRef.ofBuf, cast_cast, cast_eq, id_eq]
  unfold X34 X20 X22 X7 X11 X6 pyDiv
  rfl
theorem VV_38 : VV m c main_v38 = X38 (m (c, (main_arg1 : Ref sig .tc))) := by
  unfold VV
  after_reads_simp
  simp only [cat2_eq]
  after_reads_simp
  simp -implicitDefEqProofs only [StableHlo.TRef.toBuf, StableHlo.TRef.ofBuf, cast_cast, cast_eq, id_eq]
  unfold X38 X34 X20 X22 X7 X11 X6 pyDiv pyRem divGuard
  rfl
theorem VV_63 : VV m c main_v63 = X63 (m (c, (main_arg1 : Ref sig .tc))) := by
  unfold VV
  after_reads_simp
  simp -implicitDefEqProofs only [StableHlo.TRef.toBuf, StableHlo.TRef.ofBuf, cast_cast, cast_eq, id_eq]
  unfold X63 pick X60 X52 X51 X20 X7 X11 X6 pyDiv
  rfl
theorem VV_71 : VV m c main_v71 = X71 (m (c, (main_arg1 : Ref sig .tc))) := by
  unfold VV
  after_reads_simp
  simp -implicitDefEqProofs only [StableHlo.TRef.toBuf, StableHlo.TRef.ofBuf, cast_cast, cast_eq, id_eq]
  unfold X71 pick X23 X20 X7 X11 X6 pyDiv
  rfl
theorem VV_72 : VV m c main_v72 = shapeCast S64x1x2048 (m (c, (main_arg3 : Ref sig .tc))) shapeCasts_S2x32x2048_S64x1x2048 := by
  unfold VV
  after_reads_simp
  rfl
theorem VV_73 : VV m c main_v73 = shapeCast S64x1x1024 (m (c, (main_arg5 : Ref sig .tc))) shapeCasts_S2x32x1024_S64x1x1024 := by
  unfold VV
  after_reads_simp
  rfl
theorem VV_arg0 : VV m c main_arg0 = m (c, (main_arg0 : Ref sig .tc)) := by
  unfold VV
  after_reads_simp
theorem VV_arg1 : VV m c main_arg1 = m (c, (main_arg1 : Ref sig .tc)) := by
  unfold VV
  after_reads_simp
theorem VV_arg2 : VV m c main_arg2 = m (c, (main_arg2 : Ref sig .tc)) := by
  unfold VV
  after_reads_simp
theorem VV_arg3 : VV m c main_arg3 = m (c, (main_arg3 : Ref sig .tc)) := by
  unfold VV
  after_reads_simp
theorem VV_arg4 : VV m c main_arg4 = m (c, (main_arg4 : Ref sig .tc)) := by
  unfold VV
  after_reads_simp
theorem VV_arg5 : VV m c main_arg5 = m (c, (main_arg5 : Ref sig .tc)) := by
  unfold VV
  after_reads_simp
end Reads

end Cert.Proof.Experts
-- ==== Proof.Tables.lean ====
/-
  THE TABLES' WORDS: at counts in range every word of the printed tables is the natural number of Counts.lean.
-/
module

public import proofs.«01_k».proof.Proof.Plan

@[expose] public section

noncomputable section

namespace Cert.Proof.Experts

open Cert.KernelIdeal Cert.KernelIdeal.Gen

open Idealize.ShloMosaic hiding ix0 ix1 ix2 ix3
open Idealize.ShloMosaic.TcCoe
open Idealize.ShloMosaic.ValueIdx
open Idealize.ShloMosaic.Routing Idealize.ShloMosaic.WordCmp
open Experts.Counts

/-- The counts as natural numbers: `c` in range, summing to the assignments, and the words `a` of it. -/
structure Words (a : IVec S32 32) (c : ℕ → ℕ) : Prop where
  word : ∀ e : Fin 32, a (ix1 e) = BitVec.ofNat 32 (c e.val)
  le : ∀ e, c e ≤ 67584
  sum : cs c 31 = 67584

section
variable {a : IVec S32 32} {c : ℕ → ℕ} (h : Words a c)
include h

theorem pd_bound (e : ℕ) : pd c e ≤ 68608 := by
  have := h.le e
  unfold pd; omega

theorem pe_bound (e : ℕ) (he : e < 32) : pe c e ≤ 2195456 := by
  have := cs_bound (pd c) 68608 (pd_bound h) e
  show cs (pd c) e ≤ _
  have : (e + 1) * 68608 ≤ 32 * 68608 := Nat.mul_le_mul_right _ (by omega)
  omega

theorem X6_word (e : Fin 32) : X6 a (ix1 e) = BitVec.ofNat 32 (pd c e.val) := by
  have hb := h.le e.val
  have h3 : (subi (addi a (broadcastInDim S32 ![] bcast_S_S32 (constantI S_ 32 512#32))) (broadcastInDim S32 ![] bcast_S_S32 (constantI S_ 32 1#32)) : IVec S32 32) (ix1 e)
      = BitVec.ofNat 32 (c e.val + 511) := by
    rw [subi_ap, addi_ap, bc0, bc0, h.word e]
    show BitVec.ofNat 32 (c e.val) + BitVec.ofNat 32 512 - BitVec.ofNat 32 1 = _
    rw [BitVec.ofNat_add_ofNat, ofNat32_sub (by omega)]
    congr 1
  unfold X6
  rw [muli_ap, bc0, pyDiv_ap bcast_S_S32 _ _ _ h3 (show (constantI S_ 32 512#32 : IVec S_ 32) ix0 = BitVec.ofNat 32 512 from rfl) (by omega) (by omega) (by omega)]
  show BitVec.ofNat 32 _ * BitVec.ofNat 32 512 = _
  rw [← BitVec.ofNat_mul]
  rfl

theorem X7_word (e : Fin 32) : X7 a (ix1 e) = BitVec.ofNat 32 (pe c e.val) :=
  cumsum1 (by omega) (X6 a) (pd c) (X6_word h) _ rfl reduceWindows_S32_S32_w32s1p31_0 h_S_ e

omit h in
theorem X11_word (n : Fin 164) : X11 (ix1 n) = BitVec.ofNat 32 (n.val * 512) := by
  unfold X11
  rw [muli_ap, bc0, iota1_ap]
  show BitVec.ofNat 32 _ * BitVec.ofNat 32 512 = _
  rw [← BitVec.ofNat_mul]

omit h in
theorem minsi_word {x y : ℕ} (hx : x < 2 ^ 31) (hy : y < 2 ^ 31) : IntOp.minsi (BitVec.ofNat 32 x) (BitVec.ofNat 32 y) = BitVec.ofNat 32 (min x y) := by
  apply BitVec.eq_of_toNat_eq
  rw [WordArith.toNat_minsi_of_lt _ _ (by rw [BitVec.toNat_ofNat]; omega) (by rw [BitVec.toNat_ofNat]; omega), BitVec.toNat_ofNat, BitVec.toNat_ofNat, BitVec.toNat_ofNat]
  omega

theorem X20_word (n : Fin 164) : X20 a (ix1 n) = BitVec.ofNat 32 (blk c n.val) := by
  have hc := reduce_count (n := 164) (m := 32) (by omega)
    (cmpi .sle (broadcastInDim S164x32 ![0, 1] bcast_S1x32_S164x32_0_1 (broadcastInDim S1x32 ![1] bcast_S32_S1x32_1 (X7 a)))
      (broadcastInDim S164x32 ![0, 1] bcast_S164x1_S164x32_0_1 (broadcastInDim S164x1 ![0] bcast_S164_S164x1_0 X11))) natLt_1_32 reducesTo_S164x32_S164_d1 h_S_ n
    (fun e => pe c e ≤ n.val * 512) (fun e => by
      rw [cmpi_at, bcCols, bcRows, X7_word h, X11_word, WordCmp.cmpi_sle_ofNat_eq_one_iff (w := 32)]
      · have := pe_bound h e.val e.isLt; omega
      · have := n.isLt; omega)
  have hl := Nat.count_le (p := fun e => pe c e ≤ n.val * 512) (n := 32)
  unfold X20
  show IntOp.minsi _ _ = _
  rw [hc, bc0]
  exact minsi_word (by omega) (by omega)

theorem X22_word : X22 a (ix1 0) = BitVec.ofNat 32 (q c 31) := by
  have hs : (extractStridedSlice S1 ![31] (X7 a) slices_S32_S1_31 : IVec S1 32) (ix1 0) = BitVec.ofNat 32 (pe c 31) :=
    (slice1 31 (X7 a) slices_S32_S1_31 0 (by decide)).trans (X7_word h _)
  have := pe_bound h 31 (by omega)
  exact pyDiv_ap bcast_S_S1 _ _ _ hs (show (constantI S_ 32 512#32 : IVec S_ 32) ix0 = BitVec.ofNat 32 512 from rfl) (by omega) (by omega) (by omega)

theorem X23_word (e : Fin 32) : X23 a (ix1 e) = BitVec.ofNat 32 (en c e.val) := by
  unfold X23
  rw [addi_ap, subi_ap, X7_word h, X6_word h, h.word, ofNat32_sub (pd_le c _), BitVec.ofNat_add_ofNat]
  rfl

omit h in
theorem cat2_zero (x : IVec S1 1) (y : IVec S163 1) : cat2 x y (ix1 0) = x (ix1 0) := by
  unfold cat2
  rw [concatenate_pair_apply, dif_pos (by decide)]
  refine congrArg x (funext fun b => ?_)
  match b with
  | ⟨0, _⟩ => rfl

omit h in
theorem cat2_succ (x : IVec S1 1) (y : IVec S163 1) (n : Fin 163) (n' : Fin 164) (hn : n'.val = n.val + 1) : cat2 x y (ix1 n') = y (ix1 n) := by
  unfold cat2
  rw [concatenate_pair_apply, dif_neg (by show ¬ n'.val < 1; omega)]
  refine congrArg y (funext fun b => Fin.ext ?_)
  match b with
  | ⟨0, _⟩ =>
    show n'.val - 1 = n.val
    omega

theorem X34_word (n : Fin 164) : X34 a (ix1 n) = BitVec.ofNat 32 (fst c n.val) := by
  have hu : q c 31 ≤ 4288 := by have h1 := pe_bound h 31 (by omega); have h2 := pe_eq c 31; omega
  have h27 : (cmpi .slt (iotaInDim S164 32 0) (broadcastInDim S164 ![] bcast_S_S164 (shapeCast S_ (X22 a) shapeCasts_S1_S_)) : IVec S164 1) (ix1 n)
      = BitVec.ofBool (decide (n.val < q c 31)) := by
    rw [cmpi_at, iota1_ap, bc0, shapeCast_apply (X22 a) shapeCasts_S1_S_ ix0 (ix1 0) (by decide), X22_word h]
    exact WordCmp.cmpi_slt_ofNat (w := 32) (by have := n.isLt; omega) (by omega)
  have h32 : (cat2 (broadcastInDim S1 ![] bcast_S_S1 (constantI S_ 1 1#1)) (cmpi .ne (extractStridedSlice S163 ![1] (X20 a) slices_S164_S163_1)
      (extractStridedSlice S163 ![0] (X20 a) slices_S164_S163_0))) (ix1 n) = BitVec.ofBool (decide (n.val = 0 ∨ blk c n.val ≠ blk c (n.val - 1))) := by
    by_cases hn : n.val = 0
    · have : n = 0 := Fin.ext hn
      subst this
      rw [cat2_zero, bc0]
      rfl
    · have hlt := n.isLt
      rw [cat2_succ _ _ ⟨n.val - 1, by omega⟩ n (by show n.val = n.val - 1 + 1; omega), cmpi_at, slice1 1 (X20 a) slices_S164_S163_1 _ (by show 1 + (n.val - 1) < 164; omega),
        slice1 0 (X20 a) slices_S164_S163_0 _ (by show 0 + (n.val - 1) < 164; omega), X20_word h, X20_word h]
      have e1 : 1 + (n.val - 1) = n.val := by omega
      have e2 : 0 + (n.val - 1) = n.val - 1 := by omega
      show IntOp.cmpi .ne (BitVec.ofNat 32 (blk c (1 + (n.val - 1)))) (BitVec.ofNat 32 (blk c (0 + (n.val - 1)))) = _
      rw [e1, e2, WordCmp.cmpi_ne_ofNat (by have := blk_lt c n.val; omega) (by have := blk_lt c (n.val - 1); omega)]
      refine congrArg BitVec.ofBool (decide_eq_decide.2 ⟨Or.inr, fun h => h.resolve_left hn⟩)
  unfold X34
  show BitVec.setWidth 32 (_ &&& _) = _
  rw [h27, h32, BitVec.ofBool_and_ofBool, ← Bool.decide_and, setWidth_ofBool]
  rfl

theorem X38_word (n : Fin 164) : X38 a (ix1 n) = BitVec.ofNat 32 (slot c n.val) := by
  have hc := cumsum1 (N := 164) (by omega) (X34 a) (fst c) (X34_word h) (broadcastInDim S_ ![] bcast_S_S_ (constantI S_ 32 0#32)) rfl reduceWindows_S164_S164_w164s1p163_0 h_S_ n
  have hp := cs_fst_pos c (used_pos c (by rw [h.sum]; omega)) n.val
  have hb := cs_bound (fst c) 1 (fst_le c) n.val
  have hlt := n.isLt
  refine pyRem_ap bcast_S_S164 _ _ _ (a := cs (fst c) n.val - 1) (b := 2) ?_ rfl (by omega) (by omega) (by omega)
  rw [subi_ap, hc, bc0]
  exact ofNat32_sub hp

/-! ## A row of a rectangle folded -/

omit h in
theorem fold_row {n : ℕ} (op : BitVec 32 → BitVec 32 → BitVec 32) [Std.Commutative op] [Std.Associative op] (x : IVec (shape2 n 32) 32) (z : BitVec 32)
    (hr : (shape2 n 32).ReducesTo [1] (shape1 n)) (hu : 0 < shape0.numel) (i : Fin n) :
    Host.reduce op x (constantI shape0 32 z) hr hu (ix1 i) = (Finset.univ : Finset (Fin 32)).fold op z fun k => x (ix2 i k) := by
  have hr' : (shape2 n 32).Reduces [1] (shape1 n) := ⟨rfl, Nat.one_pos, hr.2⟩
  rw [Host.reduce_eq_fold_single op x _ hr hr' hu]
  refine congrArg (fun f => Finset.fold op z f Finset.univ) (funext fun k => congrArg x (funext fun b => ?_))
  match b with
  | ⟨0, _⟩ => rfl
  | ⟨1, _⟩ => rfl

omit h in
/-- A sum with one term that is not 0. -/
theorem fold_one (f : Fin 32 → BitVec 32) (k : Fin 32) (hf : ∀ x, x ≠ k → f x = 0#32) : (Finset.univ : Finset (Fin 32)).fold IntOp.addi 0#32 f = f k := by
  have : ∀ s : Finset (Fin 32), s.fold IntOp.addi 0#32 f = if k ∈ s then f k else 0#32 := by
    intro s
    induction s using Finset.cons_induction with
    | empty => rfl
    | cons x s hx ih =>
      rw [Finset.fold_cons, ih]
      by_cases hxk : x = k
      · subst hxk
        rw [if_neg hx, if_pos (Finset.mem_cons_self _ _)]
        exact BitVec.add_zero _
      · rw [hf x hxk]
        have : (k ∈ Finset.cons x s hx) ↔ k ∈ s := by rw [Finset.mem_cons]; exact ⟨fun h => h.resolve_left (fun e => hxk e.symm), Or.inr⟩
        rw [if_congr this rfl rfl]
        exact BitVec.zero_add _
  rw [this, if_pos (Finset.mem_univ _)]

omit h in
/-- A least of words that hold naturals. -/
theorem fold_least (f : Fin 32 → ℕ) (hf : ∀ k, f k ≤ 32) : ∃ w, (Finset.univ : Finset (Fin 32)).fold IntOp.minsi 2147483647#32 (fun k => BitVec.ofNat 32 (f k)) = BitVec.ofNat 32 w
    ∧ (∀ k, w ≤ f k) ∧ ∃ k, w = f k := by
  have : ∀ s : Finset (Fin 32), ∃ w, s.fold IntOp.minsi 2147483647#32 (fun k => BitVec.ofNat 32 (f k)) = BitVec.ofNat 32 w
      ∧ (∀ k ∈ s, w ≤ f k) ∧ w < 2 ^ 31 ∧ (w = 2147483647 ∨ ∃ k ∈ s, w = f k) := by
    intro s
    induction s using Finset.cons_induction with
    | empty => exact ⟨2147483647, rfl, fun k hk => absurd hk (Finset.notMem_empty k), by omega, Or.inl rfl⟩
    | cons x s hx ih =>
      obtain ⟨w, h1, h2, h3, h4⟩ := ih
      have hfx := hf x
      refine ⟨min (f x) w, ?_, ?_, by omega, ?_⟩
      · rw [Finset.fold_cons, h1, minsi_word (by omega) h3]
      · intro k hk
        rcases Finset.mem_cons.1 hk with rfl | hk
        · exact Nat.min_le_left _ _
        · exact (Nat.min_le_right _ _).trans (h2 k hk)
      · rcases Nat.le_total (f x) w with hw | hw
        · exact Or.inr ⟨x, Finset.mem_cons_self _ _, Nat.min_eq_left hw⟩
        · rw [Nat.min_eq_right hw]
          rcases h4 with h4 | ⟨k, hk, h4⟩
          · exact Or.inl h4
          · exact Or.inr ⟨k, Finset.mem_cons.2 (Or.inr hk), h4⟩
  obtain ⟨w, h1, h2, h3, h4⟩ := this Finset.univ
  refine ⟨w, h1, fun k => h2 k (Finset.mem_univ _), ?_⟩
  rcases h4 with h4 | ⟨k, _, h4⟩
  · have := h2 0 (Finset.mem_univ _); have := hf 0; omega
  · exact ⟨k, h4⟩

theorem pick_word (y : IVec S32 32) (n : Fin 164) : pick a y (ix1 n) = y (ix1 ⟨blk c n.val, blk_lt c n.val⟩) := by
  unfold pick
  refine (fold_row IntOp.addi _ 0#32 reducesTo_S164x32_S164_d1 h_S_ n).trans ((fold_one _ ⟨blk c n.val, blk_lt c n.val⟩ fun x hx => ?_).trans ?_)
  · rw [select_at, cmpi_at, bcRows, bcCols, bcCols, X20_word h, iota1_ap, cmpi_eq_ofNat (w := 32) (by have := blk_lt c n.val; omega) (by have := x.isLt; omega), select_decide,
      if_neg (fun e => hx (Fin.ext e.symm)), bc0]
    rfl
  · rw [select_at, cmpi_at, bcRows, bcCols, bcCols, X20_word h, iota1_ap, cmpi_eq_ofNat (w := 32) (by have := blk_lt c n.val; omega) (by have := blk_lt c n.val; show blk c n.val < _; omega), select_decide,
      if_pos rfl]

theorem X52_word (e : Fin 32) : ∃ w, X52 a (ix1 e) = BitVec.ofNat 32 w ∧ Nxt c e.val w := by
  have hx : ∀ k : Fin 32, X51 a (ix2 e k) = BitVec.ofNat 32 (if e.val < k.val ∧ 0 < c k.val then k.val else 32) := by
    intro k
    have hk := k.isLt; have he := e.isLt; have hc := h.le k.val
    unfold X51
    rw [select_at, andi_at, cmpi_at, bcRows, bcCols, bcCols, cmpi_at, h.word, bc0, bc0, iota1_ap, iota1_ap, cmpi_sgt_ofNat (w := 32) (by omega) (by omega)]
    show Scalar.select (IntOp.andi _ (IntOp.cmpi .sgt (BitVec.ofNat 32 (c k.val)) (BitVec.ofNat 32 0))) (BitVec.ofNat 32 k.val) (BitVec.ofNat 32 32) = _
    rw [cmpi_sgt_ofNat (w := 32) (by omega) (by omega), WordArith.andi_ofBool, ← Bool.decide_and, select_decide]
    exact (apply_ite _ _ _ _).symm
  obtain ⟨w, h1, h2, k, h3⟩ := fold_least (fun k => if e.val < k.val ∧ 0 < c k.val then k.val else 32) (fun k => by
    have hk := k.isLt
    split <;> omega)
  refine ⟨w, ?_, fun x hx he hc => ?_, ?_⟩
  · unfold X52
    refine (fold_row IntOp.minsi _ _ reducesTo_S32x32_S32_d1 h_S_ e).trans (Eq.trans ?_ h1)
    exact congrArg (fun f => Finset.fold IntOp.minsi 2147483647#32 f Finset.univ) (funext hx)
  · have := h2 ⟨x, hx⟩
    rw [if_pos ⟨he, hc⟩] at this
    exact this
  · have hk := k.isLt
    split at h3
    · rename_i hp
      subst h3
      exact Or.inr ⟨hk, hp.1, hp.2⟩
    · exact Or.inl h3

theorem X63_word (n : Fin 164) : ∃ w, X63 a (ix1 n) = (if w = 32 then 4294967295#32 else BitVec.ofNat 32 w) ∧ Nxt c (blk c n.val) w := by
  obtain ⟨w, h1, h2⟩ := X52_word h ⟨blk c n.val, blk_lt c n.val⟩
  have hw : w < 2 ^ 32 := by rcases h2.2 with h | ⟨h, _⟩ <;> omega
  refine ⟨w, ?_, h2⟩
  unfold X63
  rw [pick_word h]
  unfold X60
  rw [select_at, cmpi_at, bc0, bc0, h1]
  show Scalar.select (IntOp.cmpi .eq (BitVec.ofNat 32 w) (BitVec.ofNat 32 32)) _ _ = _
  rw [cmpi_eq_ofNat (w := 32) hw (by omega), select_decide]
  rfl

theorem X71_word (n : Fin 164) : X71 a (ix1 n) = BitVec.ofNat 32 (vl c n.val) := by
  have hn := n.isLt
  have hb := blk_lt c n.val
  have he : en c (blk c n.val) ≤ 2195456 := by
    have h1 := en_le c (blk c n.val); have h2 := pe_eq c (blk c n.val); have h3 := pe_bound h _ hb; omega
  unfold X71
  show IntOp.minsi _ (IntOp.maxsi _ (_ - _)) = _
  rw [pick_word h, X23_word h, X11_word, bc0, bc0]
  show IntOp.minsi (BitVec.ofNat 32 512) (IntOp.maxsi 0#32 (BitVec.ofNat 32 (en c (blk c n.val)) - BitVec.ofNat 32 (n.val * 512))) = _
  have hm : IntOp.maxsi 0#32 (BitVec.ofNat 32 (en c (blk c n.val)) - BitVec.ofNat 32 (n.val * 512)) = BitVec.ofNat 32 (en c (blk c n.val) - n.val * 512) := by
    rcases Nat.le_total (n.val * 512) (en c (blk c n.val)) with hle | hle
    · rw [ofNat32_sub hle, maxsi_zero_left (by omega)]
    · apply BitVec.eq_of_toNat_eq
      rw [WordArith.toNat_maxsi_zero, WordArith.toInt_sub_of_bounds, WordArith.toInt_ofNat_small _ (by omega), WordArith.toInt_ofNat_small _ (by omega), BitVec.toNat_ofNat]
      · omega
      · rw [WordArith.toInt_ofNat_small _ (by omega), WordArith.toInt_ofNat_small _ (by omega)]; omega
      · rw [WordArith.toInt_ofNat_small _ (by omega), WordArith.toInt_ofNat_small _ (by omega)]; omega
  rw [hm, minsi_word (by omega) (by omega)]
  rfl

end

end Cert.Proof.Experts
-- ==== Proof.Good.lean ====
/-
  The tables the launch reads: at counts in range they satisfy what the run needs of them (`Good`), and every block the index
  maps name lies inside its array (`ok0`).
-/
module

public import proofs.«01_k».proof.Proof.Tables
public import proofs.«01_k».proof.Proof.Launch
public import proofs.«01_k».proof.Pre_requires
public import Idealize.ShloMosaic.Lib.ReduceAll

@[expose] public section

noncomputable section

namespace Cert.Proof.Experts

open Cert.KernelIdeal Cert.KernelIdeal.Gen

open Idealize.ShloMosaic hiding ix0 ix1 ix2 ix3
open Idealize.ShloMosaic.TcCoe
open Idealize.ShloMosaic.ValueIdx
open Idealize.ShloMosaic.Routing Idealize.ShloMosaic.WordCmp
open Experts.Counts

variable {F : FTy → Type} [FloatOps F]

/-! ## From the tables' words to what the run needs -/

/-- The six tables hold the naturals of Counts.lean. -/
structure Planned (c : ℕ → ℕ) (pf : pre0.Contents (Elt F)) : Prop where
  e : ∀ n, tE pf n = BitVec.ofNat 32 (blk c n.val)
  u : tU pf = BitVec.ofNat 32 (q c 31)
  f : ∀ n, tF pf n = BitVec.ofNat 32 (fst c n.val)
  s : ∀ n, tS pf n = BitVec.ofNat 32 (slot c n.val)
  nx : ∀ n, ∃ w, tN pf n = (if w = 32 then 4294967295#32 else BitVec.ofNat 32 w) ∧ Nxt c (blk c n.val) w
  v : ∀ n, tV pf n = BitVec.ofNat 32 (vl c n.val)

theorem toNat_of {x : BitVec 32} {n : ℕ} (h : x = BitVec.ofNat 32 n) (hn : n < 4294967296) : x.toNat = n := by
  subst h
  rw [BitVec.toNat_ofNat]
  omega

section
variable {c : ℕ → ℕ} {pf : pre0.Contents (Elt F)} (h : Planned c pf) (hc : cs c 31 = 67584)
include h hc

theorem used : 1 ≤ q c 31 ∧ q c 31 ≤ 163 := ⟨used_pos c (by omega), used_le c (by omega)⟩

omit hc in
theorem toNat_e (n : Fin 164) : (tE pf n).toNat = blk c n.val := toNat_of (h.e n) (by have := blk_lt c n.val; omega)

omit h hc in
theorem slot_lt (n : ℕ) : slot c n < 2 := by unfold slot; omega

omit hc in
theorem toNat_s (n : Fin 164) : (tS pf n).toNat = slot c n.val := toNat_of (h.s n) (by have := slot_lt (c := c) n.val; omega)

omit h hc in
theorem vl_le (n : ℕ) : vl c n ≤ 512 := by unfold vl; omega

omit hc in
theorem toNat_v (n : Fin 164) : (tV pf n).toNat = vl c n.val := toNat_of (h.v n) (by have := vl_le (c := c) n.val; omega)

theorem toNat_u : (tU pf).toNat = q c 31 := toNat_of h.u (by have := used h hc; omega)

omit hc in
theorem first_word (n : Fin 164) : tF pf n = 1#32 ↔ fst c n.val = 1 := by
  constructor
  · intro e
    have h1 := toNat_of (h.f n) (by have := fst_le c n.val; omega)
    rw [e] at h1
    exact h1.symm
  · intro e
    rw [h.f, e]

theorem good : Good pf where
  e n := by rw [toNat_e h]; exact blk_lt c _
  s n := by rw [toNat_s h]; exact slot_lt _
  nx n := by
    obtain ⟨w, h1, h2⟩ := h.nx n
    rw [h1]
    rcases h2.2 with h3 | ⟨h3, _⟩
    · exact Or.inl (if_pos h3)
    · refine Or.inr ?_
      rw [if_neg (by omega), BitVec.toNat_ofNat]
      omega
  v n := by rw [toNat_v h]; exact vl_le _
  u := by rw [toNat_u h hc]; have := used h hc; omega
  f0 := by
    have := used h hc
    refine ⟨(first_word h 0).2 (fst_zero c (by omega)), ?_⟩
    rw [h.s]
    show BitVec.ofNat 32 (slot c 0) = _
    have h0 : slot c 0 = 0 := by unfold slot; rw [cs_zero, fst_zero c (by omega)]
    rw [h0]
  first n n' hn hf := by
    have hu := used h hc
    rw [first_word h, hn, first_iff] at hf
    obtain ⟨w, h1, h2⟩ := h.nx n
    have h3 := nxt_first c hf.1 hf.2 h2
    have h4 := blk_lt c (n.val + 1)
    refine ⟨?_, ?_⟩
    · rw [h1, h.e, hn, if_neg (by omega), h3]
    · rw [toNat_s h, toNat_s h, hn]
      exact slot_first c (by omega) ((first_iff c _).2 hf)
  same n n' hn hf := by
    rw [Ne, first_word h, hn] at hf
    obtain ⟨w, h1, h2⟩ := h.nx n
    obtain ⟨w', h1', h2'⟩ := h.nx n'
    rw [hn] at h2'
    obtain ⟨h3, h4⟩ := step_same c hf h2 h2'
    have h5 := fst_le c (n.val + 1)
    refine ⟨by rw [h1, h1', h3], ?_, ?_⟩
    · rw [h.s, h.s, hn, slot_same c (by omega)]
    · rw [toNat_v h, toNat_v h, h.e, h.e, hn]
      intro hv
      obtain ⟨h6, h7⟩ := h4 hv
      exact ⟨by rw [h6], h7⟩
  last := by
    have hu := used h hc
    obtain ⟨w, h1, h2⟩ := h.nx 163
    rw [h1, if_pos (nxt_last c (by show q c 31 ≤ 163 + 1; omega) h2)]

/-- The row block the grid's point `n` reads. -/
def rb (c : ℕ → ℕ) (n : ℕ) : ℕ := min n (q c 31 - 1)

omit hc in
theorem at_e (i : grid0.Coords) : cc0_transform_2 k0_off1_inb numel1_S1 pf i = ![blk c (i 0).val, 0, 0] := by
  have hi : (i 0).val < 164 := (i 0).isLt
  have h1 : (pf.at 0 (Rect.unit (s := S164) ![(BitVec.ofNat 32 (i 0).val).toNat] S1.size (k0_off1_inb i)) numel1_S1 : BitVec 32) = tE pf ⟨(i 0).val, hi⟩ := by
    refine congrArg (pf 0 : S164.Idx → BitVec 32) (funext fun b => Fin.ext ?_)
    match b with
    | ⟨0, _⟩ =>
      show (BitVec.ofNat 32 (i 0).val).toNat + 1 * 0 = (i 0).val
      rw [BitVec.toNat_ofNat]; omega
  unfold cc0_transform_2
  show ![(IntOp.addi (w := 32) 0#32 (pf.at 0 (Rect.unit (s := S164) ![(BitVec.ofNat 32 (i 0).val).toNat] S1.size (k0_off1_inb i)) numel1_S1)).toNat, _, _] = _
  rw [h1, show IntOp.addi 0#32 (tE pf ⟨(i 0).val, hi⟩) = tE pf ⟨(i 0).val, hi⟩ from BitVec.zero_add _, toNat_e h]
  rfl

omit hc in
theorem at_e' (i : grid0.Coords) : cc0_transform_4 k0_off1_inb numel1_S1 pf i = ![blk c (i 0).val, 0, 0] := at_e h i

theorem at_x (i : grid0.Coords) : cc0_transform_0 inb_S1_S1_0 numel1_S1 pf i = ![rb c (i 0).val, 0] := by
  have hi : (i 0).val < 164 := (i 0).isLt
  have hu := used h hc
  have h1 : (pf.at 1 (Rect.unit (s := S1) ![0] S1.size inb_S1_S1_0) numel1_S1 : BitVec 32) = tU pf := by
    refine congrArg (pf 1 : S1.Idx → BitVec 32) (funext fun b => Fin.ext ?_)
    match b with
    | ⟨0, _⟩ => rfl
  unfold cc0_transform_0
  show ![(IntOp.minsi (BitVec.ofNat 32 (i 0).val) (IntOp.subi (w := 32) (pf.at 1 (Rect.unit (s := S1) ![0] S1.size inb_S1_S1_0) numel1_S1) (BitVec.ofNat 32 1))).toNat, _] = _
  rw [h1, h.u, show IntOp.subi (BitVec.ofNat 32 (q c 31)) (BitVec.ofNat 32 1) = BitVec.ofNat 32 (q c 31 - 1) from ofNat32_sub (by omega), minsi_word (by omega) (by omega), BitVec.toNat_ofNat, Nat.mod_eq_of_lt (by omega)]
  rfl

theorem ok : ok0 pf := by
  have hu := used h hc
  refine ⟨fun i => ⟨?_, Or.inl rfl⟩, fun i => ⟨?_, Or.inl rfl⟩, fun i => ⟨?_, Or.inl rfl⟩⟩
  · rw [at_x h hc]
    have : rb c (i 0).val ≤ 162 := by unfold rb; omega
    intro a
    match a with
    | ⟨0, _⟩ => show (rb c (i 0).val + 1) * 4096 ≤ 671744; omega
    | ⟨1, _⟩ => show (0 + 1) * 128 ≤ 128; omega
  · rw [at_e h]
    have := blk_lt c (i 0).val
    intro a
    match a with
    | ⟨0, _⟩ => show (blk c (i 0).val + 1) * 1 ≤ 64; omega
    | ⟨1, _⟩ => show (0 + 1) * 1 ≤ 1; omega
    | ⟨2, _⟩ => show (0 + 1) * 2048 ≤ 2048; omega
  · rw [at_e' h]
    have := blk_lt c (i 0).val
    intro a
    match a with
    | ⟨0, _⟩ => show (blk c (i 0).val + 1) * 1 ≤ 64; omega
    | ⟨1, _⟩ => show (0 + 1) * 1 ≤ 1; omega
    | ⟨2, _⟩ => show (0 + 1) * 1024 ≤ 1024; omega

end

/-! ## From the precondition to the counts -/

/-- The counts as naturals. -/
def cnt (a : IVec S32 32) (e : ℕ) : ℕ := if h : e < 32 then (a (ix1 ⟨e, h⟩)).toNat else 0

theorem sum_cs (f : ℕ → ℕ) : ∀ n, ((List.range (n + 1)).map f).sum = cs f n
  | 0 => by rw [cs_zero]; simp
  | n + 1 => by rw [List.range_succ, List.map_append, List.sum_append, sum_cs f n, cs_succ]; simp

theorem words [hP : Cert.Pre_requires.Facts] {a0 a2 a3 a4 a5} {a : IVec S32 32} (h : Cert.Pre_requires.fn (F := F) a0 a a2 a3 a4 a5 = fun _ => 1#1) : Words a (cnt a) := by
  have h := congrFun h ix0
  unfold Cert.Pre_requires.fn at h
  obtain ⟨h1, h3⟩ := IntOp.andi_eq_one.1 h
  obtain ⟨h1, h2⟩ := IntOp.andi_eq_one.1 h1
  have hb : ∀ e : Fin 32, (a (ix1 e)).toNat ≤ 67584 := by
    intro e
    have g1 := Host.reduce_andi_all _ _ _ _ _ h1 (ix1 e)
    have g2 := Host.reduce_andi_all _ _ _ _ _ h2 (ix1 e)
    have g1 : IntOp.cmpi .sge (a (ix1 e)) 0#32 = 1#1 := g1
    have g2 : IntOp.cmpi .sle (a (ix1 e)) 67584#32 = 1#1 := g2
    rw [IntOp.cmpi_sge] at g1
    rw [IntOp.cmpi_sle] at g2
    have g3 : (0#32 : BitVec 32).toInt = 0 := rfl
    have g4 : (67584#32 : BitVec 32).toInt = 67584 := rfl
    have := BitVec.toInt_eq_toNat_cond (a (ix1 e))
    have := (a (ix1 e)).isLt
    rw [g3] at g1; rw [g4] at g2
    split at * <;> omega
  have hl : ∀ e, cnt a e ≤ 67584 := by
    intro e
    unfold cnt
    split
    · exact hb _
    · omega
  have hw : ∀ e : Fin 32, a (ix1 e) = BitVec.ofNat 32 (cnt a e.val) := by
    intro e
    unfold cnt
    rw [dif_pos e.isLt, BitVec.ofNat_toNat, BitVec.setWidth_eq]
  refine ⟨hw, hl, ?_⟩
  have h3 : Host.reduce IntOp.addi a (constantI shape0 32 0#32) Cert.Pre_requires.Facts.reducesTo_S32_S_d0 Cert.Pre_requires.Facts.h_S_ ix0 = 67584#32 := IntOp.cmpi_eq.1 h3
  rw [reduce_sum a (cnt a) hw, sum_cs] at h3
  have h4 := congrArg BitVec.toNat h3
  have h5 := cs_bound (cnt a) _ hl 31
  rw [BitVec.toNat_ofNat] at h4
  have h6 : (67584#32 : BitVec 32).toNat = 67584 := rfl
  omega

/-! ## The launch's tables -/

theorem planned (m : (ℓ : Loc nD τ sig) → Buf (Elt F) ℓ) {c : ℕ → ℕ} (hw : ∀ d : Dev nD, Words (m (d, (main_arg1 : Ref sig .tc))) c) (d : Dev nD) :
    Planned c (fun k => VV m d (pre0.ref k) : pre0.Contents (Elt F)) where
  e n := by
    show (VV m d main_v20 : S164.Idx → BitVec 32) (ix1 n) = _
    rw [VV_20]; exact X20_word (hw d) n
  u := by
    show (VV m d main_v22 : S1.Idx → BitVec 32) (ix1 0) = _
    rw [VV_22]; exact X22_word (hw d)
  f n := by
    show (VV m d main_v34 : S164.Idx → BitVec 32) (ix1 n) = _
    rw [VV_34]; exact X34_word (hw d) n
  s n := by
    show (VV m d main_v38 : S164.Idx → BitVec 32) (ix1 n) = _
    rw [VV_38]; exact X38_word (hw d) n
  nx n := by
    show ∃ w, (VV m d main_v63 : S164.Idx → BitVec 32) (ix1 n) = _ ∧ _
    rw [VV_63]; exact X63_word (hw d) n
  v n := by
    show (VV m d main_v71 : S164.Idx → BitVec 32) (ix1 n) = _
    rw [VV_71]; exact X71_word (hw d) n

end Cert.Proof.Experts

end
-- ==== Proof.Frames.lean ====
/-
  The experts' run from the launch's state: the program runs at every float instance, its arguments stay, its counters end at
  zero, and the output array is what the blocks leave of it.
-/
module

public import proofs.«01_k».proof.Proof.Good

@[expose] public section

noncomputable section

namespace Cert.Proof.Experts

open Cert.KernelIdeal Cert.KernelIdeal.Gen

open Idealize.ShloMosaic hiding ix0 ix1 ix2 ix3
open Idealize.ShloMosaic.TcCoe
open Idealize.ShloMosaic.ValueIdx
open Idealize.SL.Sem
open Experts.Counts

variable {F : FTy → Type} [FloatOps F]

theorem mem_rest (b : Ref sig .tc) (hs : b.isScoped = false) (h : ∀ w, (spec0 w).arr.view.ref ≠ b) : b ∈ Pipeline.restRefs sig spec0 := Pipeline.mem_restRefs_of b hs h

section
variable (m : (ℓ : Loc nD τ sig) → Buf (Elt F) ℓ) {c : ℕ → ℕ} (hw : ∀ d : Dev nD, Words (m (d, (main_arg1 : Ref sig .tc))) c)

/-- The tables' contents at the launch. -/
def tbl : pre0.Contents (Elt F) := fun k => VV m 0 (pre0.ref k)

include hw in
theorem tbl_planned : Planned c (tbl m) := planned m hw 0

/-- They are admitted. -/
def adm : (pcfg0 (F := F)).Adm := ⟨tbl m, ok (tbl_planned m hw) (hw 0).sum⟩

theorem adm_good : Good (adm m hw).1 := good (tbl_planned m hw) (hw 0).sum

theorem run_main (g : Dev nD → PrngReg) :
    θ_run defs (onTc (τ := τ) (main (F := F))) ⟨m, fun _ => 0, g⟩ (fun r =>
      (∀ d : Dev nD, r.2.mem ((d.tc : Thread nD τ).loc main_v74) = (dats (adm m hw) (adm_good m hw) (VV m) 0 d).arrAt 3 (cfg0 (adm m hw)).N
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5))
      ∧ r.2.sem = fun _ => 0) := by
  refine (θ_run defs _ _).mono (fun r h => ⟨fun d => ?_, h.2⟩) (run (adm m hw) (adm_good m hw) m g fun d k => by obtain rfl := Subsingleton.elim d 0; rfl)
  have hd := h.1 d
  refine ⟨hd.1 3, ?_, ?_, ?_, ?_, ?_, ?_⟩
  · refine (hd.1 0).trans (((dats (adm m hw) (adm_good m hw) (VV m) 0 d).arrAt_in 0 rfl _).trans ?_)
    exact VV_arg0 m d
  · exact (hd.2 main_arg1 (mem_rest main_arg1 rfl (by decide))).trans (VV_arg1 m d)
  · exact (hd.2 main_arg2 (mem_rest main_arg2 rfl (by decide))).trans (VV_arg2 m d)
  · exact (hd.2 main_arg3 (mem_rest main_arg3 rfl (by decide))).trans (VV_arg3 m d)
  · exact (hd.2 main_arg4 (mem_rest main_arg4 rfl (by decide))).trans (VV_arg4 m d)
  · exact (hd.2 main_arg5 (mem_rest main_arg5 rfl (by decide))).trans (VV_arg5 m d)

end

/-- The precondition gives the counts. -/
theorem pre_words [hP : Cert.Pre_requires.Facts] (m : (ℓ : Loc nD τ sig) → Buf (Elt F) ℓ)
    (h : ∀ d : Dev nD, Cert.Pre_requires.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) = fun _ => 1#1) (d : Dev nD) :
    Words (m (d, (main_arg1 : Ref sig .tc))) (cnt (m ((0 : Dev nD), (main_arg1 : Ref sig .tc)))) := by
  obtain rfl := Subsingleton.elim d 0
  exact words (h 0)

end Cert.Proof.Experts

end
-- ==== Proof.Twin.lean ====
/-
  The printed program and its idealized print have the same text: their bodies and their main programs are equal at every float
  instance, so a run of the one is a run of the other.
-/
module

public import proofs.«01_k».proof.Defs
public import proofs.«01_k».proof.Proof.Gen.Kernel.Launch
public import proofs.«01_k».proof.Proof.Gen.KernelIdeal.Launch

@[expose] public section

noncomputable section

namespace Cert.Proof.Twin

open Idealize.ShloMosaic Idealize.SL.Sem

variable {F : FTy → Type} [FloatOps F]

set_option maxHeartbeats 4000000 in
set_option smartUnfolding false in
theorem defs_eq : (Cert.Kernel.defs (F := F)) = Cert.KernelIdeal.defs (F := F) := rfl

set_option maxHeartbeats 4000000 in
theorem main_eq : (Cert.Kernel.main (F := F)) = Cert.KernelIdeal.main (F := F) :=
  funext fun c => (Cert.Kernel.Gen.main_chain c).trans (Eq.trans rfl (Cert.KernelIdeal.Gen.main_chain c).symm)

end Cert.Proof.Twin

end
-- ==== Proof.RefWords.lean ====
/-
  THE REFERENCE'S WORDS: at counts in range the reference's expert of a block is the natural number of Counts.lean, and
  its mask keeps exactly the rows the kernel computes.
-/
module

public import proofs.«01_k».proof.Proof.Tables
public import proofs.«01_k».proof.Proof.Gen.ReferenceIdeal.Read
public import Idealize.ShloMosaic.Lib.Routing.OpsSet

@[expose] public section

noncomputable section

namespace Cert.Proof.Experts

open Cert.ReferenceIdeal Cert.ReferenceIdeal.Gen Cert.ReferenceIdeal.Read

open Idealize.ShloMosaic hiding ix0 ix1 ix2 ix3
open Idealize.ShloMosaic.TcCoe
open Idealize.ShloMosaic.ValueIdx
open Idealize.ShloMosaic.Routing Idealize.ShloMosaic.WordCmp
open Experts.Counts

/-- A word's quotient by 128 rounded down, times 128, is not above zero where the word is at most 127 and not far below zero. -/
theorem low_word (x : BitVec 32) (b : BitVec 1) (h1 : x.toInt ≤ 127) (h2 : -1000000000 ≤ x.toInt) :
    (Scalar.select b (IntOp.subi (IntOp.divsi .host x 128#32) 1#32) (IntOp.divsi .host x 128#32) * 128#32 : BitVec 32).toInt ≤ 0 := by
  have hd : IntOp.divsi .host x 128#32 = x.sdiv 128#32 := by
    unfold IntOp.divsi
    rw [if_neg]
    rintro (h | ⟨_, h⟩)
    · exact absurd h (by decide)
    · exact absurd h (by decide)
  have hq : (x.sdiv 128#32).toInt = x.toInt.tdiv 128 := by
    rw [BitVec.toInt_sdiv, show (128#32 : BitVec 32).toInt = 128 from by decide]
    have h3 : -10000000 ≤ x.toInt.tdiv 128 := by
      have := Int.tdiv_mul_le x.toInt (b := 128) (by decide)
      have := Int.mul_tdiv_add_tmod x.toInt 128
      have := Int.tmod_lt_of_pos x.toInt (b := 128) (by decide)
      omega
    have h4 : x.toInt.tdiv 128 ≤ 10000000 := by
      have := Int.mul_tdiv_add_tmod x.toInt 128
      have := Int.lt_tmod_of_pos x.toInt (b := 128) (by decide)
      omega
    exact Int.bmod_eq_of_le (by omega) (by omega)
  have hr : -10000000 ≤ x.toInt.tdiv 128 ∧ x.toInt.tdiv 128 ≤ 0 := by
    have := Int.mul_tdiv_add_tmod x.toInt 128
    have := Int.tmod_lt_of_pos x.toInt (b := 128) (by decide)
    have := Int.lt_tmod_of_pos x.toInt (b := 128) (by decide)
    constructor
    · omega
    · by_cases h : 0 ≤ x.toInt
      · rw [Int.tdiv_eq_ediv_of_nonneg h]; omega
      · omega
  rw [hd]
  have key : ∀ y : BitVec 32, -20000000 / 2 - 1 ≤ y.toInt → y.toInt ≤ 0 → (y * 128#32 : BitVec 32).toInt ≤ 0 := fun y ha hb => by
    rw [BitVec.toInt_mul, show (128#32 : BitVec 32).toInt = 128 from by decide, Int.bmod_eq_of_le (by omega) (by omega)]
    omega
  rcases BitVec.eq_zero_or_eq_one b with rfl | rfl
  · show ((x.sdiv 128#32) * 128#32 : BitVec 32).toInt ≤ 0
    exact key _ (by omega) (by omega)
  · show ((x.sdiv 128#32 - 1#32) * 128#32 : BitVec 32).toInt ≤ 0
    have e : (x.sdiv 128#32 - 1#32).toInt = x.toInt.tdiv 128 - 1 := by
      rw [BitVec.toInt_sub, hq, show (1#32 : BitVec 32).toInt = 1 from by decide]
      exact Int.bmod_eq_of_le (by omega) (by omega)
    exact key _ (by omega) (by omega)

variable {F : FTy → Type} [FloatOps F]

section
variable {a : IVec S32 32} {c : ℕ → ℕ} (h : Words a c)
include h

theorem v5_word (e : Fin 32) : val_main_v5 (F := F) a (ix1 e) = BitVec.ofNat 32 (pd c e.val) := by
  have hb := h.le e.val
  have h3 : (addi a (broadcastInDim S32 ![] bcast_S_S32 (constantI S_ 32 511#32)) : IVec S32 32) (ix1 e)
      = BitVec.ofNat 32 (c e.val + 511) := by
    rw [addi_ap, bc0, h.word e]
    show BitVec.ofNat 32 (c e.val) + BitVec.ofNat 32 511 = _
    rw [BitVec.ofNat_add_ofNat]
  have hd := pyDiv_ap bcast_S_S32 _ _ _ h3 (show (constantI S_ 32 512#32 : IVec S_ 32) ix0 = BitVec.ofNat 32 512 from rfl) (by omega) (by omega) (by omega)
  show val_main_v3 (F := F) a (ix1 e) * (broadcastInDim S32 ![] bcast_S_S32 (constantI S_ 32 512#32) : IVec S32 32) (ix1 e) = _
  rw [bc0, show val_main_v3 (F := F) a (ix1 e) = _ from hd]
  show BitVec.ofNat 32 _ * BitVec.ofNat 32 512 = _
  rw [← BitVec.ofNat_mul]
  rfl

theorem v6_word (e : Fin 32) : val_main_v6 (F := F) a (ix1 e) = BitVec.ofNat 32 (pe c e.val) :=
  cumsum1 (by omega) (val_main_v5 (F := F) a) (pd c) (v5_word h) _ rfl reduceWindows_S32_S32_w32s1p31_0 h_S_ e

omit h in
theorem v9_word (n : Fin 164) : val_main_v9 (F := F) (ix1 n) = BitVec.ofNat 32 (n.val * 512) := X11_word n

theorem v18_word (n : Fin 164) : val_main_v18 (F := F) a (ix1 n) = BitVec.ofNat 32 (blk c n.val) := by
  have hc := reduce_count (n := 164) (m := 32) (by omega)
    (cmpi .sle (broadcastInDim S164x32 ![0, 1] bcast_S1x32_S164x32_0_1 (broadcastInDim S1x32 ![1] bcast_S32_S1x32_1 (val_main_v6 (F := F) a)))
      (broadcastInDim S164x32 ![0, 1] bcast_S164x1_S164x32_0_1 (broadcastInDim S164x1 ![0] bcast_S164_S164x1_0 (val_main_v9 (F := F))))) natLt_1_32
      reducesTo_S164x32_S164_d1 h_S_ n
    (fun e => pe c e ≤ n.val * 512) (fun e => by
      rw [cmpi_at, bcCols, bcRows, v6_word h, v9_word, WordCmp.cmpi_sle_ofNat_eq_one_iff (w := 32)]
      · have := pe_bound h e.val e.isLt; omega
      · have := n.isLt; omega)
  have hl := Nat.count_le (p := fun e => pe c e ≤ n.val * 512) (n := 32)
  have e16 : val_main_v16 (F := F) a (ix1 n) = BitVec.ofNat 32 (Nat.count (fun e => pe c e ≤ n.val * 512) 32) := hc
  have e17 : val_main_v17 (F := F) (ix1 n) = BitVec.ofNat 32 31 := rfl
  rw [val_main_v18_apply, e16, e17]
  exact minsi_word (by omega) (by omega)

theorem v25_word (n : Fin 164) : val_main_v25 (F := F) a (ix1 n) = BitVec.ofNat 32 (blk c n.val) := by
  have hb := blk_lt c n.val
  show Scalar.select (IntOp.cmpi .slt (val_main_v18 (F := F) a (ix1 n)) ((broadcastInDim S164 ![] bcast_S_S164 (constantI S_ 32 0#32) : IVec S164 32) (ix1 n)))
    (val_main_v24 (F := F) a (ix1 n)) (val_main_v18 (F := F) a (ix1 n)) = _
  rw [bc0, v18_word h, show (constantI S_ 32 0#32 : IVec S_ 32) ix0 = BitVec.ofNat 32 0 from rfl, cmpi_slt_ofNat (by omega) (by omega), select_decide, if_neg (by omega)]

theorem v26_word (n : Fin 164) : val_main_v26 (F := F) a (ix2 n (0 : Fin 1)) = BitVec.ofNat 32 (blk c n.val) := by
  rw [val_main_v26_apply]
  have e : idx_main_v26 (ix2 n (0 : Fin 1)) = ix1 n := by
    funext x; match x with | ⟨0, _⟩ => rfl
  rw [e, v25_word h]

theorem v81_word (e : Fin 32) : val_main_v81 (F := F) a (ix1 e) = BitVec.ofNat 32 (en c e.val) := by
  show (val_main_v6 (F := F) a (ix1 e) - val_main_v5 (F := F) a (ix1 e)) + a (ix1 e) = _
  rw [v6_word h, v5_word h, h.word, ofNat32_sub (pd_le c _), BitVec.ofNat_add_ofNat]
  rfl

theorem v88_word (n : Fin 164) : val_main_v88 (F := F) a (ix1 n) = BitVec.ofNat 32 (en c (blk c n.val)) := by
  refine (gather_take1 gather_S32_S164x1_S164_n_0_n_n_0_1_1 rfl rfl rfl rfl (val_main_v81 (F := F) a) (val_main_v87 (F := F) a) n
    ⟨blk c n.val, blk_lt c n.val⟩ (v26_word h n) (by omega)).trans ?_
  exact v81_word h _

/-- The row limit of a block's mask. -/
theorem v96_low (n : Fin 164) (hn : en c (blk c n.val) ≤ n.val * 512) : (val_main_v96 (F := F) a (ix1 n) : BitVec 32).toInt ≤ 0 := by
  have hb := en_le (c := c) (blk c n.val)
  have hp := pe_bound h (blk c n.val) (blk_lt c n.val)
  rw [pe_eq] at hp
  have hN := n.isLt
  have e93 : (val_main_v93 (F := F) a (ix1 n) : BitVec 32) = BitVec.ofNat 32 (en c (blk c n.val)) - BitVec.ofNat 32 (n.val * 512) + 127#32 := by
    show (val_main_v88 (F := F) a (ix1 n) - val_main_v9 (F := F) (ix1 n) : BitVec 32) + 127#32 = _
    rw [v88_word h, v9_word]
  have hi : (val_main_v93 (F := F) a (ix1 n) : BitVec 32).toInt = (en c (blk c n.val) : ℤ) - (n.val * 512 : ℕ) + 127 := by
    rw [e93, BitVec.toInt_add, BitVec.toInt_sub, StableHlo.Predicate.toInt_ofNat_small _ (by omega), StableHlo.Predicate.toInt_ofNat_small _ (by omega),
      show (127#32 : BitVec 32).toInt = 127 from by decide, Int.bmod_eq_of_le (n := (en c (blk c n.val) : ℤ) - (n.val * 512 : ℕ)) (by omega) (by omega)]
    exact Int.bmod_eq_of_le (by omega) (by omega)
  exact low_word (val_main_v93 (F := F) a (ix1 n)) (val_main_call3_v11 (F := F) a (ix1 n)) (by omega) (by omega)

theorem v96_word (n : Fin 164) (hn : n.val * 512 < en c (blk c n.val)) :
    val_main_v96 (F := F) a (ix1 n) = BitVec.ofNat 32 ((en c (blk c n.val) - n.val * 512 + 127) / 128 * 128) := by
  have hb := en_le (c := c) (blk c n.val)
  have hp := pe_bound h (blk c n.val) (blk_lt c n.val)
  rw [pe_eq] at hp
  have e93 : (val_main_v93 (F := F) a : IVec S164 32) (ix1 n) = BitVec.ofNat 32 (en c (blk c n.val) - n.val * 512 + 127) := by
    show (val_main_v88 (F := F) a (ix1 n) - val_main_v9 (F := F) (ix1 n) : BitVec 32) + BitVec.ofNat 32 127 = _
    rw [v88_word h, v9_word, ofNat32_sub (by omega), BitVec.ofNat_add_ofNat]
  have hd := pyDiv_ap bcast_S_S164 _ _ _ e93 (show (constantI S_ 32 128#32 : IVec S_ 32) ix0 = BitVec.ofNat 32 128 from rfl) (by omega) (by omega) (by omega)
  rw [val_main_v96_apply, show val_main_v94 (F := F) a (ix1 n) = _ from hd]
  show BitVec.ofNat 32 _ * BitVec.ofNat 32 128 = _
  rw [← BitVec.ofNat_mul]

/-- The rows of a block that the reference keeps are those the kernel computes. -/
theorem mask_word (n : Fin 164) (r : Fin 512) :
    val_main_v100 (F := F) a (ix2 n r) = BitVec.ofBool (decide (r.val < (vl c n.val + 127) / 128 * 128)) := by
  have hr := r.isLt
  have hb := en_le (c := c) (blk c n.val)
  have hp := pe_bound h (blk c n.val) (blk_lt c n.val)
  rw [pe_eq] at hp
  have e98 : val_main_v98 (F := F) (ix2 n r) = BitVec.ofNat 32 r.val := by
    rw [val_main_v98_apply, val_main_v91_apply]
    rfl
  have e99 : val_main_v99 (F := F) a (ix2 n r) = val_main_v96 (F := F) a (ix1 n) := by
    rw [val_main_v99_apply, val_main_v97_apply]
    refine congrArg _ (funext fun x => ?_)
    match x with | ⟨0, _⟩ => rfl
  rw [val_main_v100_apply, e98, e99]
  by_cases hn : n.val * 512 < en c (blk c n.val)
  · rw [v96_word h n hn, cmpi_slt_ofNat (by omega) (by omega)]
    refine congrArg BitVec.ofBool (decide_eq_decide.2 ?_)
    unfold vl
    omega
  · have hl := v96_low (F := F) h n (by omega)
    have hv : vl c n.val = 0 := by unfold vl; omega
    rw [hv]
    show BitVec.ofBool ((BitVec.ofNat 32 r.val).slt (val_main_v96 (F := F) a (ix1 n))) = _
    refine congrArg BitVec.ofBool ?_
    rw [BitVec.slt_eq_decide, StableHlo.Predicate.toInt_ofNat_small _ (by omega)]
    exact decide_eq_decide.2 (by omega)

end

end Cert.Proof.Experts
-- ==== Proof.Math.lean ====
/-
  One row of an expert's two layers as mathematics on the extended reals, and the kernel's four row counts read at an
  index as that mathematics.
-/
module

public import proofs.«01_k».proof.Proof.Tail
public import Idealize.ShloMosaic.Lib.Pointwise

@[expose] public section

set_option maxRecDepth 16384

noncomputable section

namespace Cert.Proof.Experts

open Cert.KernelIdeal Cert.KernelIdeal.Gen

open Idealize.ShloMosaic

/-- Column `f` of the first layer of the row `x`. -/
def layer1 (x : Fin 1024 → EReal) (A : Fin 1024 → Fin 2048 → EReal) (b : Fin 2048 → EReal) (f : Fin 2048) : EReal :=
  (∑ d : Fin 1024, x d * A d f) + b f

/-- The gate's input: the lower half of the first layer, capped at seven. -/
def gateIn (u : Fin 2048 → EReal) (k : Fin 1024) : EReal :=
  min (u ⟨k.val, by omega⟩) (Ideal.ofBits .f32 0x40E00000#32)

/-- The linear part: the upper half of the first layer, clipped to seven either way. -/
def linIn (u : Fin 2048 → EReal) (k : Fin 1024) : EReal :=
  min (Ideal.ofBits .f32 0x40E00000#32) (max (Ideal.ofBits .f32 0xC0E00000#32) (u ⟨1024 + k.val, by omega⟩))

/-- The activation: the gate times its logistic, times the linear part plus one. -/
def actv (u : Fin 2048 → EReal) (k : Fin 1024) : EReal :=
  gateIn u k * Ideal.div 1 (1 + Ideal.exp (-(Ideal.ofBits .f32 0x3FD9DB23#32 * gateIn u k))) * (linIn u k + 1)

/-- Column `f` of an expert's result for the row `x`. -/
def expertRow (x : Fin 1024 → EReal) (A : Fin 1024 → Fin 2048 → EReal) (b : Fin 2048 → EReal)
    (B : Fin 1024 → Fin 1024 → EReal) (d : Fin 1024 → EReal) (f : Fin 1024) : EReal :=
  (∑ k : Fin 1024, actv (layer1 x A b) k * B k f) + d f

/-- Row `r` of a block's rows, from the layout that keeps eight lane chunks a row. -/
def rowOf (X : S4096x128.Idx → EReal) (r : Fin 512) (d : Fin 1024) : EReal :=
  X (ix2 (⟨d.val / 128 + 8 * r.val, by omega⟩ : Fin 4096) (⟨d.val % 128, by omega⟩ : Fin 128))

theorem chunk_row (m k : ℕ) (hk : k < 8) (hm : 8 * m ≤ 4096) (X : S4096x128.Idx → EReal) (r : Fin m) (y : Fin 128) (d : Fin 1024)
    (h : d.val = 128 * k + y.val) : chunk m k hk hm X (ix2 r y) = rowOf X ⟨r.val, by omega⟩ d := by
  unfold chunk rowOf
  refine congrArg X (funext fun a => Fin.ext ?_)
  match a with
  | ⟨0, _⟩ => show k + 8 * r.val = d.val / 128 + 8 * r.val; omega
  | ⟨1, _⟩ => show y.val = d.val % 128; omega

theorem pay19_at (X : Vec Ideal S4096x128 .f32) (A : FVec Ideal S1024x2048 .bf16) (b : Vec Ideal S1x1x2048 .f32) (r : Fin 128) (f : Fin 2048) :
    k0_pay19 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b (ix2 r f)
      = layer1 (rowOf X ⟨r.val, by omega⟩) (fun d f => A (ix2 d f)) (fun f => b (ix3 0 0 f)) f := by
  pointwise [k0_pay19]
  unfold layer1
  refine congrArg₂ (· + ·) (Finset.sum_congr rfl fun x _ => congrArg (· * _) ?_) rfl
  have hx := x.isLt
  split_ifs
  all_goals exact chunk_row _ _ _ _ X r _ x (by simp only []; omega)

theorem pay20_at (X : Vec Ideal S4096x128 .f32) (A : FVec Ideal S1024x2048 .bf16) (b : Vec Ideal S1x1x2048 .f32) (r : Fin 128) (k : Fin 1024) :
    k0_pay20 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b (ix2 r k)
      = gateIn (layer1 (rowOf X ⟨r.val, by omega⟩) (fun d f => A (ix2 d f)) (fun f => b (ix3 0 0 f))) k := by
  unfold gateIn
  rw [← pay19_at X A b r]
  generalize hy : k0_pay19 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b = y
  unfold k0_pay20
  rw [hy]
  pointwise
  try rfl

theorem pay21_at (X : Vec Ideal S4096x128 .f32) (A : FVec Ideal S1024x2048 .bf16) (b : Vec Ideal S1x1x2048 .f32) (r : Fin 128) (k : Fin 1024) :
    k0_pay21 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b (ix2 r k)
      = linIn (layer1 (rowOf X ⟨r.val, by omega⟩) (fun d f => A (ix2 d f)) (fun f => b (ix3 0 0 f))) k := by
  unfold linIn
  rw [← pay19_at X A b r]
  generalize hy : k0_pay19 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b = y
  unfold k0_pay21
  rw [hy]
  pointwise
  try rfl

theorem pay22_at (X : Vec Ideal S4096x128 .f32) (A : FVec Ideal S1024x2048 .bf16) (b : Vec Ideal S1x1x2048 .f32) (r : Fin 128) (k : Fin 1024) :
    k0_pay22 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b (ix2 r k)
      = 1 + Ideal.exp (-(Ideal.ofBits .f32 0x3FD9DB23#32 * gateIn (layer1 (rowOf X ⟨r.val, by omega⟩) (fun d f => A (ix2 d f)) (fun f => b (ix3 0 0 f))) k)) := by
  rw [← pay20_at X A b r]
  generalize hy : k0_pay20 (F := Ideal) (chunk 128 0 (by omega) (by omega) X) (chunk 128 1 (by omega) (by omega) X) (chunk 128 2 (by omega) (by omega) X) (chunk 128 3 (by omega) (by omega) X) (chunk 128 4 (by omega) (by omega) X) (chunk 128 5 (by omega) (by omega) X) (chunk 128 6 (by omega) (by omega) X) (chunk 128 7 (by omega) (by omega) X) A b = y
  unfold k0_pay22
  rw [hy]
  pointwise
  simp only [zero_sub]
  try rfl

theorem pay23_at (g l s : FVec Ideal S128x1024 .f32) (z : Ideal .f32) (B : FVec Ideal S1024x1024 .bf16) (d : Vec Ideal S1x1x1024 .f32) (r : Fin 128) (f : Fin 1024) :
    k0_pay23 (F := Ideal) g l s z B d (ix2 r f)
      = (∑ k : Fin 1024, g (ix2 r k) * Ideal.div z (s (ix2 r k)) * (l (ix2 r k) + 1) * B (ix2 k f)) + d (ix3 0 0 f) := by
  pointwise [k0_pay23]
  try rfl

theorem rows128_at (X : Vec Ideal S4096x128 .f32) (A : FVec Ideal S1024x2048 .bf16) (b : Vec Ideal S1x1x2048 .f32) (B : FVec Ideal S1024x1024 .bf16)
    (d : Vec Ideal S1x1x1024 .f32) (r : Fin 128) (f : Fin 1024) :
    rows128 (F := Ideal) X A b B d (ix2 r f)
      = expertRow (rowOf X ⟨r.val, by omega⟩) (fun d f => A (ix2 d f)) (fun f => b (ix3 0 0 f)) (fun k f => B (ix2 k f))
          (fun f => d (ix3 0 0 f)) f := by
  unfold rows128 mid128
  rw [pay23_at]
  unfold expertRow actv
  refine congrArg₂ (· + ·) (Finset.sum_congr rfl fun k _ => congrArg (· * _) ?_) rfl
  exact congrArg₂ (· * ·) (congrArg₂ (· * ·) (pay20_at X A b r k) (congrArg₂ Ideal.div Ideal.ofBits_one_f32 (pay22_at X A b r k)))
    (congrArg (· + 1) (pay21_at X A b r k))

theorem pay29_at (X : Vec Ideal S4096x128 .f32) (A : FVec Ideal S1024x2048 .bf16) (b : Vec Ideal S1x1x2048 .f32) (r : Fin 256) (f : Fin 2048) :
    k0_pay29 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b (ix2 r f)
      = layer1 (rowOf X ⟨r.val, by omega⟩) (fun d f => A (ix2 d f)) (fun f => b (ix3 0 0 f)) f := by
  pointwise [k0_pay29]
  unfold layer1
  refine congrArg₂ (· + ·) (Finset.sum_congr rfl fun x _ => congrArg (· * _) ?_) rfl
  have hx := x.isLt
  split_ifs
  all_goals exact chunk_row _ _ _ _ X r _ x (by simp only []; omega)

theorem pay30_at (X : Vec Ideal S4096x128 .f32) (A : FVec Ideal S1024x2048 .bf16) (b : Vec Ideal S1x1x2048 .f32) (r : Fin 256) (k : Fin 1024) :
    k0_pay30 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b (ix2 r k)
      = gateIn (layer1 (rowOf X ⟨r.val, by omega⟩) (fun d f => A (ix2 d f)) (fun f => b (ix3 0 0 f))) k := by
  unfold gateIn
  rw [← pay29_at X A b r]
  generalize hy : k0_pay29 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b = y
  unfold k0_pay30
  rw [hy]
  pointwise
  try rfl

theorem pay31_at (X : Vec Ideal S4096x128 .f32) (A : FVec Ideal S1024x2048 .bf16) (b : Vec Ideal S1x1x2048 .f32) (r : Fin 256) (k : Fin 1024) :
    k0_pay31 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b (ix2 r k)
      = linIn (layer1 (rowOf X ⟨r.val, by omega⟩) (fun d f => A (ix2 d f)) (fun f => b (ix3 0 0 f))) k := by
  unfold linIn
  rw [← pay29_at X A b r]
  generalize hy : k0_pay29 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b = y
  unfold k0_pay31
  rw [hy]
  pointwise
  try rfl

theorem pay32_at (X : Vec Ideal S4096x128 .f32) (A : FVec Ideal S1024x2048 .bf16) (b : Vec Ideal S1x1x2048 .f32) (r : Fin 256) (k : Fin 1024) :
    k0_pay32 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b (ix2 r k)
      = 1 + Ideal.exp (-(Ideal.ofBits .f32 0x3FD9DB23#32 * gateIn (layer1 (rowOf X ⟨r.val, by omega⟩) (fun d f => A (ix2 d f)) (fun f => b (ix3 0 0 f))) k)) := by
  rw [← pay30_at X A b r]
  generalize hy : k0_pay30 (F := Ideal) (chunk 256 0 (by omega) (by omega) X) (chunk 256 1 (by omega) (by omega) X) (chunk 256 2 (by omega) (by omega) X) (chunk 256 3 (by omega) (by omega) X) (chunk 256 4 (by omega) (by omega) X) (chunk 256 5 (by omega) (by omega) X) (chunk 256 6 (by omega) (by omega) X) (chunk 256 7 (by omega) (by omega) X) A b = y
  unfold k0_pay32
  rw [hy]
  pointwise
  simp only [zero_sub]
  try rfl

theorem pay33_at (g l s : FVec Ideal S256x1024 .f32) (z : Ideal .f32) (B : FVec Ideal S1024x1024 .bf16) (d : Vec Ideal S1x1x1024 .f32) (r : Fin 256) (f : Fin 1024) :
    k0_pay33 (F := Ideal) g l s z B d (ix2 r f)
      = (∑ k : Fin 1024, g (ix2 r k) * Ideal.div z (s (ix2 r k)) * (l (ix2 r k) + 1) * B (ix2 k f)) + d (ix3 0 0 f) := by
  pointwise [k0_pay33]
  try rfl

theorem rows256_at (X : Vec Ideal S4096x128 .f32) (A : FVec Ideal S1024x2048 .bf16) (b : Vec Ideal S1x1x2048 .f32) (B : FVec Ideal S1024x1024 .bf16)
    (d : Vec Ideal S1x1x1024 .f32) (r : Fin 256) (f : Fin 1024) :
    rows256 (F := Ideal) X A b B d (ix2 r f)
      = expertRow (rowOf X ⟨r.val, by omega⟩) (fun d f => A (ix2 d f)) (fun f => b (ix3 0 0 f)) (fun k f => B (ix2 k f))
          (fun f => d (ix3 0 0 f)) f := by
  unfold rows256 mid256
  rw [pay33_at]
  unfold expertRow actv
  refine congrArg₂ (· + ·) (Finset.sum_congr rfl fun k _ => congrArg (· * _) ?_) rfl
  exact congrArg₂ (· * ·) (congrArg₂ (· * ·) (pay30_at X A b r k) (congrArg₂ Ideal.div Ideal.ofBits_one_f32 (pay32_at X A b r k)))
    (congrArg (· + 1) (pay31_at X A b r k))

theorem pay39_at (X : Vec Ideal S4096x128 .f32) (A : FVec Ideal S1024x2048 .bf16) (b : Vec Ideal S1x1x2048 .f32) (r : Fin 384) (f : Fin 2048) :
    k0_pay39 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b (ix2 r f)
      = layer1 (rowOf X ⟨r.val, by omega⟩) (fun d f => A (ix2 d f)) (fun f => b (ix3 0 0 f)) f := by
  pointwise [k0_pay39]
  unfold layer1
  refine congrArg₂ (· + ·) (Finset.sum_congr rfl fun x _ => congrArg (· * _) ?_) rfl
  have hx := x.isLt
  split_ifs
  all_goals exact chunk_row _ _ _ _ X r _ x (by simp only []; omega)

theorem pay40_at (X : Vec Ideal S4096x128 .f32) (A : FVec Ideal S1024x2048 .bf16) (b : Vec Ideal S1x1x2048 .f32) (r : Fin 384) (k : Fin 1024) :
    k0_pay40 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b (ix2 r k)
      = gateIn (layer1 (rowOf X ⟨r.val, by omega⟩) (fun d f => A (ix2 d f)) (fun f => b (ix3 0 0 f))) k := by
  unfold gateIn
  rw [← pay39_at X A b r]
  generalize hy : k0_pay39 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b = y
  unfold k0_pay40
  rw [hy]
  pointwise
  try rfl

theorem pay41_at (X : Vec Ideal S4096x128 .f32) (A : FVec Ideal S1024x2048 .bf16) (b : Vec Ideal S1x1x2048 .f32) (r : Fin 384) (k : Fin 1024) :
    k0_pay41 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b (ix2 r k)
      = linIn (layer1 (rowOf X ⟨r.val, by omega⟩) (fun d f => A (ix2 d f)) (fun f => b (ix3 0 0 f))) k := by
  unfold linIn
  rw [← pay39_at X A b r]
  generalize hy : k0_pay39 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b = y
  unfold k0_pay41
  rw [hy]
  pointwise
  try rfl

theorem pay42_at (X : Vec Ideal S4096x128 .f32) (A : FVec Ideal S1024x2048 .bf16) (b : Vec Ideal S1x1x2048 .f32) (r : Fin 384) (k : Fin 1024) :
    k0_pay42 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b (ix2 r k)
      = 1 + Ideal.exp (-(Ideal.ofBits .f32 0x3FD9DB23#32 * gateIn (layer1 (rowOf X ⟨r.val, by omega⟩) (fun d f => A (ix2 d f)) (fun f => b (ix3 0 0 f))) k)) := by
  rw [← pay40_at X A b r]
  generalize hy : k0_pay40 (F := Ideal) (chunk 384 0 (by omega) (by omega) X) (chunk 384 1 (by omega) (by omega) X) (chunk 384 2 (by omega) (by omega) X) (chunk 384 3 (by omega) (by omega) X) (chunk 384 4 (by omega) (by omega) X) (chunk 384 5 (by omega) (by omega) X) (chunk 384 6 (by omega) (by omega) X) (chunk 384 7 (by omega) (by omega) X) A b = y
  unfold k0_pay42
  rw [hy]
  pointwise
  simp only [zero_sub]
  try rfl

theorem pay43_at (g l s : FVec Ideal S384x1024 .f32) (z : Ideal .f32) (B : FVec Ideal S1024x1024 .bf16) (d : Vec Ideal S1x1x1024 .f32) (r : Fin 384) (f : Fin 1024) :
    k0_pay43 (F := Ideal) g l s z B d (ix2 r f)
      = (∑ k : Fin 1024, g (ix2 r k) * Ideal.div z (s (ix2 r k)) * (l (ix2 r k) + 1) * B (ix2 k f)) + d (ix3 0 0 f) := by
  pointwise [k0_pay43]
  try rfl

theorem rows384_at (X : Vec Ideal S4096x128 .f32) (A : FVec Ideal S1024x2048 .bf16) (b : Vec Ideal S1x1x2048 .f32) (B : FVec Ideal S1024x1024 .bf16)
    (d : Vec Ideal S1x1x1024 .f32) (r : Fin 384) (f : Fin 1024) :
    rows384 (F := Ideal) X A b B d (ix2 r f)
      = expertRow (rowOf X ⟨r.val, by omega⟩) (fun d f => A (ix2 d f)) (fun f => b (ix3 0 0 f)) (fun k f => B (ix2 k f))
          (fun f => d (ix3 0 0 f)) f := by
  unfold rows384 mid384
  rw [pay43_at]
  unfold expertRow actv
  refine congrArg₂ (· + ·) (Finset.sum_congr rfl fun k _ => congrArg (· * _) ?_) rfl
  exact congrArg₂ (· * ·) (congrArg₂ (· * ·) (pay40_at X A b r k) (congrArg₂ Ideal.div Ideal.ofBits_one_f32 (pay42_at X A b r k)))
    (congrArg (· + 1) (pay41_at X A b r k))

theorem pay49_at (X : Vec Ideal S4096x128 .f32) (A : FVec Ideal S1024x2048 .bf16) (b : Vec Ideal S1x1x2048 .f32) (r : Fin 512) (f : Fin 2048) :
    k0_pay49 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b (ix2 r f)
      = layer1 (rowOf X ⟨r.val, by omega⟩) (fun d f => A (ix2 d f)) (fun f => b (ix3 0 0 f)) f := by
  pointwise [k0_pay49]
  unfold layer1
  refine congrArg₂ (· + ·) (Finset.sum_congr rfl fun x _ => congrArg (· * _) ?_) rfl
  have hx := x.isLt
  split_ifs
  all_goals exact chunk_row _ _ _ _ X r _ x (by simp only []; omega)

theorem pay50_at (X : Vec Ideal S4096x128 .f32) (A : FVec Ideal S1024x2048 .bf16) (b : Vec Ideal S1x1x2048 .f32) (r : Fin 512) (k : Fin 1024) :
    k0_pay50 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b (ix2 r k)
      = gateIn (layer1 (rowOf X ⟨r.val, by omega⟩) (fun d f => A (ix2 d f)) (fun f => b (ix3 0 0 f))) k := by
  unfold gateIn
  rw [← pay49_at X A b r]
  generalize hy : k0_pay49 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b = y
  unfold k0_pay50
  rw [hy]
  pointwise
  try rfl

theorem pay51_at (X : Vec Ideal S4096x128 .f32) (A : FVec Ideal S1024x2048 .bf16) (b : Vec Ideal S1x1x2048 .f32) (r : Fin 512) (k : Fin 1024) :
    k0_pay51 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b (ix2 r k)
      = linIn (layer1 (rowOf X ⟨r.val, by omega⟩) (fun d f => A (ix2 d f)) (fun f => b (ix3 0 0 f))) k := by
  unfold linIn
  rw [← pay49_at X A b r]
  generalize hy : k0_pay49 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b = y
  unfold k0_pay51
  rw [hy]
  pointwise
  try rfl

theorem pay52_at (X : Vec Ideal S4096x128 .f32) (A : FVec Ideal S1024x2048 .bf16) (b : Vec Ideal S1x1x2048 .f32) (r : Fin 512) (k : Fin 1024) :
    k0_pay52 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b (ix2 r k)
      = 1 + Ideal.exp (-(Ideal.ofBits .f32 0x3FD9DB23#32 * gateIn (layer1 (rowOf X ⟨r.val, by omega⟩) (fun d f => A (ix2 d f)) (fun f => b (ix3 0 0 f))) k)) := by
  rw [← pay50_at X A b r]
  generalize hy : k0_pay50 (F := Ideal) (chunk 512 0 (by omega) (by omega) X) (chunk 512 1 (by omega) (by omega) X) (chunk 512 2 (by omega) (by omega) X) (chunk 512 3 (by omega) (by omega) X) (chunk 512 4 (by omega) (by omega) X) (chunk 512 5 (by omega) (by omega) X) (chunk 512 6 (by omega) (by omega) X) (chunk 512 7 (by omega) (by omega) X) A b = y
  unfold k0_pay52
  rw [hy]
  pointwise
  simp only [zero_sub]
  try rfl

theorem pay53_at (g l s : FVec Ideal S512x1024 .f32) (z : Ideal .f32) (B : FVec Ideal S1024x1024 .bf16) (d : Vec Ideal S1x1x1024 .f32) (r : Fin 512) (f : Fin 1024) :
    k0_pay53 (F := Ideal) g l s z B d (ix2 r f)
      = (∑ k : Fin 1024, g (ix2 r k) * Ideal.div z (s (ix2 r k)) * (l (ix2 r k) + 1) * B (ix2 k f)) + d (ix3 0 0 f) := by
  pointwise [k0_pay53]
  try rfl

theorem rows512_at (X : Vec Ideal S4096x128 .f32) (A : FVec Ideal S1024x2048 .bf16) (b : Vec Ideal S1x1x2048 .f32) (B : FVec Ideal S1024x1024 .bf16)
    (d : Vec Ideal S1x1x1024 .f32) (r : Fin 512) (f : Fin 1024) :
    rows512 (F := Ideal) X A b B d (ix2 r f)
      = expertRow (rowOf X ⟨r.val, by omega⟩) (fun d f => A (ix2 d f)) (fun f => b (ix3 0 0 f)) (fun k f => B (ix2 k f))
          (fun f => d (ix3 0 0 f)) f := by
  unfold rows512 mid512
  rw [pay53_at]
  unfold expertRow actv
  refine congrArg₂ (· + ·) (Finset.sum_congr rfl fun k _ => congrArg (· * _) ?_) rfl
  exact congrArg₂ (· * ·) (congrArg₂ (· * ·) (pay50_at X A b r k) (congrArg₂ Ideal.div Ideal.ofBits_one_f32 (pay52_at X A b r k)))
    (congrArg (· + 1) (pay51_at X A b r k))

end Cert.Proof.Experts
-- ==== Proof.RefValue.lean ====
/-
  THE REFERENCE'S VALUE: an element of its result is an expert's row where the block's mask keeps it, and zero elsewhere.
-/
module

public import proofs.«01_k».proof.Proof.RefWords
public import proofs.«01_k».proof.Proof.Math

@[expose] public section

set_option maxRecDepth 16384

noncomputable section

namespace Cert.Proof.Experts

open Cert.ReferenceIdeal Cert.ReferenceIdeal.Gen Cert.ReferenceIdeal.Read

open Idealize.ShloMosaic
open Idealize.ShloMosaic.TcCoe
open Idealize.ShloMosaic.Routing
open Experts.Counts

theorem vix1 {n : ℕ} (a : Fin n) : ValueIdx.ix1 a = ix1 a := funext fun x => match x with | ⟨0, _⟩ => rfl
theorem vix2 {n m : ℕ} (a : Fin n) (b : Fin m) : ValueIdx.ix2 a b = ix2 a b := funext fun x => match x with | ⟨0, _⟩ => rfl | ⟨1, _⟩ => rfl

/-- The dimension numbers of the take of slabs from a stack of them. -/
abbrev slabDims (N A B n : ℕ) (wf : GatherDims.WF ⟨3, ![N, A, B]⟩ (⟨2, ![n, 1]⟩ : Shape) ⟨3, ![n, A, B]⟩ [1, 2] [0] [] [0] [] 1 ![1, A, B]) :
    GatherDims ⟨3, ![N, A, B]⟩ (⟨2, ![n, 1]⟩ : Shape) ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The take of slabs: where the index word of `p` is the natural `b`, slab `p` of the result is slab `b` of the stack. -/
theorem take_slab {α : Type} {N A B n : ℕ} (wf) (x : (⟨3, ![N, A, B]⟩ : Shape).Idx → α) (idx : IVec (⟨2, ![n, 1]⟩ : Shape) 32)
    (p : Fin n) (y : Fin A) (z : Fin B) (b : Fin N) (hb : idx (ix2 p (0 : Fin 1)) = BitVec.ofNat 32 b.val) (hN : N < 2 ^ 31) :
    Host.gather (slabDims N A B n wf) x idx (ix3 p y z) = x (ix3 b y z) := by
  have hbl := b.isLt
  unfold Host.gather
  refine congrArg x (funext fun q => Fin.ext ?_)
  show (slabDims N A B n wf).start (ix3 p y z) idx q + (slabDims N A B n wf).batchCoord (ix3 p y z) q
      + (slabDims N A B n wf).offCoord (ix3 p y z) q = _
  rw [GatherDims.batchCoord_eq_zero _ _ _ List.not_mem_nil, Nat.add_zero]
  match q with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : (slabDims N A B n wf).siIdx (ix3 p y z) ⟨List.idxOf (0 : Fin 3) (slabDims N A B n wf).startIndexMap,
        List.idxOf_lt_length_iff.2 (List.mem_singleton.mpr rfl)⟩ = ix2 p (0 : Fin 1) := by
      funext r; refine Fin.ext ?_
      match r with
      | ⟨0, _⟩ => rfl
      | ⟨1, _⟩ => rfl
    show min (idx ((slabDims N A B n wf).siIdx (ix3 p y z) ⟨List.idxOf (0 : Fin 3) (slabDims N A B n wf).startIndexMap, _⟩)).toInt.toNat (N - 1) = b.val
    rw [hsi, hb, StableHlo.Predicate.toInt_ofNat_small _ (by omega)]
    omega
  | ⟨1, _⟩ => exact Nat.zero_add y.val
  | ⟨2, _⟩ => exact Nat.zero_add z.val

/-- Block `n`'s rows of the dispatched rows. -/
def rowOfBlock (x : S671744x128.Idx → EReal) (n : Fin 164) (r : Fin 512) (d : Fin 1024) : EReal :=
  x (ix2 (⟨n.val * 4096 + 8 * r.val + d.val / 128, by omega⟩ : Fin 671744) (⟨d.val % 128, by omega⟩ : Fin 128))

section
variable {a : IVec S32 32} {c : ℕ → ℕ} (h : Words a c)
variable (x0 : S671744x128.Idx → EReal) (x2 : S2x32x1024x2048.Idx → EReal) (x3 : S2x32x2048.Idx → EReal)
  (x4 : S2x32x1024x1024.Idx → EReal) (x5 : S2x32x1024.Idx → EReal)

/-- A block's expert. -/
abbrev be (c : ℕ → ℕ) (n : Fin 164) : Fin 32 := ⟨blk c n.val, blk_lt c n.val⟩

theorem v0_at (n : Fin 164) (r : Fin 512) (d : Fin 1024) : val_main_v0 (F := Ideal) x0 (ix3 n r d) = rowOfBlock x0 n r d := by
  rw [val_main_v0_apply]
  unfold rowOfBlock
  refine congrArg x0 (funext fun q => Fin.ext ?_)
  match q with
  | ⟨0, _⟩ => show ((n.val * 512 + r.val) * 1024 + d.val) / 128 = n.val * 4096 + 8 * r.val + d.val / 128; omega
  | ⟨1, _⟩ => show ((n.val * 512 + r.val) * 1024 + d.val) % 128 = d.val % 128; omega

include h

theorem v27_at (n : Fin 164) (d : Fin 1024) (f : Fin 2048) : val_main_v27 (F := Ideal) a x2 (ix3 n d f) = x2 (ix4 0 (be c n) d f) := by
  refine (take_slab gather_S32x1024x2048_S164x1_S164x1024x2048_12_0_n_n_0_1_110242048_wf (val_main_v20 (F := Ideal) x2)
    (val_main_v26 (F := Ideal) a) n d f (be c n) ((congrArg _ (vix2 n 0).symm).trans (v26_word h n)) (by omega)).trans ?_
  pointwise [val_main_v20, val_main_v19]
  try rfl

theorem v66_at (n : Fin 164) (k f : Fin 1024) : val_main_v66 (F := Ideal) a x4 (ix3 n k f) = x4 (ix4 0 (be c n) k f) := by
  refine (take_slab gather_S32x1024x1024_S164x1_S164x1024x1024_12_0_n_n_0_1_110241024_wf (val_main_v59 (F := Ideal) x4)
    (val_main_v65 (F := Ideal) a) n k f (be c n) ((congrArg _ (vix2 n 0).symm).trans (v26_word h n)) (by omega)).trans ?_
  pointwise [val_main_v59, val_main_v58]
  try rfl

theorem v37_at (n : Fin 164) (f : Fin 2048) : val_main_v37 (F := Ideal) a x3 (ix2 n f) = x3 (ix3 0 (be c n) f) := by
  refine (congrArg _ (vix2 n f).symm).trans ((gather_row gather_S32x2048_S164x1_S164x2048_1_0_n_n_0_1_12048 rfl rfl rfl rfl rfl (val_main_v30 (F := Ideal) x3)
    (val_main_v36 (F := Ideal) a) n f (be c n) (v26_word h n) (by omega)).trans ?_)
  rw [vix2]
  pointwise [val_main_v30, val_main_v29]
  try rfl

theorem v76_at (n : Fin 164) (f : Fin 1024) : val_main_v76 (F := Ideal) a x5 (ix2 n f) = x5 (ix3 0 (be c n) f) := by
  refine (congrArg _ (vix2 n f).symm).trans ((gather_row gather_S32x1024_S164x1_S164x1024_1_0_n_n_0_1_11024 rfl rfl rfl rfl rfl (val_main_v69 (F := Ideal) x5)
    (val_main_v75 (F := Ideal) a) n f (be c n) (v26_word h n) (by omega)).trans ?_)
  rw [vix2]
  pointwise [val_main_v69, val_main_v68]
  try rfl

theorem v40_at (n : Fin 164) (r : Fin 512) (f : Fin 2048) : val_main_v40 (F := Ideal) x0 a x2 x3 (ix3 n r f)
    = layer1 (rowOfBlock x0 n r) (fun d f => x2 (ix4 0 (be c n) d f)) (fun f => x3 (ix3 0 (be c n) f)) f := by
  unfold layer1
  unfold val_main_v40 val_main_v39 val_main_v38 val_main_v28
  pointwise
  rw [v37_at h]
  refine congrArg₂ (· + ·) (Finset.sum_congr rfl fun d _ => ?_) rfl
  rw [v0_at, v27_at h]

theorem v57_at (n : Fin 164) (r : Fin 512) (k : Fin 1024) : val_main_v57 (F := Ideal) x0 a x2 x3 (ix3 n r k)
    = actv (layer1 (rowOfBlock x0 n r) (fun d f => x2 (ix4 0 (be c n) d f)) (fun f => x3 (ix3 0 (be c n) f))) k := by
  have e44 : val_main_v44 (F := Ideal) x0 a x2 x3 (ix3 n r k)
      = gateIn (layer1 (rowOfBlock x0 n r) (fun d f => x2 (ix4 0 (be c n) d f)) (fun f => x3 (ix3 0 (be c n) f))) k := by
    unfold gateIn
    rw [← v40_at h]
    unfold val_main_v44 val_main_v43 val_main_v41
    generalize val_main_v40 (F := Ideal) x0 a x2 x3 = y
    pointwise [val_main_cst]
    try rfl
  have e45 : val_main_v45 (F := Ideal) x0 a x2 x3 (ix3 n r k)
      = linIn (layer1 (rowOfBlock x0 n r) (fun d f => x2 (ix4 0 (be c n) d f)) (fun f => x3 (ix3 0 (be c n) f))) k := by
    unfold linIn
    rw [← v40_at h]
    unfold val_main_v45 val_main_call2_v2 val_main_call2_v1 val_main_call2_v4 val_main_v42 val_main_call2_v0 val_main_call2_v3
    generalize val_main_v40 (F := Ideal) x0 a x2 x3 = y
    pointwise [val_main_cst_9, val_main_cst_10]
    try rfl
  unfold actv
  rw [← e44, ← e45]
  unfold val_main_v57 val_main_v54 val_main_v53 val_main_v51 val_main_v49 val_main_v48 val_main_v47 val_main_v56
  generalize val_main_v44 (F := Ideal) x0 a x2 x3 = y
  generalize val_main_v45 (F := Ideal) x0 a x2 x3 = z
  pointwise [val_main_v46, val_main_v50, val_main_v52, val_main_v55, val_main_cst_11, val_main_cst_12, val_main_cst_13, val_main_cst_14]
  try rfl

theorem v79_at (n : Fin 164) (r : Fin 512) (f : Fin 1024) : val_main_v79 (F := Ideal) x0 a x2 x3 x4 x5 (ix3 n r f)
    = expertRow (rowOfBlock x0 n r) (fun d f => x2 (ix4 0 (be c n) d f)) (fun f => x3 (ix3 0 (be c n) f)) (fun k f => x4 (ix4 0 (be c n) k f))
        (fun f => x5 (ix3 0 (be c n) f)) f := by
  unfold expertRow
  unfold val_main_v79 val_main_v78 val_main_v77 val_main_v67
  pointwise
  rw [v76_at h]
  refine congrArg₂ (· + ·) (Finset.sum_congr rfl fun k _ => ?_) rfl
  rw [v57_at h, v66_at h]

/-- An element of the reference's result. -/
theorem v103_at (R : Fin 671744) (l : Fin 128) : val_main_v103 (F := Ideal) x0 a x2 x3 x4 x5 (ix2 R l)
    = if (R.val % 4096 / 8) < (vl c (R.val / 4096) + 127) / 128 * 128 then
        expertRow (rowOfBlock x0 ⟨R.val / 4096, by omega⟩ ⟨R.val % 4096 / 8, by omega⟩) (fun d f => x2 (ix4 0 (be c ⟨R.val / 4096, by omega⟩) d f))
          (fun f => x3 (ix3 0 (be c ⟨R.val / 4096, by omega⟩) f)) (fun k f => x4 (ix4 0 (be c ⟨R.val / 4096, by omega⟩) k f))
          (fun f => x5 (ix3 0 (be c ⟨R.val / 4096, by omega⟩) f)) ⟨128 * (R.val % 8) + l.val, by omega⟩
      else 0 := by
  have hR := R.isLt
  have hl := l.isLt
  have ei : idx_main_v103 (ix2 R l) = ix3 (⟨R.val / 4096, by omega⟩ : Fin 164) (⟨R.val % 4096 / 8, by omega⟩ : Fin 512) (⟨128 * (R.val % 8) + l.val, by omega⟩ : Fin 1024) := by
    funext q
    refine Fin.ext ?_
    match q with
    | ⟨0, _⟩ => show (R.val * 128 + l.val) / 524288 = R.val / 4096; omega
    | ⟨1, _⟩ => show (R.val * 128 + l.val) / 1024 % 512 = R.val % 4096 / 8; omega
    | ⟨2, _⟩ => show (R.val * 128 + l.val) % 1024 = 128 * (R.val % 8) + l.val; omega
  have em : val_main_call4_v1 (F := Ideal) a (idx_main_v103 (ix2 R l))
      = BitVec.ofBool (decide (R.val % 4096 / 8 < (vl c (R.val / 4096) + 127) / 128 * 128)) := by
    rw [val_main_call4_v1_apply, val_main_v101_apply, ← mask_word (F := Ideal) h ⟨R.val / 4096, by omega⟩ ⟨R.val % 4096 / 8, by omega⟩, vix2, ei]
    refine congrArg _ (funext fun q => ?_)
    match q with
    | ⟨0, _⟩ => rfl
    | ⟨1, _⟩ => rfl
  have ez : val_main_call4_v2 (F := Ideal) (idx_main_v103 (ix2 R l)) = (0 : EReal) := by
    rw [val_main_call4_v2_apply]
    exact Ideal.ofBits_zero_f32
  rw [val_main_v103_apply, val_main_v102_apply, em, ez, ei, v79_at h, WordCmp.select_decide]

end

end Cert.Proof.Experts
-- ==== Proof.OutArr.lean ====
/-
  THE KERNEL'S VALUE: what the body leaves at a point, and with it the output array after the run, as the reference's value.
-/
module

public import proofs.«01_k».proof.Proof.Frames
public import proofs.«01_k».proof.Proof.RefValue
public import Idealize.ShloMosaic.Lib.Pipeline.ValueKit
public import Idealize.ShloMosaic.Lib.Pipeline.Covers

@[expose] public section

set_option maxRecDepth 16384

noncomputable section

namespace Cert.Proof.Experts

open Cert.KernelIdeal Cert.KernelIdeal.Gen

open Idealize.ShloMosaic
open Idealize.ShloMosaic.TcCoe
open Idealize.SL.Sem
open Experts.Counts

/-! ## What the body leaves, at an element -/

theorem zero_eq : zero (F := Ideal) = 0 := Ideal.ofBits_zero_f32

/-- Laid rows at an element. -/
theorem laid_at (m : ℕ) (hm : m ≤ 512) (y : (⟨2, ![m, 1024]⟩ : Shape).Idx → EReal) (g : Fin 512 → Fin 1024 → EReal)
    (hy : ∀ (r : Fin m) (f : Fin 1024), y (ix2 r f) = g ⟨r.val, by omega⟩ f) (j : Fin 4096) (l : Fin 128) :
    laid m (zero (F := Ideal)) y (ix2 j l) = if j.val / 8 < m then g ⟨j.val / 8, by omega⟩ ⟨128 * (j.val % 8) + l.val, by omega⟩ else 0 := by
  unfold laid
  by_cases h : j.val / 8 < m
  · rw [if_pos h]
    refine (dif_pos (show ((ix2 j l) 0).val / 8 < m from h)).trans ?_
    rw [vix2]
    exact hy ⟨j.val / 8, h⟩ ⟨128 * (j.val % 8) + l.val, by omega⟩
  · rw [if_neg h]
    exact (dif_neg (show ¬ ((ix2 j l) 0).val / 8 < m from h)).trans zero_eq

theorem outF_at (n : ℕ) (hn : n ≤ 512) (X : Vec Ideal S4096x128 .f32) (A : FVec Ideal S1024x2048 .bf16) (b : Vec Ideal S1x1x2048 .f32)
    (B : FVec Ideal S1024x1024 .bf16) (d : Vec Ideal S1x1x1024 .f32) (j : Fin 4096) (l : Fin 128) :
    outF (F := Ideal) n X A b B d (ix2 j l) = if j.val / 8 < (n + 127) / 128 * 128 then
      expertRow (rowOf X ⟨j.val / 8, by omega⟩) (fun d f => A (ix2 d f)) (fun f => b (ix3 0 0 f)) (fun k f => B (ix2 k f)) (fun f => d (ix3 0 0 f))
        ⟨128 * (j.val % 8) + l.val, by omega⟩ else 0 := by
  unfold outF
  by_cases h0 : n = 0
  · subst h0; simp [zero_eq]
  rw [if_neg h0]
  by_cases h1 : n ≤ 128
  · rw [if_pos h1, show (n + 127) / 128 * 128 = 128 by omega]
    exact laid_at 128 (by omega) _ (fun r f => expertRow (rowOf X r) (fun d f => A (ix2 d f)) (fun f => b (ix3 0 0 f)) (fun k f => B (ix2 k f)) (fun f => d (ix3 0 0 f)) f)
      (rows128_at X A b B d) j l
  rw [if_neg h1]
  by_cases h2 : n ≤ 256
  · rw [if_pos h2, show (n + 127) / 128 * 128 = 256 by omega]
    exact laid_at 256 (by omega) _ (fun r f => expertRow (rowOf X r) (fun d f => A (ix2 d f)) (fun f => b (ix3 0 0 f)) (fun k f => B (ix2 k f)) (fun f => d (ix3 0 0 f)) f)
      (rows256_at X A b B d) j l
  rw [if_neg h2]
  by_cases h3 : n ≤ 384
  · rw [if_pos h3, show (n + 127) / 128 * 128 = 384 by omega]
    exact laid_at 384 (by omega) _ (fun r f => expertRow (rowOf X r) (fun d f => A (ix2 d f)) (fun f => b (ix3 0 0 f)) (fun k f => B (ix2 k f)) (fun f => d (ix3 0 0 f)) f)
      (rows384_at X A b B d) j l
  rw [if_neg h3, show (n + 127) / 128 * 128 = 512 by omega]
  exact laid_at 512 (by omega) _ (fun r f => expertRow (rowOf X r) (fun d f => A (ix2 d f)) (fun f => b (ix3 0 0 f)) (fun k f => B (ix2 k f)) (fun f => d (ix3 0 0 f)) f)
      (rows512_at X A b B d) j l

/-! ## The blocks, at an element -/

section
variable (a : (pcfg0 (F := Ideal)).Adm) (V : (c : Dev nD) → (b : Ref sig .tc) → Buf (Elt Ideal) ((c.tc : Thread nD τ).loc b)) (d : Dev nD) (t : Fin (cfg0 a).N)

theorem blk0_at (k : ℕ) (hk : k < 164) (h : ((cfg0 a).win 0).index t = ![k, 0]) (j : Fin 4096) (l : Fin 128) :
    iblk a V d 0 t (ix2 j l) = V d main_arg0 (ix2 ⟨k * 4096 + j.val, by omega⟩ l) := by
  unfold iblk
  refine congrArg (V d main_arg0) (funext fun x => Fin.ext ?_)
  refine (Pipeline.Window.rect_emb_val ((cfg0 a).win 0) t (ix2 j l) x).trans ?_
  rw [h]
  match x with
  | ⟨0, _⟩ => rfl
  | ⟨1, _⟩ => exact (by omega : 0 * 128 + l.val = l.val)

theorem blk1_at (k : ℕ) (hk : k < 64) (h : ((cfg0 a).win 1).index t = ![k, 0, 0]) (f : Fin 2048) :
    iblk a V d 1 t (ix3 0 0 f) = V d main_v72 (ix3 ⟨k, hk⟩ 0 f) := by
  unfold iblk
  refine congrArg (V d main_v72) (funext fun x => Fin.ext ?_)
  refine (Pipeline.Window.rect_emb_val ((cfg0 a).win 1) t (ix3 0 0 f) x).trans ?_
  rw [h]
  match x with
  | ⟨0, _⟩ => exact (by omega : k * 1 + 0 = k)
  | ⟨1, _⟩ => rfl
  | ⟨2, _⟩ => exact (by omega : 0 * 2048 + f.val = f.val)

theorem blk2_at (k : ℕ) (hk : k < 64) (h : ((cfg0 a).win 2).index t = ![k, 0, 0]) (f : Fin 1024) :
    iblk a V d 2 t (ix3 0 0 f) = V d main_v73 (ix3 ⟨k, hk⟩ 0 f) := by
  unfold iblk
  refine congrArg (V d main_v73) (funext fun x => Fin.ext ?_)
  refine (Pipeline.Window.rect_emb_val ((cfg0 a).win 2) t (ix3 0 0 f) x).trans ?_
  rw [h]
  match x with
  | ⟨0, _⟩ => exact (by omega : k * 1 + 0 = k)
  | ⟨1, _⟩ => rfl
  | ⟨2, _⟩ => exact (by omega : 0 * 1024 + f.val = f.val)

end

theorem cast1_at (d : Dev nD) (W : Bf (F := Ideal) d (Memref.whole main_arg2)) (e : Fin 32) (k : Fin 1024) (f : Fin 2048) :
    cast1 (F := Ideal) d W e (ix2 k f) = W (ix4 0 e k f) := by
  show (src1 e).view.read (Elt Ideal) W (ix2 k f) = _
  rw [Memref.read_squeeze_slice (Memref.whole main_arg2) _ (fun _ => rfl) squeezes_S1x1x1024x2048_S1024x2048 (show S1x1x1024x2048.ShapeCasts S1024x2048 by decide) W]
  refine (shapeCast_apply _ _ (ix2 k f) (ix4 0 0 k f) ?_).trans ?_
  · rw [Shape.rowMajor_val_four, Shape.rowMajor_val_two]
    show ((0 * 1 + 0) * 1024 + k.val) * 2048 + f.val = k.val * 2048 + f.val
    omega
  · refine congrArg W (funext fun x => Fin.ext ?_)
    match x with
    | ⟨0, _⟩ => rfl
    | ⟨1, _⟩ => exact (by omega : e.val + 1 * 0 = e.val)
    | ⟨2, _⟩ => exact (by omega : 0 + 1 * k.val = k.val)
    | ⟨3, _⟩ => exact (by omega : 0 + 1 * f.val = f.val)

theorem cast2_at (d : Dev nD) (W : Bf (F := Ideal) d (Memref.whole main_arg4)) (e : Fin 32) (k f : Fin 1024) :
    cast2 (F := Ideal) d W e (ix2 k f) = W (ix4 0 e k f) := by
  show (src2 e).view.read (Elt Ideal) W (ix2 k f) = _
  rw [Memref.read_squeeze_slice (Memref.whole main_arg4) _ (fun _ => rfl) squeezes_S1x1x1024x1024_S1024x1024 (show S1x1x1024x1024.ShapeCasts S1024x1024 by decide) W]
  refine (shapeCast_apply _ _ (ix2 k f) (ix4 0 0 k f) ?_).trans ?_
  · rw [Shape.rowMajor_val_four, Shape.rowMajor_val_two]
    show ((0 * 1 + 0) * 1024 + k.val) * 1024 + f.val = k.val * 1024 + f.val
    omega
  · refine congrArg W (funext fun x => Fin.ext ?_)
    match x with
    | ⟨0, _⟩ => rfl
    | ⟨1, _⟩ => exact (by omega : e.val + 1 * 0 = e.val)
    | ⟨2, _⟩ => exact (by omega : 0 + 1 * k.val = k.val)
    | ⟨3, _⟩ => exact (by omega : 0 + 1 * f.val = f.val)

theorem bias1_at (W : S2x32x2048.Idx → EReal) (k : ℕ) (hk : k < 32) (f : Fin 2048) :
    shapeCast S64x1x2048 W shapeCasts_S2x32x2048_S64x1x2048 (ix3 ⟨k, by omega⟩ 0 f) = W (ix3 0 ⟨k, hk⟩ f) := by
  refine shapeCast_apply _ _ _ _ ?_
  rw [Shape.rowMajor_val_three, Shape.rowMajor_val_three]
  show (0 * 32 + k) * 2048 + f.val = (k * 1 + 0) * 2048 + f.val
  omega

theorem bias2_at (W : S2x32x1024.Idx → EReal) (k : ℕ) (hk : k < 32) (f : Fin 1024) :
    shapeCast S64x1x1024 W shapeCasts_S2x32x1024_S64x1x1024 (ix3 ⟨k, by omega⟩ 0 f) = W (ix3 0 ⟨k, hk⟩ f) := by
  refine shapeCast_apply _ _ _ _ ?_
  rw [Shape.rowMajor_val_three, Shape.rowMajor_val_three]
  show (0 * 32 + k) * 1024 + f.val = (k * 1 + 0) * 1024 + f.val
  omega

/-! ## A point's block is the reference's -/

section
variable (m : (ℓ : Loc nD τ sig) → Buf (Elt Ideal) ℓ) {c : ℕ → ℕ} (hw : ∀ d : Dev nD, Words (m (d, (main_arg1 : Ref sig .tc))) c) (d : Dev nD)

/-- The reference's result of the arguments the kernel runs on. -/
def want : S671744x128.Idx → EReal :=
  Cert.ReferenceIdeal.Read.val_main_v103 (F := Ideal) (m (d, (main_arg0 : Ref sig .tc))) (m (d, (main_arg1 : Ref sig .tc))) (m (d, (main_arg2 : Ref sig .tc)))
    (m (d, (main_arg3 : Ref sig .tc))) (m (d, (main_arg4 : Ref sig .tc))) (m (d, (main_arg5 : Ref sig .tc)))

theorem point (t : Fin (cfg0 (adm m hw)).N) (ht : t.val < 164) (j : Fin 4096) (l : Fin 128) :
    outB (adm m hw) (adm_good m hw) (VV m) d t (ix2 j l) = want m d (ix2 ⟨t.val * 4096 + j.val, by omega⟩ l) := by
  have hc := (hw 0).sum
  have hp := tbl_planned m hw
  have hpn : (pn (adm m hw) t).val = t.val := coords0 t
  have hv : (tV (adm m hw).1 (pn (adm m hw) t)).toNat = vl c t.val := (toNat_v hp _).trans (congrArg (vl c) hpn)
  have he : ex (adm m hw) (adm_good m hw) (pn (adm m hw) t) = be c ⟨t.val, ht⟩ :=
    Fin.ext ((toNat_e hp _).trans (congrArg (blk c) hpn))
  unfold outB want
  rw [hv, he, outF_at _ (vl_le _), v103_at (hw d)]
  have e1 : (t.val * 4096 + j.val) / 4096 = t.val := by omega
  have e2 : (t.val * 4096 + j.val) % 4096 = j.val := by omega
  have e3 : (t.val * 4096 + j.val) % 8 = j.val % 8 := by omega
  simp only [e1, e2, e3]
  refine ite_congr rfl (fun hlt => ?_) fun _ => rfl
  have hlive : vl c t.val ≠ 0 := fun h0 => by rw [h0] at hlt; omega
  have hq : t.val < q c 31 := by
    by_contra hge
    exact hlive (vl_zero c (by omega))
  have hr : rb c t.val = t.val := by unfold rb; omega
  have hX : rowOf (iblk (adm m hw) (VV m) d 0 t) ⟨j.val / 8, by omega⟩ = rowOfBlock (m (d, (main_arg0 : Ref sig .tc))) ⟨t.val, ht⟩ ⟨j.val / 8, by omega⟩ := by
    funext k
    unfold rowOf rowOfBlock
    rw [blk0_at (adm m hw) (VV m) d t t.val ht ((at_x hp hc _).trans (by rw [show ((grid0.coords t) 0).val = t.val from coords0 t, hr])), VV_arg0]
    refine congrArg (m (d, (main_arg0 : Ref sig .tc))) ?_
    refine congrArg (fun z => ix2 z _) (Fin.ext ?_)
    show t.val * 4096 + (k.val / 128 + 8 * (j.val / 8)) = t.val * 4096 + 8 * (j.val / 8) + k.val / 128
    omega
  have hA : (fun k f => cast1 d (VV m d main_arg2) (be c ⟨t.val, ht⟩) (ix2 k f)) = fun k f => m (d, (main_arg2 : Ref sig .tc)) (ix4 0 (be c ⟨t.val, ht⟩) k f) := by
    funext k f; rw [cast1_at, VV_arg2]
  have hB : (fun k f => cast2 d (VV m d main_arg4) (be c ⟨t.val, ht⟩) (ix2 k f)) = fun k f => m (d, (main_arg4 : Ref sig .tc)) (ix4 0 (be c ⟨t.val, ht⟩) k f) := by
    funext k f; rw [cast2_at, VV_arg4]
  have hi : ((grid0.coords t) 0).val = t.val := coords0 t
  have hb : (fun f => iblk (adm m hw) (VV m) d 1 t (ix3 0 0 f)) = fun f => m (d, (main_arg3 : Ref sig .tc)) (ix3 0 (be c ⟨t.val, ht⟩) f) := by
    funext f
    rw [blk1_at (adm m hw) (VV m) d t (blk c t.val) (by have := blk_lt c t.val; omega) ((at_e hp _).trans (by rw [hi])), VV_72]
    exact bias1_at _ _ (blk_lt c t.val) f
  have hd : (fun f => iblk (adm m hw) (VV m) d 2 t (ix3 0 0 f)) = fun f => m (d, (main_arg5 : Ref sig .tc)) (ix3 0 (be c ⟨t.val, ht⟩) f) := by
    funext f
    rw [blk2_at (adm m hw) (VV m) d t (blk c t.val) (by have := blk_lt c t.val; omega) ((at_e' hp _).trans (by rw [hi])), VV_73]
    exact bias2_at _ _ (blk_lt c t.val) f
  rw [hX, hA, hb, hB, hd]

/-- THE OUTPUT ARRAY after the run. -/
theorem out_eq : (dats (adm m hw) (adm_good m hw) (VV m) 0 d).arrAt 3 (cfg0 (adm m hw)).N = want m d := by
  have n0 : ((cfg0 (adm m hw)).win 3).nblk (0 : Fin 2) = 164 := by
    unfold Pipeline.Window.nblk
    exact (by decide : (671744 + 4096 - 1) / 4096 = 164)
  have n1 : ((cfg0 (adm m hw)).win 3).nblk (1 : Fin 2) = 1 := by
    unfold Pipeline.Window.nblk
    exact (by decide : (128 + 128 - 1) / 128 = 1)
  refine (dats (adm m hw) (adm_good m hw) (VV m) 0 d).arrAt_eq_of_covers 3 _ (((cfg0 (adm m hw)).win 3).covers_of_indexMap_surj rfl
    (fun x => match x with | ⟨0, _⟩ => (by decide : 0 < 4096) | ⟨1, _⟩ => (by decide : 0 < 128))
    fun β => ⟨fun x => match x with | ⟨0, _⟩ => (⟨(β (0 : Fin 2)).val, lt_of_lt_of_eq (β (0 : Fin 2)).isLt n0⟩ : Fin 164), fun x => ?_⟩) fun t hf y => ?_
  · have b0 : (β (0 : Fin 2)).val < 164 := lt_of_lt_of_eq (β (0 : Fin 2)).isLt n0
    have b1 : (β (1 : Fin 2)).val < 1 := lt_of_lt_of_eq (β (1 : Fin 2)).isLt n1
    match x with
    | ⟨0, _⟩ =>
      show (BitVec.ofNat 32 (β (0 : Fin 2)).val).toNat = (β (0 : Fin 2)).val
      rw [BitVec.toNat_ofNat, Nat.mod_eq_of_lt (by omega)]
    | ⟨1, _⟩ =>
      show 0 = (β (1 : Fin 2)).val
      omega
  · have ht : t.val < 164 := lt_of_lt_of_eq t.isLt N_0
    blk_simp
    show outB (adm m hw) (adm_good m hw) (VV m) d t y = _
    have hy : (y : S4096x128.Idx) = ix2 (y (0 : Fin 2) : Fin 4096) (y (1 : Fin 2) : Fin 128) :=
      funext fun x => match x with | ⟨0, _⟩ => rfl | ⟨1, _⟩ => rfl
    refine (congrArg (outB (adm m hw) (adm_good m hw) (VV m) d t) hy).trans ((point m hw d t ht (y (0 : Fin 2)) (y (1 : Fin 2))).trans ?_)
    have hc0 : ((grid0.coords t) 0).val = t.val := coords0 t
    have hix : ((cfg0 (adm m hw)).win 3).index t = ![t.val, 0] := by
      show cc0_transform_5 (grid0.coords t) = _
      unfold cc0_transform_5
      simp only [hc0, BitVec.toNat_ofNat]
      rw [Nat.mod_eq_of_lt (by omega)]
    refine congrArg (want m d) (funext fun x => Fin.ext ?_)
    refine Eq.trans ?_ (Pipeline.Window.rect_emb_val ((cfg0 (adm m hw)).win 3) t y x).symm
    rw [hix]
    match x with
    | ⟨0, _⟩ => rfl
    | ⟨1, _⟩ => exact (by omega : (y (1 : Fin 2)).val = 0 * 128 + (y (1 : Fin 2)).val)

end

end Cert.Proof.Experts

end
-- ==== Proof.GatesMath.lean ====
/-
  One row of the mixer's projections as mathematics on the extended reals, and the kernel's vectors of a tile read at an
  index as that mathematics.
-/
module

public import proofs.«01_k».proof.Proof.Gen.Kernel2Ideal.Value
public import Idealize.ShloMosaic.Lib.Pointwise

@[expose] public section

set_option maxRecDepth 16384

noncomputable section

namespace Cert.Proof.Gates

open Cert.Kernel2Ideal Cert.Kernel2Ideal.Gen

open Idealize.ShloMosaic

/-- The row `x` over its root mean square, times the gain `g`, modulated by the scale `s` and the shift `b`. -/
def modRow (x g s b : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + s d) + b d

/-- A row through one square of the weights. -/
def proj (h : Fin 1024 → EReal) (W : Fin 1024 → Fin 1024 → EReal) (f : Fin 1024) : EReal := ∑ k : Fin 1024, h k * W k f

/-- The logistic. -/
def lgs (z : EReal) : EReal := Ideal.div 1 (1 + Ideal.exp (-z))

/-- The first of two logits' softmax. -/
def soft (p q : EReal) : EReal := Ideal.div (Ideal.exp (p - max p q)) (Ideal.exp (p - max p q) + Ideal.exp (q - max p q))

/-- The second of two logits' softmax. -/
def soft' (p q : EReal) : EReal := Ideal.div (Ideal.exp (q - max p q)) (Ideal.exp (p - max p q) + Ideal.exp (q - max p q))

/-- The lower bound of a gate: the softmax's running sum less its first term. -/
def low (p q : EReal) : EReal := soft p q + soft' p q - soft p q

/-- A gate over its lower bound. -/
def gate (l z : EReal) : EReal := l + (1 - l) * lgs z

theorem pay6_at (P0 : Vec Ideal S256x1024 .f32) (P1 : Vec Ideal S1x1024 .f32) (P2 P3 : Vec Ideal S1x1x1024 .f32) (r : Fin 256) (d : Fin 1024) :
    k0_pay6 (F := Ideal) P0 P1 P2 P3 (ix2 r d)
      = modRow (fun k => P0 (ix2 r k)) (fun k => P1 (ix2 0 k)) (fun k => P2 (ix3 0 0 k)) (fun k => P3 (ix3 0 0 k)) d := by
  pointwise [k0_pay6]
  unfold modRow
  rfl

theorem low_at (P4 P5 : Vec Ideal S1x2x1024 .f32) (e : Fin 2) (f : Fin 1024) :
    k0_pay15 (F := Ideal) (k0_pay13 P4 P5) (k0_pay14 P4 P5) (ix2 e f) = low (P4 (ix3 0 e f)) (P5 (ix3 0 e f)) := by
  pointwise [k0_pay15, k0_pay14, k0_pay13, k0_pay12, k0_pay11, k0_pay10, k0_pay9, k0_pay8, k0_pay7]
  unfold low soft soft'
  rfl

theorem pay16_at (h : FVec Ideal S256x1024 .bf16) (W : Vec Ideal S1024x1024 .bf16) (r : Fin 256) (f : Fin 1024) :
    k0_pay16 (F := Ideal) h W (ix2 r f)
      = proj (fun k => h (ix2 r k)) (fun k f => W (ix2 k f)) f * lgs (proj (fun k => h (ix2 r k)) (fun k f => W (ix2 k f)) f) := by
  pointwise [k0_pay16]
  unfold lgs proj
  simp only [zero_sub]

theorem pay5_at (h : FVec Ideal S256x1024 .bf16) (W : Vec Ideal S1024x1024 .bf16) (r : Fin 256) (f : Fin 1024) :
    k0_pay5 (F := Ideal) h W (ix2 r f)
      = proj (fun k => h (ix2 r k)) (fun k f => W (ix2 k f)) f * lgs (proj (fun k => h (ix2 r k)) (fun k f => W (ix2 k f)) f) := by
  pointwise [k0_pay5]
  unfold lgs proj
  simp only [zero_sub]

theorem pay49_at (h : FVec Ideal S256x1024 .bf16) (W : Vec Ideal S1024x1024 .bf16) (r : Fin 256) (f : Fin 1024) :
    k0_pay49 (F := Ideal) h W (ix2 r f) = proj (fun k => h (ix2 r k)) (fun k f => W (ix2 k f)) f := by
  pointwise [k0_pay49]
  unfold proj
  rfl

theorem pay26_at (h : FVec Ideal S256x1024 .bf16) (l : FVec Ideal S2x1024 .f32) (W : Vec Ideal S1024x1024 .bf16) (r : Fin 256) (f : Fin 1024) :
    k0_pay26 (F := Ideal) h l W (ix2 r f) = gate (l (ix2 0 f)) (proj (fun k => h (ix2 r k)) (fun k f => W (ix2 k f)) f) := by
  pointwise [k0_pay26]
  unfold gate lgs proj
  simp only [zero_sub]

theorem pay39_at (h : FVec Ideal S256x1024 .bf16) (l : FVec Ideal S2x1024 .f32) (W : Vec Ideal S1024x1024 .bf16) (r : Fin 256) (f : Fin 1024) :
    k0_pay39 (F := Ideal) h (k0_pay36 l) (k0_pay37 l) (k0_pay38 W) (ix2 r f)
      = gate (l (ix2 1 f)) (proj (fun k => h (ix2 r k)) (fun k f => W (ix2 k f)) f) := by
  pointwise [k0_pay39, k0_pay36, k0_pay37, k0_pay38]
  unfold gate lgs proj
  simp only [zero_sub]

end Cert.Proof.Gates

end
-- ==== Proof.GatesRef.lean ====
/-
  THE PROJECTIONS' REFERENCE at an element: a row's modulated norm through the weights, and the gates over their lower
  bounds.
-/
module

public import proofs.«01_k».proof.Proof.GatesMath
public import proofs.«01_k».proof.Proof.Gen.Reference2Ideal.Read

@[expose] public section

set_option maxRecDepth 16384

noncomputable section

namespace Cert.Proof.Gates

open Cert.Reference2Ideal Cert.Reference2Ideal.Gen Cert.Reference2Ideal.Read

open Idealize.ShloMosaic

variable (x0 : S16896x1024.Idx → EReal) (x1 : S16x6x1024.Idx → EReal) (x2 : S1024.Idx → EReal) (x3 : S1024x5120.Idx → EReal)
  (x4 : S2x2x1024.Idx → EReal)

/-- The modulation vectors' row of a stream row: the first image's, the second's, then the text's. -/
def modRowOf (r : Fin 16896) : Fin 16 := ⟨8 + r.val / 8192, by omega⟩

/-- A row of the stream, modulated. -/
def modAt (r : Fin 16896) : Fin 1024 → EReal :=
  modRow (fun k => x0 (ix2 r k)) (fun k => x2 (ix1 k)) (fun k => x1 (ix3 (modRowOf r) 1 k)) (fun k => x1 (ix3 (modRowOf r) 0 k))

/-- A column of one of the five squares of the weights, through a row of the stream. -/
def projAt (q : ℕ) (hq : q < 5) (r : Fin 16896) (f : Fin 1024) : EReal :=
  proj (modAt x0 x1 x2 r) (fun k f => x3 (ix2 k (⟨1024 * q + f.val, by omega⟩ : Fin 5120))) f

theorem v37_at (r : Fin 16896) (d : Fin 1024) : val_main_v37 (F := Ideal) x1 (ix2 r d) = x1 (ix3 (modRowOf r) 1 d) := by
  pointwise [val_main_v37, val_main_v30, val_main_v29, val_main_v28, val_main_v33, val_main_v32, val_main_v31, val_main_v36, val_main_v35, val_main_v34]
  unfold modRowOf
  have hr := r.isLt
  split_ifs <;> refine congrArg (fun z => x1 (ix3 z _ _)) (Fin.ext ?_) <;> simp only [] <;> omega

theorem v50_at (r : Fin 16896) (d : Fin 1024) : val_main_v50 (F := Ideal) x1 (ix2 r d) = x1 (ix3 (modRowOf r) 0 d) := by
  pointwise [val_main_v50, val_main_v43, val_main_v42, val_main_v41, val_main_v46, val_main_v45, val_main_v44, val_main_v49, val_main_v48, val_main_v47]
  unfold modRowOf
  have hr := r.isLt
  split_ifs <;> refine congrArg (fun z => x1 (ix3 z _ _)) (Fin.ext ?_) <;> simp only [] <;> omega

theorem v51_at (r : Fin 16896) (d : Fin 1024) : val_main_v51 (F := Ideal) x0 x1 x2 (ix2 r d) = modAt x0 x1 x2 r d := by
  unfold modAt modRow
  beta_reduce
  rw [← v37_at x1 r d, ← v50_at x1 r d]
  unfold val_main_v51 val_main_v40 val_main_v39
  generalize val_main_v37 (F := Ideal) x1 = y
  generalize val_main_v50 (F := Ideal) x1 = z
  pointwise [val_main_v38, val_main_cst_6, val_main_v27, val_main_v26, val_main_v25, val_main_v24, val_main_v23, val_main_v22, val_main_v21, val_main_v20, val_main_cst_5, val_main_v19, val_main_v18, val_main_cst_4, val_main_v17, val_main_v16, val_main_v15, val_main_cst_3]
  try rfl

theorem v52_at (r : Fin 16896) (f : Fin 5120) : val_main_v52 (F := Ideal) x0 x1 x2 x3 (ix2 r f) = ∑ k : Fin 1024, modAt x0 x1 x2 r k * x3 (ix2 k f) := by
  unfold val_main_v52
  pointwise
  refine Finset.sum_congr rfl fun k _ => ?_
  rw [v51_at]

theorem v53_at (r : Fin 16896) (f : Fin 1024) : val_main_v53 (F := Ideal) x0 x1 x2 x3 (ix2 r f) = projAt x0 x1 x2 x3 0 (by decide) r f := by
  unfold val_main_v53
  generalize hy : val_main_v52 (F := Ideal) x0 x1 x2 x3 = y
  pointwise
  rw [← hy, v52_at]
  unfold projAt proj
  simp only [Nat.mul_zero, Nat.zero_add]

theorem v54_at (r : Fin 16896) (f : Fin 1024) : val_main_v54 (F := Ideal) x0 x1 x2 x3 (ix2 r f) = projAt x0 x1 x2 x3 1 (by decide) r f := by
  unfold val_main_v54
  generalize hy : val_main_v52 (F := Ideal) x0 x1 x2 x3 = y
  pointwise
  rw [← hy, v52_at]
  rfl

theorem v55_at (r : Fin 16896) (f : Fin 1024) : val_main_v55 (F := Ideal) x0 x1 x2 x3 (ix2 r f) = projAt x0 x1 x2 x3 2 (by decide) r f := by
  unfold val_main_v55
  generalize hy : val_main_v52 (F := Ideal) x0 x1 x2 x3 = y
  pointwise
  rw [← hy, v52_at]
  rfl

theorem v56_at (r : Fin 16896) (f : Fin 1024) : val_main_v56 (F := Ideal) x0 x1 x2 x3 (ix2 r f) = projAt x0 x1 x2 x3 3 (by decide) r f := by
  unfold val_main_v56
  generalize hy : val_main_v52 (F := Ideal) x0 x1 x2 x3 = y
  pointwise
  rw [← hy, v52_at]
  rfl

theorem v57_at (r : Fin 16896) (f : Fin 1024) : val_main_v57 (F := Ideal) x0 x1 x2 x3 (ix2 r f) = projAt x0 x1 x2 x3 4 (by decide) r f := by
  unfold val_main_v57
  generalize hy : val_main_v52 (F := Ideal) x0 x1 x2 x3 = y
  pointwise
  rw [← hy, v52_at]
  rfl

theorem v2_at (e : Fin 2) (f : Fin 1024) : val_main_v2 (F := Ideal) x4 (ix2 e f) = max (x4 (ix3 0 e f)) (x4 (ix3 1 e f)) := by
  pointwise [val_main_v2, val_main_v1, val_main_cst_0, val_main_v0, val_main_cst]
  have hb : Ideal.ofBits .f32 0xFF800000#32 = ⊥ := by
    simp [Ideal.ofBits, Ideal.ieee]
  rw [hb]
  have hu : (Finset.univ : Finset (Fin 2)) = {0, 1} := rfl
  rw [hu]
  simp

theorem v14_at (e : Fin 2) (f : Fin 1024) : val_main_v14 (F := Ideal) x4 (ix2 e f) = low (x4 (ix3 0 e f)) (x4 (ix3 1 e f)) := by
  unfold low soft soft'
  rw [← v2_at]
  unfold val_main_v14 val_main_v11 val_main_v13 val_main_v12 val_main_v10 val_main_v9 val_main_v8 val_main_v7 val_main_v6 val_main_v5 val_main_v4 val_main_v3
  generalize val_main_v2 (F := Ideal) x4 = y
  pointwise [val_main_cst_1, val_main_cst_2]
  simp only [Fin.sum_univ_two]
  try rfl

/-! ## The five results at an element -/

theorem v94_at (r : Fin 16896) (f : Fin 1024) : val_main_v94 (F := Ideal) x0 x1 x2 x3 (ix2 r f)
    = projAt x0 x1 x2 x3 0 (by decide) r f * lgs (projAt x0 x1 x2 x3 0 (by decide) r f) := by
  unfold lgs
  rw [← v53_at]
  unfold val_main_v94 val_main_call0_v5 val_main_call0_v3 val_main_call0_v1 val_main_call0_v0
  generalize val_main_v53 (F := Ideal) x0 x1 x2 x3 = y
  pointwise [val_main_call0_v4, val_main_call0_v2, val_main_call0_cst, val_main_call0_cst_0]
  try rfl

theorem v104_at (r : Fin 16896) (f : Fin 1024) : val_main_v104 (F := Ideal) x0 x1 x2 x3 (ix2 r f)
    = projAt x0 x1 x2 x3 4 (by decide) r f * lgs (projAt x0 x1 x2 x3 4 (by decide) r f) := by
  unfold lgs
  rw [← v57_at]
  unfold val_main_v104 val_main_v103 val_main_call1_v5 val_main_call1_v3 val_main_call1_v1 val_main_call1_v0
  generalize val_main_v57 (F := Ideal) x0 x1 x2 x3 = y
  pointwise [val_main_call1_v4, val_main_call1_v2, val_main_call1_cst, val_main_call1_cst_0]
  try rfl

theorem v75_at (r : Fin 16896) (f : Fin 1024) : val_main_v75 (F := Ideal) x0 x1 x2 x3 x4 (ix2 r f)
    = gate (low (x4 (ix3 0 0 f)) (x4 (ix3 1 0 f))) (projAt x0 x1 x2 x3 1 (by decide) r f) := by
  unfold gate lgs
  rw [← v54_at, ← v14_at]
  unfold val_main_v75 val_main_v74 val_main_v73 val_main_v59 val_main_v58 val_main_v72 val_main_v71 val_main_v70 val_main_v63 val_main_v61 val_main_v60 val_main_v69 val_main_v67 val_main_v65 val_main_v64
  generalize val_main_v54 (F := Ideal) x0 x1 x2 x3 = y
  generalize val_main_v14 (F := Ideal) x4 = z
  pointwise [val_main_v62, val_main_cst_7, val_main_v66, val_main_cst_8, val_main_v68, val_main_cst_9]
  try rfl

theorem v93_at (r : Fin 16896) (f : Fin 1024) : val_main_v93 (F := Ideal) x0 x1 x2 x3 x4 (ix2 r f)
    = gate (low (x4 (ix3 0 1 f)) (x4 (ix3 1 1 f))) (projAt x0 x1 x2 x3 2 (by decide) r f) := by
  unfold gate lgs
  rw [← v55_at, ← v14_at]
  unfold val_main_v93 val_main_v92 val_main_v91 val_main_v77 val_main_v76 val_main_v90 val_main_v89 val_main_v88 val_main_v81 val_main_v79 val_main_v78 val_main_v87 val_main_v85 val_main_v83 val_main_v82
  generalize val_main_v55 (F := Ideal) x0 x1 x2 x3 = y
  generalize val_main_v14 (F := Ideal) x4 = z
  pointwise [val_main_v80, val_main_cst_10, val_main_v84, val_main_cst_11, val_main_v86, val_main_cst_12]
  try rfl

theorem heads_at (y : S16896x1024.Idx → EReal) (h : Fin 8) (r : Fin 16896) (l : Fin 128) :
    transpose S8x16896x128 [1, 0, 2] (shapeCast S16896x8x128 y shapeCasts_S16896x1024_S16896x8x128) transposes_S16896x8x128_S8x16896x128_1_0_2 (ix3 h r l)
      = y (ix2 r (⟨h.val * 128 + l.val, by omega⟩ : Fin 1024)) := by
  pointwise

end Cert.Proof.Gates

end
-- ==== Proof.GatesArr.lean ====
/-
  THE PROJECTIONS' VALUE: what the body leaves at a tile, and with it the five output arrays after the run, as the
  reference's values.
-/
module

public import proofs.«01_k».proof.Proof.GatesRef
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.Proof.Gates

open Cert.Kernel2Ideal Cert.Kernel2Ideal.Gen Cert.Kernel2Ideal.Value

open Idealize.ShloMosaic
open Idealize.ShloMosaic.TcCoe
open Idealize.SL.Sem

section
variable (m : (ℓ : Loc nD τ sig) → Buf (Elt Ideal) ℓ) (c : Dev nD)

/-- The arguments as the launch has them. -/
abbrev a0 : S16896x1024.Idx → EReal := m (c, (main_arg0 : Ref sig .tc))
abbrev a1 : S16x6x1024.Idx → EReal := m (c, (main_arg1 : Ref sig .tc))
abbrev a2 : S1024.Idx → EReal := m (c, (main_arg2 : Ref sig .tc))
abbrev a3 : S1024x5120.Idx → EReal := m (c, (main_arg3 : Ref sig .tc))
abbrev a4 : S2x2x1024.Idx → EReal := m (c, (main_arg4 : Ref sig .tc))

/-! ## The region's arrays and the blocks, at an element -/

theorem V_gain : V m c main_v0 = shapeCast S1x1024 (a2 m c) shapeCasts_S1024_S1x1024 := by
  unfold V
  after_reads_simp
  rfl

theorem V_weights : V m c main_v1 = (a3 m c : S1024x5120.Idx → EReal) := by
  unfold V
  after_reads_simp
  rfl

theorem idx0 : ∀ t : Fin grid0.N, cc0_transform_0 (grid0.coords t) = ![t.val, 0] := by decide +kernel
theorem idx1 : ∀ t : Fin grid0.N, cc0_transform_1 (grid0.coords t) = ![8 + t.val / 32, 0, 0] := by decide +kernel
theorem idx2 : ∀ t : Fin grid0.N, cc0_transform_2 (grid0.coords t) = ![0, 0] := by decide +kernel
theorem idx3 : ∀ t : Fin grid0.N, cc0_transform_3 (grid0.coords t) = ![0, 0] := by decide +kernel
theorem idx4 : ∀ t : Fin grid0.N, cc0_transform_4 (grid0.coords t) = ![0, 0, 0] := by decide +kernel
theorem idx5 : ∀ t : Fin grid0.N, cc0_transform_5 (grid0.coords t) = ![0, t.val, 0] := by decide +kernel
theorem idx6 : ∀ t : Fin grid0.N, cc0_transform_6 (grid0.coords t) = ![0, t.val, 0] := by decide +kernel
theorem idx7 : ∀ t : Fin grid0.N, cc0_transform_7 (grid0.coords t) = ![0, t.val, 0] := by decide +kernel
theorem idx8 : ∀ t : Fin grid0.N, cc0_transform_8 (grid0.coords t) = ![0, t.val, 0] := by decide +kernel
theorem idx9 : ∀ t : Fin grid0.N, cc0_transform_9 (grid0.coords t) = ![t.val, 0] := by decide +kernel

variable (t : Fin cfg0.N) (ht : t.val < 66)
include ht

/-- A row of the tile `t`, as a row of the stream. -/
abbrev rowAt (r : Fin 256) : Fin 16896 := ⟨t.val * 256 + r.val, by omega⟩

theorem blk0_at (r : Fin 256) (k : Fin 1024) : iblk m c 0 t (ix2 r k) = a0 m c (ix2 (rowAt t ht r) k) := by
  unfold iblk
  refine (congrArg (V m c main_arg0) (funext fun x => Fin.ext ?_)).trans (congrFun (V_main_arg0 m c) (ix2 (rowAt t ht r) k))
  refine (Pipeline.Window.rect_emb_val (cfg0.win 0) t (ix2 r k) x).trans ?_
  rw [show (cfg0.win 0).index t = ![t.val, 0] from idx0 t]
  match x with
  | ⟨0, _⟩ => rfl
  | ⟨1, _⟩ => exact (by omega : 0 * 1024 + k.val = k.val)

theorem blk1_at (j : Fin 6) (k : Fin 1024) : iblk m c 1 t (ix3 0 j k) = a1 m c (ix3 (⟨8 + t.val / 32, by omega⟩ : Fin 16) j k) := by
  unfold iblk
  refine (congrArg (V m c main_arg1) (funext fun x => Fin.ext ?_)).trans (congrFun (V_main_arg1 m c) (ix3 (⟨8 + t.val / 32, by omega⟩ : Fin 16) j k))
  refine (Pipeline.Window.rect_emb_val (cfg0.win 1) t (ix3 0 j k) x).trans ?_
  rw [show (cfg0.win 1).index t = ![8 + t.val / 32, 0, 0] from idx1 t]
  match x with
  | ⟨0, _⟩ => exact (by omega : (8 + t.val / 32) * 1 + 0 = 8 + t.val / 32)
  | ⟨1, _⟩ => exact (by omega : 0 * 6 + j.val = j.val)
  | ⟨2, _⟩ => exact (by omega : 0 * 1024 + k.val = k.val)

omit ht in
theorem blk2_at (k : Fin 1024) : iblk m c 2 t (ix2 0 k) = a2 m c (ix1 k) := by
  unfold iblk
  refine (congrArg (V m c main_v0) (funext fun x => Fin.ext ?_)).trans ((congrFun (V_gain m c) (ix2 0 k)).trans ?_)
  · refine (Pipeline.Window.rect_emb_val (cfg0.win 2) t (ix2 0 k) x).trans ?_
    rw [show (cfg0.win 2).index t = ![0, 0] from idx2 t]
    match x with
    | ⟨0, _⟩ => rfl
    | ⟨1, _⟩ => exact (by omega : 0 * 1024 + k.val = k.val)
  · pointwise
    try rfl

omit ht in
theorem blk3_at (k : Fin 1024) (f : Fin 5120) : iblk m c 3 t (ix2 k f) = a3 m c (ix2 k f) := by
  unfold iblk
  refine (congrArg (V m c main_v1) (funext fun x => Fin.ext ?_)).trans (congrFun (V_weights m c) (ix2 k f))
  refine (Pipeline.Window.rect_emb_val (cfg0.win 3) t (ix2 k f) x).trans ?_
  rw [show (cfg0.win 3).index t = ![0, 0] from idx3 t]
  match x with
  | ⟨0, _⟩ => exact (by omega : 0 * 1024 + k.val = k.val)
  | ⟨1, _⟩ => exact (by omega : 0 * 5120 + f.val = f.val)

omit ht in
theorem blk4_at (i e : Fin 2) (f : Fin 1024) : iblk m c 4 t (ix3 i e f) = a4 m c (ix3 i e f) := by
  unfold iblk
  refine (congrArg (V m c main_arg4) (funext fun x => Fin.ext ?_)).trans (congrFun (V_main_arg4 m c) (ix3 i e f))
  refine (Pipeline.Window.rect_emb_val (cfg0.win 4) t (ix3 i e f) x).trans ?_
  rw [show (cfg0.win 4).index t = ![0, 0, 0] from idx4 t]
  match x with
  | ⟨0, _⟩ => exact (by omega : 0 * 2 + i.val = i.val)
  | ⟨1, _⟩ => exact (by omega : 0 * 2 + e.val = e.val)
  | ⟨2, _⟩ => exact (by omega : 0 * 1024 + f.val = f.val)

/-! ## The body's vectors at an element -/

/-- A row of the tile, modulated. -/
theorem row_eq (r : Fin 256) :
    (fun k => k0_pay6 (F := Ideal) (View.ld (iblk m c 0 t) r0_0) (View.ld (iblk m c 2 t) r0_1) (View.ld (iblk m c 1 t) r0_2) (View.ld (iblk m c 1 t) r0_3) (ix2 r k))
      = modAt (a0 m c) (a1 m c) (a2 m c) (rowAt t ht r) := by
  funext d
  refine (pay6_at _ _ _ _ r d).trans ?_
  unfold modAt
  have e0 : (fun k => View.ld (iblk m c 0 t) r0_0 (ix2 r k)) = fun k => a0 m c (ix2 (rowAt t ht r) k) := by
    funext k
    refine Eq.trans (congrArg (iblk m c 0 t) (funext fun x => Fin.ext ?_)) (blk0_at m c t ht r k)
    match x with
    | ⟨0, _⟩ => exact (by omega : 0 + 1 * r.val = r.val)
    | ⟨1, _⟩ => exact (by omega : 0 + 1 * k.val = k.val)
  have e1 : (fun k => View.ld (iblk m c 2 t) r0_1 (ix2 0 k)) = fun k => a2 m c (ix1 k) := by
    funext k
    refine Eq.trans (congrArg (iblk m c 2 t) (funext fun x => Fin.ext ?_)) (blk2_at m c t k)
    match x with
    | ⟨0, _⟩ => rfl
    | ⟨1, _⟩ => exact (by omega : 0 + 1 * k.val = k.val)
  have hm : modRowOf (rowAt t ht r) = (⟨8 + t.val / 32, by omega⟩ : Fin 16) := Fin.ext (by show 8 + (t.val * 256 + r.val) / 8192 = 8 + t.val / 32; omega)
  have e2 : (fun k => View.ld (iblk m c 1 t) r0_2 (ix3 0 0 k)) = fun k => a1 m c (ix3 (modRowOf (rowAt t ht r)) 1 k) := by
    funext k
    rw [hm]
    refine Eq.trans (congrArg (iblk m c 1 t) (funext fun x => Fin.ext ?_)) (blk1_at m c t ht 1 k)
    match x with
    | ⟨0, _⟩ => rfl
    | ⟨1, _⟩ => rfl
    | ⟨2, _⟩ => exact (by omega : 0 + 1 * k.val = k.val)
  have e3 : (fun k => View.ld (iblk m c 1 t) r0_3 (ix3 0 0 k)) = fun k => a1 m c (ix3 (modRowOf (rowAt t ht r)) 0 k) := by
    funext k
    rw [hm]
    refine Eq.trans (congrArg (iblk m c 1 t) (funext fun x => Fin.ext ?_)) (blk1_at m c t ht 0 k)
    match x with
    | ⟨0, _⟩ => rfl
    | ⟨1, _⟩ => rfl
    | ⟨2, _⟩ => exact (by omega : 0 + 1 * k.val = k.val)
  exact congrFun (congr (congr (congr (congrArg modRow e0) e1) e2) e3) d

omit ht in
theorem sq0_eq : (fun k f => View.ld (iblk m c 3 t) r0_6 (ix2 k f)) = fun (k f : Fin 1024) => a3 m c (ix2 k (⟨1024 * 0 + f.val, by omega⟩ : Fin 5120)) := by
  funext k f
  refine Eq.trans (congrArg (iblk m c 3 t) (funext fun x => Fin.ext ?_)) (blk3_at m c t k ⟨1024 * 0 + f.val, by omega⟩)
  match x with
  | ⟨0, _⟩ => exact (by omega : 0 + 1 * k.val = k.val)
  | ⟨1, _⟩ => exact (by omega : 0 + 1 * f.val = 1024 * 0 + f.val)

omit ht in
theorem sq1_eq : (fun k f => View.ld (iblk m c 3 t) r0_15 (ix2 k f)) = fun (k f : Fin 1024) => a3 m c (ix2 k (⟨1024 * 1 + f.val, by omega⟩ : Fin 5120)) := by
  funext k f
  refine Eq.trans (congrArg (iblk m c 3 t) (funext fun x => Fin.ext ?_)) (blk3_at m c t k ⟨1024 * 1 + f.val, by omega⟩)
  match x with
  | ⟨0, _⟩ => exact (by omega : 0 + 1 * k.val = k.val)
  | ⟨1, _⟩ => exact (by omega : 1024 + 1 * f.val = 1024 * 1 + f.val)

omit ht in
theorem sq2_eq : (fun k f => View.ld (iblk m c 3 t) r0_16 (ix2 k f)) = fun (k f : Fin 1024) => a3 m c (ix2 k (⟨1024 * 2 + f.val, by omega⟩ : Fin 5120)) := by
  funext k f
  refine Eq.trans (congrArg (iblk m c 3 t) (funext fun x => Fin.ext ?_)) (blk3_at m c t k ⟨1024 * 2 + f.val, by omega⟩)
  match x with
  | ⟨0, _⟩ => exact (by omega : 0 + 1 * k.val = k.val)
  | ⟨1, _⟩ => exact (by omega : 2048 + 1 * f.val = 1024 * 2 + f.val)

omit ht in
theorem sq3_eq : (fun k f => View.ld (iblk m c 3 t) r0_17 (ix2 k f)) = fun (k f : Fin 1024) => a3 m c (ix2 k (⟨1024 * 3 + f.val, by omega⟩ : Fin 5120)) := by
  funext k f
  refine Eq.trans (congrArg (iblk m c 3 t) (funext fun x => Fin.ext ?_)) (blk3_at m c t k ⟨1024 * 3 + f.val, by omega⟩)
  match x with
  | ⟨0, _⟩ => exact (by omega : 0 + 1 * k.val = k.val)
  | ⟨1, _⟩ => exact (by omega : 3072 + 1 * f.val = 1024 * 3 + f.val)

omit ht in
theorem sq4_eq : (fun k f => View.ld (iblk m c 3 t) r0_18 (ix2 k f)) = fun (k f : Fin 1024) => a3 m c (ix2 k (⟨1024 * 4 + f.val, by omega⟩ : Fin 5120)) := by
  funext k f
  refine Eq.trans (congrArg (iblk m c 3 t) (funext fun x => Fin.ext ?_)) (blk3_at m c t k ⟨1024 * 4 + f.val, by omega⟩)
  match x with
  | ⟨0, _⟩ => exact (by omega : 0 + 1 * k.val = k.val)
  | ⟨1, _⟩ => exact (by omega : 4096 + 1 * f.val = 1024 * 4 + f.val)

omit ht in
/-- The lower bound of a direction's gate. -/
theorem bound_eq (e : Fin 2) (f : Fin 1024) :
    k0_pay15 (F := Ideal) (k0_pay13 (View.ld (iblk m c 4 t) r0_4) (View.ld (iblk m c 4 t) r0_5)) (k0_pay14 (View.ld (iblk m c 4 t) r0_4) (View.ld (iblk m c 4 t) r0_5)) (ix2 e f)
      = low (a4 m c (ix3 0 e f)) (a4 m c (ix3 1 e f)) := by
  refine (low_at _ _ e f).trans (congrArg₂ low ?_ ?_)
  · refine Eq.trans (congrArg (iblk m c 4 t) (funext fun x => Fin.ext ?_)) (blk4_at m c t 0 e f)
    match x with
    | ⟨0, _⟩ => rfl
    | ⟨1, _⟩ => exact (by omega : 0 + 1 * e.val = e.val)
    | ⟨2, _⟩ => exact (by omega : 0 + 1 * f.val = f.val)
  · refine Eq.trans (congrArg (iblk m c 4 t) (funext fun x => Fin.ext ?_)) (blk4_at m c t 1 e f)
    match x with
    | ⟨0, _⟩ => rfl
    | ⟨1, _⟩ => exact (by omega : 0 + 1 * e.val = e.val)
    | ⟨2, _⟩ => exact (by omega : 0 + 1 * f.val = f.val)

/-! ## What the body leaves, at an element -/

theorem out5_at (h : Fin 8) (r : Fin 256) (l : Fin 128) :
    out0_5 (F := Ideal) (iblk m c 0 t) (iblk m c 1 t) (iblk m c 2 t) (iblk m c 3 t) (iblk m c 4 t) (ix3 h r l)
      = projAt (a0 m c) (a1 m c) (a2 m c) (a3 m c) 0 (by decide) (rowAt t ht r) (⟨h.val * 128 + l.val, by omega⟩ : Fin 1024) * lgs (projAt (a0 m c) (a1 m c) (a2 m c) (a3 m c) 0 (by decide) (rowAt t ht r) (⟨h.val * 128 + l.val, by omega⟩ : Fin 1024)) := by
  refine (canon5_eq (F := Ideal) (View.ld (iblk m c 0 t) r0_0) (View.ld (iblk m c 2 t) r0_1) (View.ld (iblk m c 1 t) r0_2) (View.ld (iblk m c 1 t) r0_3)  (View.ld (iblk m c 3 t) r0_6) (ix3 h r l)).trans ?_
  have hix : ix5_0 (ix3 h r l) = ix2 r (⟨h.val * 128 + l.val, by omega⟩ : Fin 1024) := funext fun x => match x with | ⟨0, _⟩ => rfl | ⟨1, _⟩ => rfl
  show k0_pay16 (k0_pay6 (F := Ideal) (View.ld (iblk m c 0 t) r0_0) (View.ld (iblk m c 2 t) r0_1) (View.ld (iblk m c 1 t) r0_2) (View.ld (iblk m c 1 t) r0_3)) (View.ld (iblk m c 3 t) r0_6) (ix5_0 (ix3 h r l)) = _
  rw [hix]
  refine (pay16_at _ _ r _).trans ?_
  exact congrArg (fun p : Fin 1024 → EReal => p _ * lgs (p _)) (congr (congrArg proj (row_eq m c t ht r)) (sq0_eq m c t))

theorem out6_at (h : Fin 8) (r : Fin 256) (l : Fin 128) :
    out0_6 (F := Ideal) (iblk m c 0 t) (iblk m c 1 t) (iblk m c 2 t) (iblk m c 3 t) (iblk m c 4 t) (ix3 h r l)
      = gate (low (a4 m c (ix3 0 0 (⟨h.val * 128 + l.val, by omega⟩ : Fin 1024))) (a4 m c (ix3 1 0 (⟨h.val * 128 + l.val, by omega⟩ : Fin 1024)))) (projAt (a0 m c) (a1 m c) (a2 m c) (a3 m c) 1 (by decide) (rowAt t ht r) (⟨h.val * 128 + l.val, by omega⟩ : Fin 1024)) := by
  refine (canon6_eq (F := Ideal) (View.ld (iblk m c 0 t) r0_0) (View.ld (iblk m c 2 t) r0_1) (View.ld (iblk m c 1 t) r0_2) (View.ld (iblk m c 1 t) r0_3) (View.ld (iblk m c 4 t) r0_4) (View.ld (iblk m c 4 t) r0_5) (View.ld (iblk m c 3 t) r0_15) (ix3 h r l)).trans ?_
  have hix : ix6_0 (ix3 h r l) = ix2 r (⟨h.val * 128 + l.val, by omega⟩ : Fin 1024) := funext fun x => match x with | ⟨0, _⟩ => rfl | ⟨1, _⟩ => rfl
  show k0_pay26 (k0_pay6 (F := Ideal) (View.ld (iblk m c 0 t) r0_0) (View.ld (iblk m c 2 t) r0_1) (View.ld (iblk m c 1 t) r0_2) (View.ld (iblk m c 1 t) r0_3)) (k0_pay15 (k0_pay13 (View.ld (iblk m c 4 t) r0_4) (View.ld (iblk m c 4 t) r0_5)) (k0_pay14 (View.ld (iblk m c 4 t) r0_4) (View.ld (iblk m c 4 t) r0_5))) (View.ld (iblk m c 3 t) r0_15) (ix6_0 (ix3 h r l)) = _
  rw [hix]
  refine (pay26_at _ _ _ r _).trans ?_
  exact congrArg₂ gate (bound_eq m c t 0 _) (congrFun (congr (congrArg proj (row_eq m c t ht r)) (sq1_eq m c t)) _)

theorem out7_at (h : Fin 8) (r : Fin 256) (l : Fin 128) :
    out0_7 (F := Ideal) (iblk m c 0 t) (iblk m c 1 t) (iblk m c 2 t) (iblk m c 3 t) (iblk m c 4 t) (ix3 h r l)
      = gate (low (a4 m c (ix3 0 1 (⟨h.val * 128 + l.val, by omega⟩ : Fin 1024))) (a4 m c (ix3 1 1 (⟨h.val * 128 + l.val, by omega⟩ : Fin 1024)))) (projAt (a0 m c) (a1 m c) (a2 m c) (a3 m c) 2 (by decide) (rowAt t ht r) (⟨h.val * 128 + l.val, by omega⟩ : Fin 1024)) := by
  refine (canon7_eq (F := Ideal) (View.ld (iblk m c 0 t) r0_0) (View.ld (iblk m c 2 t) r0_1) (View.ld (iblk m c 1 t) r0_2) (View.ld (iblk m c 1 t) r0_3) (View.ld (iblk m c 4 t) r0_4) (View.ld (iblk m c 4 t) r0_5) (View.ld (iblk m c 3 t) r0_16) (ix3 h r l)).trans ?_
  have hix : ix7_0 (ix3 h r l) = ix2 r (⟨h.val * 128 + l.val, by omega⟩ : Fin 1024) := funext fun x => match x with | ⟨0, _⟩ => rfl | ⟨1, _⟩ => rfl
  show k0_pay39 (k0_pay6 (F := Ideal) (View.ld (iblk m c 0 t) r0_0) (View.ld (iblk m c 2 t) r0_1) (View.ld (iblk m c 1 t) r0_2) (View.ld (iblk m c 1 t) r0_3)) (k0_pay36 (k0_pay15 (k0_pay13 (View.ld (iblk m c 4 t) r0_4) (View.ld (iblk m c 4 t) r0_5)) (k0_pay14 (View.ld (iblk m c 4 t) r0_4) (View.ld (iblk m c 4 t) r0_5)))) (k0_pay37 (k0_pay15 (k0_pay13 (View.ld (iblk m c 4 t) r0_4) (View.ld (iblk m c 4 t) r0_5)) (k0_pay14 (View.ld (iblk m c 4 t) r0_4) (View.ld (iblk m c 4 t) r0_5)))) (k0_pay38 (View.ld (iblk m c 3 t) r0_16)) (ix7_0 (ix3 h r l)) = _
  rw [hix]
  refine (pay39_at _ _ _ r _).trans ?_
  exact congrArg₂ gate (bound_eq m c t 1 _) (congrFun (congr (congrArg proj (row_eq m c t ht r)) (sq2_eq m c t)) _)

theorem out8_at (h : Fin 8) (r : Fin 256) (l : Fin 128) :
    out0_8 (F := Ideal) (iblk m c 0 t) (iblk m c 1 t) (iblk m c 2 t) (iblk m c 3 t) (iblk m c 4 t) (ix3 h r l)
      = projAt (a0 m c) (a1 m c) (a2 m c) (a3 m c) 3 (by decide) (rowAt t ht r) (⟨h.val * 128 + l.val, by omega⟩ : Fin 1024) := by
  refine (canon8_eq (F := Ideal) (View.ld (iblk m c 0 t) r0_0) (View.ld (iblk m c 2 t) r0_1) (View.ld (iblk m c 1 t) r0_2) (View.ld (iblk m c 1 t) r0_3)  (View.ld (iblk m c 3 t) r0_17) (ix3 h r l)).trans ?_
  have hix : ix8_0 (ix3 h r l) = ix2 r (⟨h.val * 128 + l.val, by omega⟩ : Fin 1024) := funext fun x => match x with | ⟨0, _⟩ => rfl | ⟨1, _⟩ => rfl
  show k0_pay49 (k0_pay6 (F := Ideal) (View.ld (iblk m c 0 t) r0_0) (View.ld (iblk m c 2 t) r0_1) (View.ld (iblk m c 1 t) r0_2) (View.ld (iblk m c 1 t) r0_3)) (View.ld (iblk m c 3 t) r0_17) (ix8_0 (ix3 h r l)) = _
  rw [hix]
  refine (pay49_at _ _ r _).trans ?_
  exact congrFun (congr (congrArg proj (row_eq m c t ht r)) (sq3_eq m c t)) _

theorem out9_at (r : Fin 256) (f : Fin 1024) :
    out0_9 (F := Ideal) (iblk m c 0 t) (iblk m c 1 t) (iblk m c 2 t) (iblk m c 3 t) (iblk m c 4 t) (ix2 r f)
      = projAt (a0 m c) (a1 m c) (a2 m c) (a3 m c) 4 (by decide) (rowAt t ht r) f * lgs (projAt (a0 m c) (a1 m c) (a2 m c) (a3 m c) 4 (by decide) (rowAt t ht r) f) := by
  unfold out0_9
  rw [View.canon_cons_unit_lit _ _ _ (by decide)]
  refine (pay5_at _ _ r _).trans ?_
  exact congrArg (fun p : Fin 1024 → EReal => p _ * lgs (p _)) (congr (congrArg proj (row_eq m c t ht r)) (sq4_eq m c t))

end

/-! ## The output arrays after the run -/

section
variable (m : (ℓ : Loc nD τ sig) → Buf (Elt Ideal) ℓ) (c : Dev nD)

theorem N_66 : cfg0.N = 66 := rfl

/-- The reference's value for output window 5. -/
def want5 : S8x16896x128.Idx → EReal := Cert.Reference2Ideal.Read.val_main_v96 (F := Ideal) (a0 m c) (a1 m c) (a2 m c) (a3 m c)

theorem want5_at (t : Fin cfg0.N) (ht : t.val < 66) (h : Fin 8) (r : Fin 256) (l : Fin 128) :
    out0_5 (F := Ideal) (iblk m c 0 t) (iblk m c 1 t) (iblk m c 2 t) (iblk m c 3 t) (iblk m c 4 t) (ix3 h r l) = want5 m c (ix3 h (rowAt t ht r) l) := by
  refine (out5_at m c t ht h r l).trans (Eq.symm ?_)
  unfold want5
  exact (heads_at _ h (rowAt t ht r) l).trans (v94_at (a0 m c) (a1 m c) (a2 m c) (a3 m c) (rowAt t ht r) _)

theorem cov5 : (cfg0.win 5).Covers := by
  refine (cfg0.win 5).covers_of_index_surj rfl (fun x => match x with | ⟨0, _⟩ => (by decide : 0 < 8) | ⟨1, _⟩ => (by decide : 0 < 256) | ⟨2, _⟩ => (by decide : 0 < 128)) fun β => ?_
  have n0 : (cfg0.win 5).nblk (0 : Fin 3) = 1 := by
    unfold Pipeline.Window.nblk
    exact (by decide : (8 + 8 - 1) / 8 = 1)
  have n1 : (cfg0.win 5).nblk (1 : Fin 3) = 66 := by
    unfold Pipeline.Window.nblk
    exact (by decide : (16896 + 256 - 1) / 256 = 66)
  have n2 : (cfg0.win 5).nblk (2 : Fin 3) = 1 := by
    unfold Pipeline.Window.nblk
    exact (by decide : (128 + 128 - 1) / 128 = 1)
  have b0 : (β (0 : Fin 3)).val < 1 := lt_of_lt_of_eq (β (0 : Fin 3)).isLt n0
  have b1 : (β (1 : Fin 3)).val < 66 := lt_of_lt_of_eq (β (1 : Fin 3)).isLt n1
  have b2 : (β (2 : Fin 3)).val < 1 := lt_of_lt_of_eq (β (2 : Fin 3)).isLt n2
  refine ⟨⟨(β (1 : Fin 3)).val, b1⟩, fun x => ?_⟩
  rw [show (cfg0.win 5).index _ = ![0, (β (1 : Fin 3)).val, 0] from idx5 ⟨(β (1 : Fin 3)).val, b1⟩]
  match x with
  | ⟨0, _⟩ => exact (by omega : 0 = (β (0 : Fin 3)).val)
  | ⟨1, _⟩ => rfl
  | ⟨2, _⟩ => exact (by omega : 0 = (β (2 : Fin 3)).val)

theorem arr5_eq : (dats m 0 c).arrAt 5 cfg0.N = want5 m c := by
  refine (dats m 0 c).arrAt_eq_of_covers 5 _ cov5 fun t hf y => ?_
  have ht : t.val < 66 := lt_of_lt_of_eq t.isLt N_66
  blk_simp
  rw [after0_5]
  have hy : (y : S8x256x128.Idx) = ix3 (y (0 : Fin 3) : Fin 8) (y (1 : Fin 3) : Fin 256) (y (2 : Fin 3) : Fin 128) :=
    funext fun x => match x with | ⟨0, _⟩ => rfl | ⟨1, _⟩ => rfl | ⟨2, _⟩ => rfl
  refine (congrArg (out0_5 (F := Ideal) (iblk m c 0 t) (iblk m c 1 t) (iblk m c 2 t) (iblk m c 3 t) (iblk m c 4 t)) hy).trans
    ((want5_at m c t ht (y (0 : Fin 3)) (y (1 : Fin 3)) (y (2 : Fin 3))).trans ?_)
  refine congrArg (want5 m c) (funext fun x => Fin.ext ?_)
  refine Eq.trans ?_ (Pipeline.Window.rect_emb_val (cfg0.win 5) t y x).symm
  rw [show (cfg0.win 5).index t = ![0, t.val, 0] from idx5 t]
  match x with
  | ⟨0, _⟩ => exact (by omega : (y (0 : Fin 3)).val = 0 * 8 + (y (0 : Fin 3)).val)
  | ⟨1, _⟩ => rfl
  | ⟨2, _⟩ => exact (by omega : (y (2 : Fin 3)).val = 0 * 128 + (y (2 : Fin 3)).val)

/-- The reference's value for output window 6. -/
def want6 : S8x16896x128.Idx → EReal := Cert.Reference2Ideal.Read.val_main_v98 (F := Ideal) (a0 m c) (a1 m c) (a2 m c) (a3 m c) (a4 m c)

theorem want6_at (t : Fin cfg0.N) (ht : t.val < 66) (h : Fin 8) (r : Fin 256) (l : Fin 128) :
    out0_6 (F := Ideal) (iblk m c 0 t) (iblk m c 1 t) (iblk m c 2 t) (iblk m c 3 t) (iblk m c 4 t) (ix3 h r l) = want6 m c (ix3 h (rowAt t ht r) l) := by
  refine (out6_at m c t ht h r l).trans (Eq.symm ?_)
  unfold want6
  exact (heads_at _ h (rowAt t ht r) l).trans (v75_at (a0 m c) (a1 m c) (a2 m c) (a3 m c) (a4 m c) (rowAt t ht r) _)

theorem cov6 : (cfg0.win 6).Covers := by
  refine (cfg0.win 6).covers_of_index_surj rfl (fun x => match x with | ⟨0, _⟩ => (by decide : 0 < 8) | ⟨1, _⟩ => (by decide : 0 < 256) | ⟨2, _⟩ => (by decide : 0 < 128)) fun β => ?_
  have n0 : (cfg0.win 6).nblk (0 : Fin 3) = 1 := by
    unfold Pipeline.Window.nblk
    exact (by decide : (8 + 8 - 1) / 8 = 1)
  have n1 : (cfg0.win 6).nblk (1 : Fin 3) = 66 := by
    unfold Pipeline.Window.nblk
    exact (by decide : (16896 + 256 - 1) / 256 = 66)
  have n2 : (cfg0.win 6).nblk (2 : Fin 3) = 1 := by
    unfold Pipeline.Window.nblk
    exact (by decide : (128 + 128 - 1) / 128 = 1)
  have b0 : (β (0 : Fin 3)).val < 1 := lt_of_lt_of_eq (β (0 : Fin 3)).isLt n0
  have b1 : (β (1 : Fin 3)).val < 66 := lt_of_lt_of_eq (β (1 : Fin 3)).isLt n1
  have b2 : (β (2 : Fin 3)).val < 1 := lt_of_lt_of_eq (β (2 : Fin 3)).isLt n2
  refine ⟨⟨(β (1 : Fin 3)).val, b1⟩, fun x => ?_⟩
  rw [show (cfg0.win 6).index _ = ![0, (β (1 : Fin 3)).val, 0] from idx6 ⟨(β (1 : Fin 3)).val, b1⟩]
  match x with
  | ⟨0, _⟩ => exact (by omega : 0 = (β (0 : Fin 3)).val)
  | ⟨1, _⟩ => rfl
  | ⟨2, _⟩ => exact (by omega : 0 = (β (2 : Fin 3)).val)

theorem arr6_eq : (dats m 0 c).arrAt 6 cfg0.N = want6 m c := by
  refine (dats m 0 c).arrAt_eq_of_covers 6 _ cov6 fun t hf y => ?_
  have ht : t.val < 66 := lt_of_lt_of_eq t.isLt N_66
  blk_simp
  rw [after0_6]
  have hy : (y : S8x256x128.Idx) = ix3 (y (0 : Fin 3) : Fin 8) (y (1 : Fin 3) : Fin 256) (y (2 : Fin 3) : Fin 128) :=
    funext fun x => match x with | ⟨0, _⟩ => rfl | ⟨1, _⟩ => rfl | ⟨2, _⟩ => rfl
  refine (congrArg (out0_6 (F := Ideal) (iblk m c 0 t) (iblk m c 1 t) (iblk m c 2 t) (iblk m c 3 t) (iblk m c 4 t)) hy).trans
    ((want6_at m c t ht (y (0 : Fin 3)) (y (1 : Fin 3)) (y (2 : Fin 3))).trans ?_)
  refine congrArg (want6 m c) (funext fun x => Fin.ext ?_)
  refine Eq.trans ?_ (Pipeline.Window.rect_emb_val (cfg0.win 6) t y x).symm
  rw [show (cfg0.win 6).index t = ![0, t.val, 0] from idx6 t]
  match x with
  | ⟨0, _⟩ => exact (by omega : (y (0 : Fin 3)).val = 0 * 8 + (y (0 : Fin 3)).val)
  | ⟨1, _⟩ => rfl
  | ⟨2, _⟩ => exact (by omega : (y (2 : Fin 3)).val = 0 * 128 + (y (2 : Fin 3)).val)

/-- The reference's value for output window 7. -/
def want7 : S8x16896x128.Idx → EReal := Cert.Reference2Ideal.Read.val_main_v100 (F := Ideal) (a0 m c) (a1 m c) (a2 m c) (a3 m c) (a4 m c)

theorem want7_at (t : Fin cfg0.N) (ht : t.val < 66) (h : Fin 8) (r : Fin 256) (l : Fin 128) :
    out0_7 (F := Ideal) (iblk m c 0 t) (iblk m c 1 t) (iblk m c 2 t) (iblk m c 3 t) (iblk m c 4 t) (ix3 h r l) = want7 m c (ix3 h (rowAt t ht r) l) := by
  refine (out7_at m c t ht h r l).trans (Eq.symm ?_)
  unfold want7
  exact (heads_at _ h (rowAt t ht r) l).trans (v93_at (a0 m c) (a1 m c) (a2 m c) (a3 m c) (a4 m c) (rowAt t ht r) _)

theorem cov7 : (cfg0.win 7).Covers := by
  refine (cfg0.win 7).covers_of_index_surj rfl (fun x => match x with | ⟨0, _⟩ => (by decide : 0 < 8) | ⟨1, _⟩ => (by decide : 0 < 256) | ⟨2, _⟩ => (by decide : 0 < 128)) fun β => ?_
  have n0 : (cfg0.win 7).nblk (0 : Fin 3) = 1 := by
    unfold Pipeline.Window.nblk
    exact (by decide : (8 + 8 - 1) / 8 = 1)
  have n1 : (cfg0.win 7).nblk (1 : Fin 3) = 66 := by
    unfold Pipeline.Window.nblk
    exact (by decide : (16896 + 256 - 1) / 256 = 66)
  have n2 : (cfg0.win 7).nblk (2 : Fin 3) = 1 := by
    unfold Pipeline.Window.nblk
    exact (by decide : (128 + 128 - 1) / 128 = 1)
  have b0 : (β (0 : Fin 3)).val < 1 := lt_of_lt_of_eq (β (0 : Fin 3)).isLt n0
  have b1 : (β (1 : Fin 3)).val < 66 := lt_of_lt_of_eq (β (1 : Fin 3)).isLt n1
  have b2 : (β (2 : Fin 3)).val < 1 := lt_of_lt_of_eq (β (2 : Fin 3)).isLt n2
  refine ⟨⟨(β (1 : Fin 3)).val, b1⟩, fun x => ?_⟩
  rw [show (cfg0.win 7).index _ = ![0, (β (1 : Fin 3)).val, 0] from idx7 ⟨(β (1 : Fin 3)).val, b1⟩]
  match x with
  | ⟨0, _⟩ => exact (by omega : 0 = (β (0 : Fin 3)).val)
  | ⟨1, _⟩ => rfl
  | ⟨2, _⟩ => exact (by omega : 0 = (β (2 : Fin 3)).val)

theorem arr7_eq : (dats m 0 c).arrAt 7 cfg0.N = want7 m c := by
  refine (dats m 0 c).arrAt_eq_of_covers 7 _ cov7 fun t hf y => ?_
  have ht : t.val < 66 := lt_of_lt_of_eq t.isLt N_66
  blk_simp
  rw [after0_7]
  have hy : (y : S8x256x128.Idx) = ix3 (y (0 : Fin 3) : Fin 8) (y (1 : Fin 3) : Fin 256) (y (2 : Fin 3) : Fin 128) :=
    funext fun x => match x with | ⟨0, _⟩ => rfl | ⟨1, _⟩ => rfl | ⟨2, _⟩ => rfl
  refine (congrArg (out0_7 (F := Ideal) (iblk m c 0 t) (iblk m c 1 t) (iblk m c 2 t) (iblk m c 3 t) (iblk m c 4 t)) hy).trans
    ((want7_at m c t ht (y (0 : Fin 3)) (y (1 : Fin 3)) (y (2 : Fin 3))).trans ?_)
  refine congrArg (want7 m c) (funext fun x => Fin.ext ?_)
  refine Eq.trans ?_ (Pipeline.Window.rect_emb_val (cfg0.win 7) t y x).symm
  rw [show (cfg0.win 7).index t = ![0, t.val, 0] from idx7 t]
  match x with
  | ⟨0, _⟩ => exact (by omega : (y (0 : Fin 3)).val = 0 * 8 + (y (0 : Fin 3)).val)
  | ⟨1, _⟩ => rfl
  | ⟨2, _⟩ => exact (by omega : (y (2 : Fin 3)).val = 0 * 128 + (y (2 : Fin 3)).val)

/-- The reference's value for output window 8. -/
def want8 : S8x16896x128.Idx → EReal := Cert.Reference2Ideal.Read.val_main_v102 (F := Ideal) (a0 m c) (a1 m c) (a2 m c) (a3 m c)

theorem want8_at (t : Fin cfg0.N) (ht : t.val < 66) (h : Fin 8) (r : Fin 256) (l : Fin 128) :
    out0_8 (F := Ideal) (iblk m c 0 t) (iblk m c 1 t) (iblk m c 2 t) (iblk m c 3 t) (iblk m c 4 t) (ix3 h r l) = want8 m c (ix3 h (rowAt t ht r) l) := by
  refine (out8_at m c t ht h r l).trans (Eq.symm ?_)
  unfold want8
  exact (heads_at _ h (rowAt t ht r) l).trans (v56_at (a0 m c) (a1 m c) (a2 m c) (a3 m c) (rowAt t ht r) _)

theorem cov8 : (cfg0.win 8).Covers := by
  refine (cfg0.win 8).covers_of_index_surj rfl (fun x => match x with | ⟨0, _⟩ => (by decide : 0 < 8) | ⟨1, _⟩ => (by decide : 0 < 256) | ⟨2, _⟩ => (by decide : 0 < 128)) fun β => ?_
  have n0 : (cfg0.win 8).nblk (0 : Fin 3) = 1 := by
    unfold Pipeline.Window.nblk
    exact (by decide : (8 + 8 - 1) / 8 = 1)
  have n1 : (cfg0.win 8).nblk (1 : Fin 3) = 66 := by
    unfold Pipeline.Window.nblk
    exact (by decide : (16896 + 256 - 1) / 256 = 66)
  have n2 : (cfg0.win 8).nblk (2 : Fin 3) = 1 := by
    unfold Pipeline.Window.nblk
    exact (by decide : (128 + 128 - 1) / 128 = 1)
  have b0 : (β (0 : Fin 3)).val < 1 := lt_of_lt_of_eq (β (0 : Fin 3)).isLt n0
  have b1 : (β (1 : Fin 3)).val < 66 := lt_of_lt_of_eq (β (1 : Fin 3)).isLt n1
  have b2 : (β (2 : Fin 3)).val < 1 := lt_of_lt_of_eq (β (2 : Fin 3)).isLt n2
  refine ⟨⟨(β (1 : Fin 3)).val, b1⟩, fun x => ?_⟩
  rw [show (cfg0.win 8).index _ = ![0, (β (1 : Fin 3)).val, 0] from idx8 ⟨(β (1 : Fin 3)).val, b1⟩]
  match x with
  | ⟨0, _⟩ => exact (by omega : 0 = (β (0 : Fin 3)).val)
  | ⟨1, _⟩ => rfl
  | ⟨2, _⟩ => exact (by omega : 0 = (β (2 : Fin 3)).val)

theorem arr8_eq : (dats m 0 c).arrAt 8 cfg0.N = want8 m c := by
  refine (dats m 0 c).arrAt_eq_of_covers 8 _ cov8 fun t hf y => ?_
  have ht : t.val < 66 := lt_of_lt_of_eq t.isLt N_66
  blk_simp
  rw [after0_8]
  have hy : (y : S8x256x128.Idx) = ix3 (y (0 : Fin 3) : Fin 8) (y (1 : Fin 3) : Fin 256) (y (2 : Fin 3) : Fin 128) :=
    funext fun x => match x with | ⟨0, _⟩ => rfl | ⟨1, _⟩ => rfl | ⟨2, _⟩ => rfl
  refine (congrArg (out0_8 (F := Ideal) (iblk m c 0 t) (iblk m c 1 t) (iblk m c 2 t) (iblk m c 3 t) (iblk m c 4 t)) hy).trans
    ((want8_at m c t ht (y (0 : Fin 3)) (y (1 : Fin 3)) (y (2 : Fin 3))).trans ?_)
  refine congrArg (want8 m c) (funext fun x => Fin.ext ?_)
  refine Eq.trans ?_ (Pipeline.Window.rect_emb_val (cfg0.win 8) t y x).symm
  rw [show (cfg0.win 8).index t = ![0, t.val, 0] from idx8 t]
  match x with
  | ⟨0, _⟩ => exact (by omega : (y (0 : Fin 3)).val = 0 * 8 + (y (0 : Fin 3)).val)
  | ⟨1, _⟩ => rfl
  | ⟨2, _⟩ => exact (by omega : (y (2 : Fin 3)).val = 0 * 128 + (y (2 : Fin 3)).val)

/-- The reference's value for output window 9. -/
def want9 : S16896x1024.Idx → EReal := Cert.Reference2Ideal.Read.val_main_v104 (F := Ideal) (a0 m c) (a1 m c) (a2 m c) (a3 m c)

theorem want9_at (t : Fin cfg0.N) (ht : t.val < 66) (r : Fin 256) (f : Fin 1024) :
    out0_9 (F := Ideal) (iblk m c 0 t) (iblk m c 1 t) (iblk m c 2 t) (iblk m c 3 t) (iblk m c 4 t) (ix2 r f) = want9 m c (ix2 (rowAt t ht r) f) :=
  (out9_at m c t ht r f).trans (v104_at (a0 m c) (a1 m c) (a2 m c) (a3 m c) (rowAt t ht r) f).symm

theorem cov9 : (cfg0.win 9).Covers := by
  refine (cfg0.win 9).covers_of_index_surj rfl (fun x => match x with | ⟨0, _⟩ => (by decide : 0 < 256) | ⟨1, _⟩ => (by decide : 0 < 1024)) fun β => ?_
  have n0 : (cfg0.win 9).nblk (0 : Fin 2) = 66 := by
    unfold Pipeline.Window.nblk
    exact (by decide : (16896 + 256 - 1) / 256 = 66)
  have n1 : (cfg0.win 9).nblk (1 : Fin 2) = 1 := by
    unfold Pipeline.Window.nblk
    exact (by decide : (1024 + 1024 - 1) / 1024 = 1)
  have b0 : (β (0 : Fin 2)).val < 66 := lt_of_lt_of_eq (β (0 : Fin 2)).isLt n0
  have b1 : (β (1 : Fin 2)).val < 1 := lt_of_lt_of_eq (β (1 : Fin 2)).isLt n1
  refine ⟨⟨(β (0 : Fin 2)).val, b0⟩, fun x => ?_⟩
  rw [show (cfg0.win 9).index _ = ![(β (0 : Fin 2)).val, 0] from idx9 ⟨(β (0 : Fin 2)).val, b0⟩]
  match x with
  | ⟨0, _⟩ => rfl
  | ⟨1, _⟩ => exact (by omega : 0 = (β (1 : Fin 2)).val)

theorem arr9_eq : (dats m 0 c).arrAt 9 cfg0.N = want9 m c := by
  refine (dats m 0 c).arrAt_eq_of_covers 9 _ cov9 fun t hf y => ?_
  have ht : t.val < 66 := lt_of_lt_of_eq t.isLt N_66
  blk_simp
  rw [after0_9]
  have hy : (y : S256x1024.Idx) = ix2 (y (0 : Fin 2) : Fin 256) (y (1 : Fin 2) : Fin 1024) :=
    funext fun x => match x with | ⟨0, _⟩ => rfl | ⟨1, _⟩ => rfl
  refine (congrArg (out0_9 (F := Ideal) (iblk m c 0 t) (iblk m c 1 t) (iblk m c 2 t) (iblk m c 3 t) (iblk m c 4 t)) hy).trans
    ((want9_at m c t ht (y (0 : Fin 2)) (y (1 : Fin 2))).trans ?_)
  refine congrArg (want9 m c) (funext fun x => Fin.ext ?_)
  refine Eq.trans ?_ (Pipeline.Window.rect_emb_val (cfg0.win 9) t y x).symm
  rw [show (cfg0.win 9).index t = ![t.val, 0] from idx9 t]
  match x with
  | ⟨0, _⟩ => rfl
  | ⟨1, _⟩ => exact (by omega : (y (1 : Fin 2)).val = 0 * 1024 + (y (1 : Fin 2)).val)

end

end Cert.Proof.Gates

end
-- ==== Proof.ReadoutMath.lean ====
/-
  One row of the mixer's readout as mathematics on the extended reals, and the kernel's vectors of a tile read at an index
  as that mathematics.
-/
module

public import proofs.«01_k».proof.Proof.Gen.Kernel3Ideal.Value
public import Idealize.ShloMosaic.Lib.Pointwise

@[expose] public section

set_option maxRecDepth 16384

noncomputable section

namespace Cert.Proof.Readout

open Cert.Kernel3Ideal Cert.Kernel3Ideal.Gen

open Idealize.ShloMosaic

/-- The column of a head's lane. -/
abbrev col (j : Fin 8) (l : Fin 128) : Fin 1024 := ⟨j.val * 128 + l.val, by omega⟩

/-- A lane of a head over the head's root mean square. -/
def headNorm (o : Fin 1024 → EReal) (j : Fin 8) (l : Fin 128) : EReal :=
  o (col j l) * Ideal.rsqrt (Ideal.div (∑ k : Fin 128, o (col j k) * o (col j k)) (Ideal.ofBits .f32 0x43000000#32) + Ideal.ofBits .f32 0x358637BD#32)

/-- A column's head and lane. -/
abbrev hd (d : Fin 1024) : Fin 8 := ⟨d.val / 128, by omega⟩
abbrev ln (d : Fin 1024) : Fin 128 := ⟨d.val % 128, by omega⟩

/-- A column of a row: the row's heads normed, by the gain `g` and the gate `s`, through the weights, onto the stream `x` by
    the modulation `b`. -/
def readout (o g s x b : Fin 1024 → EReal) (W : Fin 1024 → Fin 1024 → EReal) (f : Fin 1024) : EReal :=
  x f + b f * ∑ k : Fin 1024, headNorm o (hd k) (ln k) * g k * s k * W k f

theorem readout_congr {o o' g g' s s' x x' b b' : Fin 1024 → EReal} {W W' : Fin 1024 → Fin 1024 → EReal} (ho : ∀ k, o k = o' k) (hg : ∀ k, g k = g' k)
    (hs : ∀ k, s k = s' k) (hx : ∀ k, x k = x' k) (hb : ∀ k, b k = b' k) (hW : ∀ k f, W k f = W' k f) (f : Fin 1024) :
    readout o g s x b W f = readout o' g' s' x' b' W' f := by
  obtain rfl : o = o' := funext ho
  obtain rfl : g = g' := funext hg
  obtain rfl : s = s' := funext hs
  obtain rfl : x = x' := funext hx
  obtain rfl : b = b' := funext hb
  obtain rfl : W = W' := funext fun k => funext (hW k)
  rfl

section
variable (v0 v2 : Vec Ideal S512x1024 .bf16) (v4 : FVec Ideal S512x1024 .f32)

theorem pay2_at (r : Fin 512) (d : Fin 1024) : k0_pay2 (F := Ideal) v0 v2 (ix2 r d) = v0 (ix2 r d) + v2 (ix2 r d) := by
  pointwise [k0_pay2]
  try rfl

theorem col_zero (l : Fin 128) : col 0 l = ⟨l.val, by omega⟩ := Fin.ext (by simp)

theorem pay3_at (r : Fin 512) (l : Fin 128) : k0_pay3 (F := Ideal) v0 v2 (ix2 r l) = headNorm (fun k => k0_pay2 (F := Ideal) v0 v2 (ix2 r k)) 0 l := by
  unfold k0_pay3
  generalize k0_pay2 (F := Ideal) v0 v2 = v4
  pointwise
  unfold headNorm
  simp only [col_zero]

theorem pay4_at (r : Fin 512) (l : Fin 128) : k0_pay4 (F := Ideal) v0 v2 (ix2 r l) = headNorm (fun k => k0_pay2 (F := Ideal) v0 v2 (ix2 r k)) 1 l := by
  unfold k0_pay4
  generalize k0_pay2 (F := Ideal) v0 v2 = v4
  pointwise
  unfold headNorm
  rfl

theorem pay5_at (r : Fin 512) (l : Fin 128) : k0_pay5 (F := Ideal) v0 v2 (ix2 r l) = headNorm (fun k => k0_pay2 (F := Ideal) v0 v2 (ix2 r k)) 2 l := by
  unfold k0_pay5
  generalize k0_pay2 (F := Ideal) v0 v2 = v4
  pointwise
  unfold headNorm
  rfl

theorem pay8_at (r : Fin 512) (l : Fin 128) : k0_pay8 (F := Ideal) (k0_pay6 v0 v2) (k0_pay7 v0 v2) (ix2 r l) = headNorm (fun k => k0_pay2 (F := Ideal) v0 v2 (ix2 r k)) 3 l := by
  unfold k0_pay8 k0_pay7 k0_pay6
  generalize k0_pay2 (F := Ideal) v0 v2 = v4
  pointwise
  unfold headNorm
  rfl

theorem pay9_at (r : Fin 512) (l : Fin 128) : k0_pay9 (F := Ideal) v4 (ix2 r l) = headNorm (fun k => v4 (ix2 r k)) 4 l := by
  unfold k0_pay9
  pointwise
  unfold headNorm
  rfl

theorem pay10_at (r : Fin 512) (l : Fin 128) : k0_pay10 (F := Ideal) v4 (ix2 r l) = headNorm (fun k => v4 (ix2 r k)) 5 l := by
  unfold k0_pay10
  pointwise
  unfold headNorm
  rfl

theorem pay11_at (r : Fin 512) (l : Fin 128) : k0_pay11 (F := Ideal) v4 (ix2 r l) = headNorm (fun k => v4 (ix2 r k)) 6 l := by
  unfold k0_pay11
  pointwise
  unfold headNorm
  rfl

/-- The last head, whose root the body keeps apart. -/
theorem pay13_at (r : Fin 512) (l : Fin 128) :
    mulf (k0_pay12 (F := Ideal) v4) (broadcastTo S512x128 (k0_pay13 (F := Ideal) v4) broadcasts_S512x1_S512x128) (ix2 r l)
      = headNorm (fun k => v4 (ix2 r k)) 7 l := by
  unfold k0_pay13 k0_pay12
  pointwise
  unfold headNorm
  rfl

/-- Eight tiles of 128 columns side by side, at a column. -/
theorem cat_at (y0 y1 y2 y3 y4 y5 y6 y7 : FVec Ideal S512x128 .f32) (o : Fin 1024 → EReal) (r : Fin 512)
    (h0 : ∀ l, y0 (ix2 r l) = headNorm o 0 l) (h1 : ∀ l, y1 (ix2 r l) = headNorm o 1 l) (h2 : ∀ l, y2 (ix2 r l) = headNorm o 2 l)
    (h3 : ∀ l, y3 (ix2 r l) = headNorm o 3 l) (h4 : ∀ l, y4 (ix2 r l) = headNorm o 4 l) (h5 : ∀ l, y5 (ix2 r l) = headNorm o 5 l)
    (h6 : ∀ l, y6 (ix2 r l) = headNorm o 6 l) (h7 : ∀ l, y7 (ix2 r l) = headNorm o 7 l) (d : Fin 1024) :
    concatenate S512x1024 1 [⟨S512x128, y0⟩, ⟨S512x128, y1⟩, ⟨S512x128, y2⟩, ⟨S512x128, y3⟩, ⟨S512x128, y4⟩, ⟨S512x128, y5⟩, ⟨S512x128, y6⟩, ⟨S512x128, y7⟩]
        concatenates_S512x128_S512x128_S512x128_S512x128_S512x128_S512x128_S512x128_S512x128_S512x1024_d1 (ix2 r d)
      = headNorm o (hd d) (ln d) := by
  pointwise
  have hdl := d.isLt
  split_ifs <;> first
    | refine (h0 _).trans (congrArg₂ (headNorm o) (Fin.ext ?_) (Fin.ext ?_)) <;> simp <;> omega
    | refine (h1 _).trans (congrArg₂ (headNorm o) (Fin.ext ?_) (Fin.ext ?_)) <;> simp <;> omega
    | refine (h2 _).trans (congrArg₂ (headNorm o) (Fin.ext ?_) (Fin.ext ?_)) <;> simp <;> omega
    | refine (h3 _).trans (congrArg₂ (headNorm o) (Fin.ext ?_) (Fin.ext ?_)) <;> simp <;> omega
    | refine (h4 _).trans (congrArg₂ (headNorm o) (Fin.ext ?_) (Fin.ext ?_)) <;> simp <;> omega
    | refine (h5 _).trans (congrArg₂ (headNorm o) (Fin.ext ?_) (Fin.ext ?_)) <;> simp <;> omega
    | refine (h6 _).trans (congrArg₂ (headNorm o) (Fin.ext ?_) (Fin.ext ?_)) <;> simp <;> omega
    | refine (h7 _).trans (congrArg₂ (headNorm o) (Fin.ext ?_) (Fin.ext ?_)) <;> simp <;> omega

/-- The body's stored tile at an element. -/
theorem tile_at (g : Vec Ideal S1x1024 .f32) (s : Vec Ideal S512x1024 .bf16) (W : Vec Ideal S1024x1024 .bf16) (x : Vec Ideal S512x1024 .f32)
    (b : Vec Ideal S1x1x1024 .f32) (r : Fin 512) (f : Fin 1024) :
    k0_pay1 (F := Ideal) (k0_pay3 v0 v2) (k0_pay4 v0 v2) (k0_pay5 v0 v2) (k0_pay8 (k0_pay6 v0 v2) (k0_pay7 v0 v2))
        (k0_pay9 (k0_pay2 v0 v2)) (k0_pay10 (k0_pay2 v0 v2)) (k0_pay11 (k0_pay2 v0 v2)) (k0_pay12 (k0_pay2 v0 v2)) (k0_pay13 (k0_pay2 v0 v2)) g s W x b (ix2 r f)
      = readout (fun k => v0 (ix2 r k) + v2 (ix2 r k)) (fun k => g (ix2 0 k)) (fun k => s (ix2 r k)) (fun k => x (ix2 r k)) (fun k => b (ix3 0 0 k))
          (fun k f => W (ix2 k f)) f := by
  have hc := cat_at (k0_pay3 v0 v2) (k0_pay4 v0 v2) (k0_pay5 v0 v2) (k0_pay8 (k0_pay6 v0 v2) (k0_pay7 v0 v2))
    (k0_pay9 (k0_pay2 v0 v2)) (k0_pay10 (k0_pay2 v0 v2)) (k0_pay11 (k0_pay2 v0 v2))
    (mulf (k0_pay12 (F := Ideal) (k0_pay2 v0 v2)) (broadcastTo S512x128 (k0_pay13 (F := Ideal) (k0_pay2 v0 v2)) broadcasts_S512x1_S512x128))
    (fun k => k0_pay2 (F := Ideal) v0 v2 (ix2 r k)) r (pay3_at v0 v2 r) (pay4_at v0 v2 r) (pay5_at v0 v2 r) (pay8_at v0 v2 r)
    (pay9_at _ r) (pay10_at _ r) (pay11_at _ r) (pay13_at _ r)
  have ho : (fun k => k0_pay2 (F := Ideal) v0 v2 (ix2 r k)) = fun k => v0 (ix2 r k) + v2 (ix2 r k) := funext fun k => pay2_at v0 v2 r k
  rw [ho] at hc
  unfold k0_pay1 readout
  revert hc
  beta_reduce
  generalize concatenate S512x1024 1 _ _ = z
  intro hc
  pointwise
  refine congrArg (fun q => _ + _ * q) (Finset.sum_congr rfl fun k _ => ?_)
  rw [hc k]

end

end Cert.Proof.Readout

end
-- ==== Proof.ReadoutRef.lean ====
/-
  THE READOUT'S REFERENCE at an element.
-/
module

public import proofs.«01_k».proof.Proof.ReadoutMath
public import proofs.«01_k».proof.Proof.Gen.Reference3Ideal.Read

@[expose] public section

set_option maxRecDepth 16384

noncomputable section

namespace Cert.Proof.Readout

open Cert.Reference3Ideal Cert.Reference3Ideal.Gen Cert.Reference3Ideal.Read

open Idealize.ShloMosaic

variable (x0 x1 x2 x3 : S16896x1024.Idx → EReal) (x4 : S16x6x1024.Idx → EReal) (x5 : S1024.Idx → EReal) (x6 : S1024x1024.Idx → EReal)

/-- A latent row, as a row of the stream. -/
abbrev up (r : Fin 16384) : Fin 16896 := ⟨r.val, by omega⟩

/-- The modulation vectors' row of a latent row: the first batch's, then the second's. -/
abbrev modRowOf (r : Fin 16384) : Fin 16 := ⟨8 + r.val / 8192, by omega⟩

/-- The value of the readout at an element. -/
def readAt (r : Fin 16384) (f : Fin 1024) : EReal :=
  readout (fun k => x0 (ix2 (up r) k) + x1 (ix2 (up r) k)) (fun k => x5 (ix1 k)) (fun k => x2 (ix2 (up r) k)) (fun k => x3 (ix2 (up r) k))
    (fun k => x4 (ix3 (modRowOf r) 2 k)) (fun k f => x6 (ix2 k f)) f

theorem v4_at (r : Fin 16384) (j : Fin 8) (l : Fin 128) :
    val_main_v4 (F := Ideal) x0 x1 (ix3 r j l) = x0 (ix2 (up r) (col j l)) + x1 (ix2 (up r) (col j l)) := by
  pointwise [val_main_v4, val_main_v3, val_main_v2, val_main_v1, val_main_v0]
  try rfl

theorem v14_at (r : Fin 16384) (j : Fin 8) (l : Fin 128) :
    val_main_v14 (F := Ideal) x0 x1 (ix3 r j l) = headNorm (fun k => x0 (ix2 (up r) k) + x1 (ix2 (up r) k)) j l := by
  unfold headNorm
  beta_reduce
  simp only [← v4_at]
  unfold val_main_v14 val_main_v13 val_main_v12 val_main_v11 val_main_v9 val_main_v7 val_main_v6 val_main_v5
  generalize val_main_v4 (F := Ideal) x0 x1 = y
  pointwise [val_main_v10, val_main_cst_1, val_main_v8, val_main_cst_0, val_main_cst]
  try rfl

theorem v22_at (r : Fin 16384) (k : Fin 1024) :
    val_main_v22 (F := Ideal) x0 x1 x2 x5 (ix2 r k)
      = headNorm (fun k => x0 (ix2 (up r) k) + x1 (ix2 (up r) k)) (hd k) (ln k) * x5 (ix1 k) * x2 (ix2 (up r) k) := by
  rw [← v14_at]
  unfold val_main_v22 val_main_v19 val_main_v18
  generalize val_main_v14 (F := Ideal) x0 x1 = y
  pointwise [val_main_v17, val_main_v16, val_main_v15, val_main_v21, val_main_v20]

theorem v30_at (r : Fin 16384) (f : Fin 1024) : val_main_v30 (F := Ideal) x4 (ix2 r f) = x4 (ix3 (modRowOf r) 2 f) := by
  pointwise [val_main_v30, val_main_v26, val_main_v25, val_main_v24, val_main_v29, val_main_v28, val_main_v27]
  have hr := r.isLt
  split_ifs <;> refine congrArg (fun z => x4 (ix3 z _ _)) (Fin.ext ?_) <;> simp only [] <;> omega

theorem v33_at (r : Fin 16384) (f : Fin 1024) : val_main_v33 (F := Ideal) x0 x1 x2 x3 x4 x5 x6 (ix2 r f) = readAt x0 x1 x2 x3 x4 x5 x6 r f := by
  unfold readAt readout
  beta_reduce
  simp only [← v22_at, ← v30_at]
  unfold val_main_v33 val_main_v32 val_main_v31 val_main_v23
  generalize val_main_v22 (F := Ideal) x0 x1 x2 x5 = y
  generalize val_main_v30 (F := Ideal) x4 = z
  pointwise
  try rfl

end Cert.Proof.Readout

end
-- ==== Proof.ReadoutArr.lean ====
/-
  THE READOUT'S VALUE: what the body leaves at a tile, and with it the output array after the run, as the reference's value.
-/
module

public import proofs.«01_k».proof.Proof.ReadoutRef
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Cert.Proof.Readout

open Cert.Kernel3Ideal Cert.Kernel3Ideal.Gen Cert.Kernel3Ideal.Value

open Idealize.ShloMosaic
open Idealize.ShloMosaic.TcCoe
open Idealize.SL.Sem

section
variable (m : (ℓ : Loc nD τ sig) → Buf (Elt Ideal) ℓ) (c : Dev nD)

/-- The arguments as the launch has them. -/
abbrev a0 : S16896x1024.Idx → EReal := m (c, (main_arg0 : Ref sig .tc))
abbrev a1 : S16896x1024.Idx → EReal := m (c, (main_arg1 : Ref sig .tc))
abbrev a2 : S16896x1024.Idx → EReal := m (c, (main_arg2 : Ref sig .tc))
abbrev a3 : S16896x1024.Idx → EReal := m (c, (main_arg3 : Ref sig .tc))
abbrev a4 : S16x6x1024.Idx → EReal := m (c, (main_arg4 : Ref sig .tc))
abbrev a5 : S1024.Idx → EReal := m (c, (main_arg5 : Ref sig .tc))
abbrev a6 : S1024x1024.Idx → EReal := m (c, (main_arg6 : Ref sig .tc))

/-! ## The region's arrays and the blocks, at an element -/

theorem V_gain : V m c main_v0 = shapeCast S1x1024 (a5 m c) shapeCasts_S1024_S1x1024 := by
  unfold V
  after_reads_simp
  rfl

theorem V_weights : V m c main_v1 = (a6 m c : S1024x1024.Idx → EReal) := by
  unfold V
  after_reads_simp
  rfl

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_2 (grid0.coords t) = ![t.val, 0] := by decide +kernel
theorem idx3 : ∀ t : Fin grid0.N, cc0_transform_3 (grid0.coords t) = ![t.val, 0] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel
theorem idx6 : ∀ t : Fin grid0.N, cc0_transform_6 (grid0.coords t) = ![8 + t.val / 16, 0, 0] := by decide +kernel
theorem idx7 : ∀ t : Fin grid0.N, cc0_transform_7 (grid0.coords t) = ![t.val, 0] := by decide +kernel

variable (t : Fin cfg0.N) (ht : t.val < 32)
include ht

/-- A row of the tile `t`, as a latent row. -/
abbrev rowAt (r : Fin 512) : Fin 16384 := ⟨t.val * 512 + r.val, by omega⟩

theorem blk0_at (r : Fin 512) (k : Fin 1024) : View.ld (iblk m c 0 t) r0_0 (ix2 r k) = a0 m c (ix2 (up (rowAt t ht r)) k) := by
  unfold iblk
  refine (congrArg (V m c main_arg0) (funext fun x => Fin.ext ?_)).trans (congrFun (V_main_arg0 m c) (ix2 (up (rowAt t ht r)) k))
  refine (Pipeline.Window.rect_emb_val (cfg0.win 0) t (r0_0.idx (ix2 r k)) x).trans ?_
  rw [show (cfg0.win 0).index t = ![t.val, 0] from idx0 t]
  match x with
  | ⟨0, _⟩ => exact (by omega : t.val * 512 + (0 + 1 * r.val) = t.val * 512 + r.val)
  | ⟨1, _⟩ => exact (by omega : 0 * 1024 + (0 + 1 * k.val) = k.val)

theorem blk1_at (r : Fin 512) (k : Fin 1024) : View.ld (iblk m c 1 t) r0_0 (ix2 r k) = a1 m c (ix2 (up (rowAt t ht r)) k) := by
  unfold iblk
  refine (congrArg (V m c main_arg1) (funext fun x => Fin.ext ?_)).trans (congrFun (V_main_arg1 m c) (ix2 (up (rowAt t ht r)) k))
  refine (Pipeline.Window.rect_emb_val (cfg0.win 1) t (r0_0.idx (ix2 r k)) x).trans ?_
  rw [show (cfg0.win 1).index t = ![t.val, 0] from idx1 t]
  match x with
  | ⟨0, _⟩ => exact (by omega : t.val * 512 + (0 + 1 * r.val) = t.val * 512 + r.val)
  | ⟨1, _⟩ => exact (by omega : 0 * 1024 + (0 + 1 * k.val) = k.val)

theorem blk2_at (r : Fin 512) (k : Fin 1024) : View.ld (iblk m c 2 t) r0_0 (ix2 r k) = a2 m c (ix2 (up (rowAt t ht r)) k) := by
  unfold iblk
  refine (congrArg (V m c main_arg2) (funext fun x => Fin.ext ?_)).trans (congrFun (V_main_arg2 m c) (ix2 (up (rowAt t ht r)) k))
  refine (Pipeline.Window.rect_emb_val (cfg0.win 2) t (r0_0.idx (ix2 r k)) x).trans ?_
  rw [show (cfg0.win 2).index t = ![t.val, 0] from idx2 t]
  match x with
  | ⟨0, _⟩ => exact (by omega : t.val * 512 + (0 + 1 * r.val) = t.val * 512 + r.val)
  | ⟨1, _⟩ => exact (by omega : 0 * 1024 + (0 + 1 * k.val) = k.val)

theorem blk3_at (r : Fin 512) (k : Fin 1024) : View.ld (iblk m c 3 t) r0_0 (ix2 r k) = a3 m c (ix2 (up (rowAt t ht r)) k) := by
  unfold iblk
  refine (congrArg (V m c main_arg3) (funext fun x => Fin.ext ?_)).trans (congrFun (V_main_arg3 m c) (ix2 (up (rowAt t ht r)) k))
  refine (Pipeline.Window.rect_emb_val (cfg0.win 3) t (r0_0.idx (ix2 r k)) x).trans ?_
  rw [show (cfg0.win 3).index t = ![t.val, 0] from idx3 t]
  match x with
  | ⟨0, _⟩ => exact (by omega : t.val * 512 + (0 + 1 * r.val) = t.val * 512 + r.val)
  | ⟨1, _⟩ => exact (by omega : 0 * 1024 + (0 + 1 * k.val) = k.val)

omit ht in
theorem blk4_at (k : Fin 1024) : View.ld (iblk m c 4 t) r0_1 (ix2 0 k) = a5 m c (ix1 k) := by
  unfold iblk
  refine (congrArg (V m c main_v0) (funext fun x => Fin.ext ?_)).trans ((congrFun (V_gain m c) (ix2 0 k)).trans ?_)
  · refine (Pipeline.Window.rect_emb_val (cfg0.win 4) t (r0_1.idx (ix2 0 k)) x).trans ?_
    rw [show (cfg0.win 4).index t = ![0, 0] from idx4 t]
    match x with
    | ⟨0, _⟩ => rfl
    | ⟨1, _⟩ => exact (by omega : 0 * 1024 + (0 + 1 * k.val) = k.val)
  · pointwise
    try rfl

omit ht in
theorem blk5_at (k f : Fin 1024) : View.ld (iblk m c 5 t) r0_2 (ix2 k f) = a6 m c (ix2 k f) := by
  unfold iblk
  refine (congrArg (V m c main_v1) (funext fun x => Fin.ext ?_)).trans (congrFun (V_weights m c) (ix2 k f))
  refine (Pipeline.Window.rect_emb_val (cfg0.win 5) t (r0_2.idx (ix2 k f)) x).trans ?_
  rw [show (cfg0.win 5).index t = ![0, 0] from idx5 t]
  match x with
  | ⟨0, _⟩ => exact (by omega : 0 * 1024 + (0 + 1 * k.val) = k.val)
  | ⟨1, _⟩ => exact (by omega : 0 * 1024 + (0 + 1 * f.val) = f.val)

theorem blk6_at (r : Fin 512) (k : Fin 1024) : View.ld (iblk m c 6 t) r0_3 (ix3 0 0 k) = a4 m c (ix3 (modRowOf (rowAt t ht r)) 2 k) := by
  unfold iblk
  refine (congrArg (V m c main_arg4) (funext fun x => Fin.ext ?_)).trans (congrFun (V_main_arg4 m c) (ix3 (modRowOf (rowAt t ht r)) 2 k))
  refine (Pipeline.Window.rect_emb_val (cfg0.win 6) t (r0_3.idx (ix3 0 0 k)) x).trans ?_
  rw [show (cfg0.win 6).index t = ![8 + t.val / 16, 0, 0] from idx6 t]
  match x with
  | ⟨0, _⟩ => exact (by omega : (8 + t.val / 16) * 1 + (0 + 1 * 0) = 8 + (t.val * 512 + r.val) / 8192)
  | ⟨1, _⟩ => rfl
  | ⟨2, _⟩ => exact (by omega : 0 * 1024 + (0 + 1 * k.val) = k.val)

/-! ## What the body leaves, at an element -/

theorem out_at (r : Fin 512) (f : Fin 1024) :
    out0_7 (F := Ideal) (iblk m c 0 t) (iblk m c 1 t) (iblk m c 2 t) (iblk m c 3 t) (iblk m c 4 t) (iblk m c 5 t) (iblk m c 6 t) (ix2 r f)
      = readAt (a0 m c) (a1 m c) (a2 m c) (a3 m c) (a4 m c) (a5 m c) (a6 m c) (rowAt t ht r) f := by
  unfold out0_7 k0_pay14
  rw [View.canon_cons_unit_lit _ _ _ (by decide)]
  refine (tile_at _ _ _ _ _ _ _ r f).trans ?_
  unfold readAt
  exact readout_congr (fun k => congrArg₂ (fun p q : EReal => p + q) (blk0_at m c t ht r k) (blk1_at m c t ht r k)) (fun k => blk4_at m c t k)
    (fun k => blk2_at m c t ht r k) (fun k => blk3_at m c t ht r k) (fun k => blk6_at m c t ht r k) (fun k f => blk5_at m c t k f) f

end

/-! ## The output array after the run -/

section
variable (m : (ℓ : Loc nD τ sig) → Buf (Elt Ideal) ℓ) (c : Dev nD)

theorem N_32 : cfg0.N = 32 := rfl

/-- The reference's value for the output. -/
def want7 : S16384x1024.Idx → EReal := Cert.Reference3Ideal.Read.val_main_v33 (F := Ideal) (a0 m c) (a1 m c) (a2 m c) (a3 m c) (a4 m c) (a5 m c) (a6 m c)

theorem want7_at (t : Fin cfg0.N) (ht : t.val < 32) (r : Fin 512) (f : Fin 1024) :
    out0_7 (F := Ideal) (iblk m c 0 t) (iblk m c 1 t) (iblk m c 2 t) (iblk m c 3 t) (iblk m c 4 t) (iblk m c 5 t) (iblk m c 6 t) (ix2 r f) = want7 m c (ix2 (rowAt t ht r) f) :=
  (out_at m c t ht r f).trans (v33_at (a0 m c) (a1 m c) (a2 m c) (a3 m c) (a4 m c) (a5 m c) (a6 m c) (rowAt t ht r) f).symm

theorem cov7 : (cfg0.win 7).Covers := by
  refine (cfg0.win 7).covers_of_index_surj rfl (fun x => match x with | ⟨0, _⟩ => (by decide : 0 < 512) | ⟨1, _⟩ => (by decide : 0 < 1024)) fun β => ?_
  have n0 : (cfg0.win 7).nblk (0 : Fin 2) = 32 := by
    unfold Pipeline.Window.nblk
    exact (by decide : (16384 + 512 - 1) / 512 = 32)
  have n1 : (cfg0.win 7).nblk (1 : Fin 2) = 1 := by
    unfold Pipeline.Window.nblk
    exact (by decide : (1024 + 1024 - 1) / 1024 = 1)
  have b0 : (β (0 : Fin 2)).val < 32 := lt_of_lt_of_eq (β (0 : Fin 2)).isLt n0
  have b1 : (β (1 : Fin 2)).val < 1 := lt_of_lt_of_eq (β (1 : Fin 2)).isLt n1
  refine ⟨⟨(β (0 : Fin 2)).val, b0⟩, fun x => ?_⟩
  rw [show (cfg0.win 7).index _ = ![(β (0 : Fin 2)).val, 0] from idx7 ⟨(β (0 : Fin 2)).val, b0⟩]
  match x with
  | ⟨0, _⟩ => rfl
  | ⟨1, _⟩ => exact (by omega : 0 = (β (1 : Fin 2)).val)

theorem arr7_eq : (dats m 0 c).arrAt 7 cfg0.N = want7 m c := by
  refine (dats m 0 c).arrAt_eq_of_covers 7 _ cov7 fun t hf y => ?_
  have ht : t.val < 32 := lt_of_lt_of_eq t.isLt N_32
  blk_simp
  rw [after0_7]
  have hy : (y : S512x1024.Idx) = ix2 (y (0 : Fin 2) : Fin 512) (y (1 : Fin 2) : Fin 1024) :=
    funext fun x => match x with | ⟨0, _⟩ => rfl | ⟨1, _⟩ => rfl
  refine (congrArg (out0_7 (F := Ideal) (iblk m c 0 t) (iblk m c 1 t) (iblk m c 2 t) (iblk m c 3 t) (iblk m c 4 t) (iblk m c 5 t) (iblk m c 6 t)) hy).trans
    ((want7_at m c t ht (y (0 : Fin 2)) (y (1 : Fin 2))).trans ?_)
  refine congrArg (want7 m c) (funext fun x => Fin.ext ?_)
  refine Eq.trans ?_ (Pipeline.Window.rect_emb_val (cfg0.win 7) t y x).symm
  rw [show (cfg0.win 7).index t = ![t.val, 0] from idx7 t]
  match x with
  | ⟨0, _⟩ => rfl
  | ⟨1, _⟩ => exact (by omega : (y (1 : Fin 2)).val = 0 * 1024 + (y (1 : Fin 2)).val)

end

end Cert.Proof.Readout

end
-- ==== Proof.lean ====
/-
  The claims of the experts' layer: the two frames from one run, the reference's from its generated run.
  Then those of the mixer's projections and of its readout: the frames and the blocks of the generated run, and the arrays' values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Frames
public import proofs.«01_k».proof.Proof.Twin
public import proofs.«01_k».proof.Proof.OutArr
public import proofs.«01_k».proof.Proof.GatesArr
public import proofs.«01_k».proof.Proof.ReadoutArr
public import Idealize.ShloMosaic.Adequacy
public import Idealize.ShloMosaic.Init

@[expose] public section

noncomputable section

namespace Cert.Proof

open Idealize.ShloMosaic Idealize.SL.Sem Cert.Kernel

/-- The shape facts of the precondition. -/
theorem pre_facts : Cert.Pre_requires.Facts := ⟨by decide, by decide, by decide⟩

set_option maxHeartbeats 4000000 in
theorem frame_kernel : Cert.quiescent_Kernel (hKernel := Cert.Kernel.Gen.facts) (hPre_requires := pre_facts) := fun m g h => by
  rw [Twin.defs_eq, Twin.main_eq]
  exact (θ_run Cert.KernelIdeal.defs _ _).mono (fun _ h => ⟨fun c => (h.1 c).2, h.2⟩)
    (Experts.run_main (F := Bits) m (Experts.pre_words (hP := pre_facts) m h) g)

theorem frame_kernelIdeal : Cert.quiescent_KernelIdeal (hKernelIdeal := Cert.KernelIdeal.Gen.facts) (hPre_requires := pre_facts) := fun m g h =>
  (θ_run Cert.KernelIdeal.defs _ _).mono (fun _ h => ⟨fun c => (h.1 c).2, h.2⟩)
    (Experts.run_main (F := Ideal) m (Experts.pre_words (hP := pre_facts) m h) g)

theorem frame_reference : Cert.quiescent_ReferenceIdeal (hReferenceIdeal := Cert.ReferenceIdeal.Gen.facts) (hPre_requires := pre_facts) := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal (hKernelIdeal := Cert.KernelIdeal.Gen.facts) (hReferenceIdeal := Cert.ReferenceIdeal.Gen.facts)
    (hPre_requires := pre_facts) := fun m g m' g' h hag => by
  have hw := Experts.pre_words (F := Ideal) (hP := pre_facts) m h
  refine ⟨Experts.want m, ?_, ?_⟩
  · exact (θ_run Cert.KernelIdeal.defs _ _).mono (fun _ r d => ⟨(r.1 d).1.trans (Experts.out_eq m hw d), (r.1 d).2⟩) (Experts.run_main m hw g)
  · refine (θ_run Cert.ReferenceIdeal.defs _ _).mono (fun _ r d => ⟨(r d).1.trans ?_, (r d).2⟩) (Cert.ReferenceIdeal.Value.run (F := Ideal) m' g')
    refine (Cert.ReferenceIdeal.Read.val_main_v103_eq m' d).trans ?_
    have e := hag d
    rw [e.1, e.2.1, e.2.2.1, e.2.2.2.1, e.2.2.2.2.1, e.2.2.2.2.2]
    rfl

theorem frame_kernel2 : Cert.quiescent_Kernel2 (hKernel2 := Cert.Kernel2.Gen.facts) := fun m g _ =>
  Cert.Kernel2.Gen.frame (F := Bits) m g

theorem frame_kernel2Ideal : Cert.quiescent_Kernel2Ideal (hKernel2Ideal := Cert.Kernel2Ideal.Gen.facts) := fun m g _ =>
  Cert.Kernel2Ideal.Gen.frame (F := Ideal) m g

theorem frame_reference2 : Cert.quiescent_Reference2Ideal (hReference2Ideal := Cert.Reference2Ideal.Gen.facts) := fun m g _ =>
  (θ_run Cert.Reference2Ideal.defs _ _).mono (fun r h => ⟨fun c => (h c).2.2.2.2.2, sem_eq_zero_of_no_sems (by decide) r.2⟩)
    (Cert.Reference2Ideal.Value.run (F := Ideal) m g)

theorem value2 : Cert.algebraic_Kernel2Ideal_Reference2Ideal (hKernel2Ideal := Cert.Kernel2Ideal.Gen.facts)
    (hReference2Ideal := Cert.Reference2Ideal.Gen.facts) := fun m g m' g' _ hag => by
  refine ⟨Gates.want5 m, Gates.want6 m, Gates.want7 m, Gates.want8 m, Gates.want9 m, ?_, ?_⟩
  · exact (θ_run Cert.Kernel2Ideal.defs _ _).mono (fun _ r d =>
      ⟨(r d).1.trans (Gates.arr5_eq m d), (r d).2.1.trans (Gates.arr6_eq m d), (r d).2.2.1.trans (Gates.arr7_eq m d),
        (r d).2.2.2.1.trans (Gates.arr8_eq m d), (r d).2.2.2.2.1.trans (Gates.arr9_eq m d), (r d).2.2.2.2.2⟩)
      (Cert.Kernel2Ideal.Value.run_blocks (F := Ideal) m g)
  · refine (θ_run Cert.Reference2Ideal.defs _ _).mono (fun _ r d => ?_) (Cert.Reference2Ideal.Value.run (F := Ideal) m' g')
    have e := hag d
    refine ⟨(r d).1.trans ((Cert.Reference2Ideal.Read.val_main_v96_eq m' d).trans ?_),
      (r d).2.1.trans ((Cert.Reference2Ideal.Read.val_main_v98_eq m' d).trans ?_),
      (r d).2.2.1.trans ((Cert.Reference2Ideal.Read.val_main_v100_eq m' d).trans ?_),
      (r d).2.2.2.1.trans ((Cert.Reference2Ideal.Read.val_main_v102_eq _ _ _ _).trans ?_),
      (r d).2.2.2.2.1.trans ((Cert.Reference2Ideal.Read.val_main_v104_eq m' d).trans ?_), (r d).2.2.2.2.2⟩
    · rw [e.1, e.2.1, e.2.2.1, e.2.2.2.1]
      rfl
    · rw [e.1, e.2.1, e.2.2.1, e.2.2.2.1, e.2.2.2.2]
      rfl
    · rw [e.1, e.2.1, e.2.2.1, e.2.2.2.1, e.2.2.2.2]
      rfl
    · rw [e.1, e.2.1, e.2.2.1, e.2.2.2.1]
      rfl
    · rw [e.1, e.2.1, e.2.2.1, e.2.2.2.1]
      rfl

theorem frame_kernel3 : Cert.quiescent_Kernel3 (hKernel3 := Cert.Kernel3.Gen.facts) := fun m g _ =>
  Cert.Kernel3.Gen.frame (F := Bits) m g

theorem frame_kernel3Ideal : Cert.quiescent_Kernel3Ideal (hKernel3Ideal := Cert.Kernel3Ideal.Gen.facts) := fun m g _ =>
  Cert.Kernel3Ideal.Gen.frame (F := Ideal) m g

theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem value3 : Cert.algebraic_Kernel3Ideal_Reference3Ideal (hKernel3Ideal := Cert.Kernel3Ideal.Gen.facts)
    (hReference3Ideal := Cert.Reference3Ideal.Gen.facts) := fun m g m' g' _ hag => by
  refine ⟨Readout.want7 m, ?_, ?_⟩
  · exact (θ_run Cert.Kernel3Ideal.defs _ _).mono (fun _ r d => ⟨(r d).1.trans (Readout.arr7_eq m d), (r d).2⟩)
      (Cert.Kernel3Ideal.Value.run_blocks (F := Ideal) m g)
  · refine (θ_run Cert.Reference3Ideal.defs _ _).mono (fun _ r d => ?_) (Cert.Reference3Ideal.Value.run (F := Ideal) m' g')
    have e := hag d
    refine ⟨(r d).1.trans ((Cert.Reference3Ideal.Read.val_main_v33_eq _ _ _ _ _ _ _).trans ?_), (r d).2⟩
    rw [e.1, e.2.1, e.2.2.1, e.2.2.2.1, e.2.2.2.2.1, e.2.2.2.2.2.1, e.2.2.2.2.2.2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts,
  frame_kernel, frame_kernelIdeal, frame_reference, frame_kernel2, frame_kernel2Ideal, frame_reference2,
  frame_kernel3, frame_kernel3Ideal, frame_reference3, trivial, value, trivial, value2, trivial, value3⟩

end Cert.Proof

end
